-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_all_finite [hPre_all_finite : Cert.Pre_all_finite.Facts] (m : (ℓ : Loc Cert.FlashIdeal.nD Cert.FlashIdeal.τ Cert.FlashIdeal.sig) → Buf (Elt Ideal) ℓ) : Prop :=
  ∀ c : Dev Cert.FlashIdeal.nD,
    (Cert.Pre_all_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_all_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_all_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_all_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_all_finite [hPre_all_finite : Cert.Pre_all_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_all_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_all_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_all_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_all_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_EvenQkv (m : (ℓ : Loc Cert.EvenQkv.nD Cert.EvenQkv.τ Cert.EvenQkv.sig) → Buf (Elt Bits) ℓ) : Prop :=
  True

def Pre_EvenQkvIdeal (m : (ℓ : Loc Cert.EvenQkvIdeal.nD Cert.EvenQkvIdeal.τ Cert.EvenQkvIdeal.sig) → Buf (Elt Ideal) ℓ) : Prop :=
  True

def Pre_EvenQkvRefIdeal (m : (ℓ : Loc Cert.EvenQkvRefIdeal.nD Cert.EvenQkvRefIdeal.τ Cert.EvenQkvRefIdeal.sig) → Buf (Elt Ideal) ℓ) : Prop :=
  True

def Pre_EvenRest (m : (ℓ : Loc Cert.EvenRest.nD Cert.EvenRest.τ Cert.EvenRest.sig) → Buf (Elt Bits) ℓ) : Prop :=
  True

def Pre_EvenRestIdeal (m : (ℓ : Loc Cert.EvenRestIdeal.nD Cert.EvenRestIdeal.τ Cert.EvenRestIdeal.sig) → Buf (Elt Ideal) ℓ) : Prop :=
  True

def Pre_EvenRestRefIdeal (m : (ℓ : Loc Cert.EvenRestRefIdeal.nD Cert.EvenRestRefIdeal.τ Cert.EvenRestRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_EvenSmall (m : (ℓ : Loc Cert.EvenSmall.nD Cert.EvenSmall.τ Cert.EvenSmall.sig) → Buf (Elt Bits) ℓ) : Prop :=
  True

def Pre_EvenSmallIdeal (m : (ℓ : Loc Cert.EvenSmallIdeal.nD Cert.EvenSmallIdeal.τ Cert.EvenSmallIdeal.sig) → Buf (Elt Ideal) ℓ) : Prop :=
  True

def Pre_EvenSmallRefIdeal (m : (ℓ : Loc Cert.EvenSmallRefIdeal.nD Cert.EvenSmallRefIdeal.τ Cert.EvenSmallRefIdeal.sig) → Buf (Elt Ideal) ℓ) : Prop :=
  True

def Pre_MlaLatent (m : (ℓ : Loc Cert.MlaLatent.nD Cert.MlaLatent.τ Cert.MlaLatent.sig) → Buf (Elt Bits) ℓ) : Prop :=
  True

def Pre_MlaLatentIdeal (m : (ℓ : Loc Cert.MlaLatentIdeal.nD Cert.MlaLatentIdeal.τ Cert.MlaLatentIdeal.sig) → Buf (Elt Ideal) ℓ) : Prop :=
  True

def Pre_MlaLatentRefIdeal (m : (ℓ : Loc Cert.MlaLatentRefIdeal.nD Cert.MlaLatentRefIdeal.τ Cert.MlaLatentRefIdeal.sig) → Buf (Elt Ideal) ℓ) : Prop :=
  True

def Pre_MlaQuery (m : (ℓ : Loc Cert.MlaQuery.nD Cert.MlaQuery.τ Cert.MlaQuery.sig) → Buf (Elt Bits) ℓ) : Prop :=
  True

def Pre_MlaQueryIdeal (m : (ℓ : Loc Cert.MlaQueryIdeal.nD Cert.MlaQueryIdeal.τ Cert.MlaQueryIdeal.sig) → Buf (Elt Ideal) ℓ) : Prop :=
  True

def Pre_MlaQueryRefIdeal (m : (ℓ : Loc Cert.MlaQueryRefIdeal.nD Cert.MlaQueryRefIdeal.τ Cert.MlaQueryRefIdeal.sig) → Buf (Elt Ideal) ℓ) : Prop :=
  True

def Pre_MlaKeyVal (m : (ℓ : Loc Cert.MlaKeyVal.nD Cert.MlaKeyVal.τ Cert.MlaKeyVal.sig) → Buf (Elt Bits) ℓ) : Prop :=
  True

def Pre_MlaKeyValIdeal (m : (ℓ : Loc Cert.MlaKeyValIdeal.nD Cert.MlaKeyValIdeal.τ Cert.MlaKeyValIdeal.sig) → Buf (Elt Ideal) ℓ) : Prop :=
  True

def Pre_MlaKeyValRefIdeal (m : (ℓ : Loc Cert.MlaKeyValRefIdeal.nD Cert.MlaKeyValRefIdeal.τ Cert.MlaKeyValRefIdeal.sig) → Buf (Elt Ideal) ℓ) : Prop :=
  True

def Pre_GdnStep (m : (ℓ : Loc Cert.GdnStep.nD Cert.GdnStep.τ Cert.GdnStep.sig) → Buf (Elt Bits) ℓ) : Prop :=
  True

def Pre_GdnStepIdeal (m : (ℓ : Loc Cert.GdnStepIdeal.nD Cert.GdnStepIdeal.τ Cert.GdnStepIdeal.sig) → Buf (Elt Ideal) ℓ) : Prop :=
  True

def Pre_GdnStepRefIdeal (m : (ℓ : Loc Cert.GdnStepRefIdeal.nD Cert.GdnStepRefIdeal.τ Cert.GdnStepRefIdeal.sig) → Buf (Elt Ideal) ℓ) : Prop :=
  True

def Pre_MlstmStep (m : (ℓ : Loc Cert.MlstmStep.nD Cert.MlstmStep.τ Cert.MlstmStep.sig) → Buf (Elt Bits) ℓ) : Prop :=
  True

def Pre_MlstmStepIdeal (m : (ℓ : Loc Cert.MlstmStepIdeal.nD Cert.MlstmStepIdeal.τ Cert.MlstmStepIdeal.sig) → Buf (Elt Ideal) ℓ) : Prop :=
  True

def Pre_MlstmStepRefIdeal (m : (ℓ : Loc Cert.MlstmStepRefIdeal.nD Cert.MlstmStepRefIdeal.τ Cert.MlstmStepRefIdeal.sig) → Buf (Elt Ideal) ℓ) : Prop :=
  True

def Pre_AbsorbQ (m : (ℓ : Loc Cert.AbsorbQ.nD Cert.AbsorbQ.τ Cert.AbsorbQ.sig) → Buf (Elt Bits) ℓ) : Prop :=
  True

def Pre_AbsorbQIdeal (m : (ℓ : Loc Cert.AbsorbQIdeal.nD Cert.AbsorbQIdeal.τ Cert.AbsorbQIdeal.sig) → Buf (Elt Ideal) ℓ) : Prop :=
  True

def Pre_AbsorbQRefIdeal (m : (ℓ : Loc Cert.AbsorbQRefIdeal.nD Cert.AbsorbQRefIdeal.τ Cert.AbsorbQRefIdeal.sig) → Buf (Elt Ideal) ℓ) : Prop :=
  True

def Pre_AbsorbV (m : (ℓ : Loc Cert.AbsorbV.nD Cert.AbsorbV.τ Cert.AbsorbV.sig) → Buf (Elt Bits) ℓ) : Prop :=
  True

def Pre_AbsorbVIdeal (m : (ℓ : Loc Cert.AbsorbVIdeal.nD Cert.AbsorbVIdeal.τ Cert.AbsorbVIdeal.sig) → Buf (Elt Ideal) ℓ) : Prop :=
  True

def Pre_AbsorbVRefIdeal (m : (ℓ : Loc Cert.AbsorbVRefIdeal.nD Cert.AbsorbVRefIdeal.τ Cert.AbsorbVRefIdeal.sig) → Buf (Elt Ideal) ℓ) : Prop :=
  True

def Pre_Decode [hPre_pages_named : Cert.Pre_pages_named.Facts] (m : (ℓ : Loc Cert.Decode.nD Cert.Decode.τ Cert.Decode.sig) → Buf (Elt Bits) ℓ) : Prop :=
  ∀ c : Dev Cert.Decode.nD,
    (Cert.Pre_pages_named.fn (F := Bits) (m ((c.tc : Thread Cert.Decode.nD Cert.Decode.τ).loc Cert.Decode.main_arg0)) (m ((c.tc : Thread Cert.Decode.nD Cert.Decode.τ).loc Cert.Decode.main_arg1)) (m ((c.tc : Thread Cert.Decode.nD Cert.Decode.τ).loc Cert.Decode.main_arg2)) (m ((c.tc : Thread Cert.Decode.nD Cert.Decode.τ).loc Cert.Decode.main_arg3)) (m ((c.tc : Thread Cert.Decode.nD Cert.Decode.τ).loc Cert.Decode.main_arg4)) (m ((c.tc : Thread Cert.Decode.nD Cert.Decode.τ).loc Cert.Decode.main_arg5)) (m ((c.tc : Thread Cert.Decode.nD Cert.Decode.τ).loc Cert.Decode.main_arg6))) = (fun _ => 1#1)

def Pre_DecodeIdeal [hPre_pages_named : Cert.Pre_pages_named.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_pages_named.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6))) = (fun _ => 1#1)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_all_finite [hFlashIdeal : Cert.FlashIdeal.Facts] [hPre_all_finite : Cert.Pre_all_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_all_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_all_finite [hFlashRefIdeal : Cert.FlashRefIdeal.Facts] [hPre_all_finite : Cert.Pre_all_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_all_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_EvenQkv [hEvenQkv : Cert.EvenQkv.Facts] : Prop :=
  ∀ (m : (ℓ : Loc Cert.EvenQkv.nD Cert.EvenQkv.τ Cert.EvenQkv.sig) → Buf (Elt Bits) ℓ) (g : Dev Cert.EvenQkv.nD → PrngReg), Pre_EvenQkv m →
    θ_run (Cert.EvenQkv.defs (F := Bits)) (onTc (τ := Cert.EvenQkv.τ) (Cert.EvenQkv.main (F := Bits))) ⟨m, fun _ => 0, g⟩ (fun r => (∀ c : Dev Cert.EvenQkv.nD,
      r.2.mem ((c.tc : Thread Cert.EvenQkv.nD Cert.EvenQkv.τ).loc Cert.EvenQkv.main_arg0) = m ((c.tc : Thread Cert.EvenQkv.nD Cert.EvenQkv.τ).loc Cert.EvenQkv.main_arg0)
      ∧ r.2.mem ((c.tc : Thread Cert.EvenQkv.nD Cert.EvenQkv.τ).loc Cert.EvenQkv.main_arg1) = m ((c.tc : Thread Cert.EvenQkv.nD Cert.EvenQkv.τ).loc Cert.EvenQkv.main_arg1))
      ∧ r.2.sem = fun _ => 0)

def quiescent_EvenQkvIdeal [hEvenQkvIdeal : Cert.EvenQkvIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg), Pre_EvenQkvIdeal m →
    θ_run (Cert.EvenQkvIdeal.defs (F := Ideal)) (onTc (τ := Cert.EvenQkvIdeal.τ) (Cert.EvenQkvIdeal.main (F := Ideal))) ⟨m, fun _ => 0, g⟩ (fun r => (∀ c : Dev Cert.EvenQkvIdeal.nD,
      r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
      ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1))
      ∧ r.2.sem = fun _ => 0)

def quiescent_EvenQkvRefIdeal [hEvenQkvRefIdeal : Cert.EvenQkvRefIdeal.Facts] : Prop :=
  ∀ (m : (ℓ : Loc Cert.EvenQkvRefIdeal.nD Cert.EvenQkvRefIdeal.τ Cert.EvenQkvRefIdeal.sig) → Buf (Elt Ideal) ℓ) (g : Dev Cert.EvenQkvRefIdeal.nD → PrngReg), Pre_EvenQkvRefIdeal m →
    θ_run (Cert.EvenQkvRefIdeal.defs (F := Ideal)) (onTc (τ := Cert.EvenQkvRefIdeal.τ) (Cert.EvenQkvRefIdeal.main (F := Ideal))) ⟨m, fun _ => 0, g⟩ (fun r => (∀ c : Dev Cert.EvenQkvRefIdeal.nD,
      r.2.mem ((c.tc : Thread Cert.EvenQkvRefIdeal.nD Cert.EvenQkvRefIdeal.τ).loc Cert.EvenQkvRefIdeal.main_arg0) = m ((c.tc : Thread Cert.EvenQkvRefIdeal.nD Cert.EvenQkvRefIdeal.τ).loc Cert.EvenQkvRefIdeal.main_arg0)
      ∧ r.2.mem ((c.tc : Thread Cert.EvenQkvRefIdeal.nD Cert.EvenQkvRefIdeal.τ).loc Cert.EvenQkvRefIdeal.main_arg1) = m ((c.tc : Thread Cert.EvenQkvRefIdeal.nD Cert.EvenQkvRefIdeal.τ).loc Cert.EvenQkvRefIdeal.main_arg1))
      ∧ r.2.sem = fun _ => 0)

def quiescent_EvenRest [hEvenRest : Cert.EvenRest.Facts] : Prop :=
  ∀ (m : (ℓ : Loc Cert.EvenRest.nD Cert.EvenRest.τ Cert.EvenRest.sig) → Buf (Elt Bits) ℓ) (g : Dev Cert.EvenRest.nD → PrngReg), Pre_EvenRest m →
    θ_run (Cert.EvenRest.defs (F := Bits)) (onTc (τ := Cert.EvenRest.τ) (Cert.EvenRest.main (F := Bits))) ⟨m, fun _ => 0, g⟩ (fun r => (∀ c : Dev Cert.EvenRest.nD,
      r.2.mem ((c.tc : Thread Cert.EvenRest.nD Cert.EvenRest.τ).loc Cert.EvenRest.main_arg0) = m ((c.tc : Thread Cert.EvenRest.nD Cert.EvenRest.τ).loc Cert.EvenRest.main_arg0)
      ∧ r.2.mem ((c.tc : Thread Cert.EvenRest.nD Cert.EvenRest.τ).loc Cert.EvenRest.main_arg1) = m ((c.tc : Thread Cert.EvenRest.nD Cert.EvenRest.τ).loc Cert.EvenRest.main_arg1))
      ∧ r.2.sem = fun _ => 0)

def quiescent_EvenRestIdeal [hEvenRestIdeal : Cert.EvenRestIdeal.Facts] : Prop :=
  ∀ (m : (ℓ : Loc Cert.EvenRestIdeal.nD Cert.EvenRestIdeal.τ Cert.EvenRestIdeal.sig) → Buf (Elt Ideal) ℓ) (g : Dev Cert.EvenRestIdeal.nD → PrngReg), Pre_EvenRestIdeal m →
    θ_run (Cert.EvenRestIdeal.defs (F := Ideal)) (onTc (τ := Cert.EvenRestIdeal.τ) (Cert.EvenRestIdeal.main (F := Ideal))) ⟨m, fun _ => 0, g⟩ (fun r => (∀ c : Dev Cert.EvenRestIdeal.nD,
      r.2.mem ((c.tc : Thread Cert.EvenRestIdeal.nD Cert.EvenRestIdeal.τ).loc Cert.EvenRestIdeal.main_arg0) = m ((c.tc : Thread Cert.EvenRestIdeal.nD Cert.EvenRestIdeal.τ).loc Cert.EvenRestIdeal.main_arg0)
      ∧ r.2.mem ((c.tc : Thread Cert.EvenRestIdeal.nD Cert.EvenRestIdeal.τ).loc Cert.EvenRestIdeal.main_arg1) = m ((c.tc : Thread Cert.EvenRestIdeal.nD Cert.EvenRestIdeal.τ).loc Cert.EvenRestIdeal.main_arg1))
      ∧ r.2.sem = fun _ => 0)

def quiescent_EvenRestRefIdeal [hEvenRestRefIdeal : Cert.EvenRestRefIdeal.Facts] : Prop :=
  ∀ (m : (ℓ : Loc Cert.EvenRestRefIdeal.nD Cert.EvenRestRefIdeal.τ Cert.EvenRestRefIdeal.sig) → Buf (Elt Ideal) ℓ) (g : Dev Cert.EvenRestRefIdeal.nD → PrngReg), Pre_EvenRestRefIdeal m →
    θ_run (Cert.EvenRestRefIdeal.defs (F := Ideal)) (onTc (τ := Cert.EvenRestRefIdeal.τ) (Cert.EvenRestRefIdeal.main (F := Ideal))) ⟨m, fun _ => 0, g⟩ (fun r => (∀ c : Dev Cert.EvenRestRefIdeal.nD,
      r.2.mem ((c.tc : Thread Cert.EvenRestRefIdeal.nD Cert.EvenRestRefIdeal.τ).loc Cert.EvenRestRefIdeal.main_arg0) = m ((c.tc : Thread Cert.EvenRestRefIdeal.nD Cert.EvenRestRefIdeal.τ).loc Cert.EvenRestRefIdeal.main_arg0)
      ∧ r.2.mem ((c.tc : Thread Cert.EvenRestRefIdeal.nD Cert.EvenRestRefIdeal.τ).loc Cert.EvenRestRefIdeal.main_arg1) = m ((c.tc : Thread Cert.EvenRestRefIdeal.nD Cert.EvenRestRefIdeal.τ).loc Cert.EvenRestRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_EvenSmall [hEvenSmall : Cert.EvenSmall.Facts] : Prop :=
  ∀ (m : (ℓ : Loc Cert.EvenSmall.nD Cert.EvenSmall.τ Cert.EvenSmall.sig) → Buf (Elt Bits) ℓ) (g : Dev Cert.EvenSmall.nD → PrngReg), Pre_EvenSmall m →
    θ_run (Cert.EvenSmall.defs (F := Bits)) (onTc (τ := Cert.EvenSmall.τ) (Cert.EvenSmall.main (F := Bits))) ⟨m, fun _ => 0, g⟩ (fun r => (∀ c : Dev Cert.EvenSmall.nD,
      r.2.mem ((c.tc : Thread Cert.EvenSmall.nD Cert.EvenSmall.τ).loc Cert.EvenSmall.main_arg0) = m ((c.tc : Thread Cert.EvenSmall.nD Cert.EvenSmall.τ).loc Cert.EvenSmall.main_arg0)
      ∧ r.2.mem ((c.tc : Thread Cert.EvenSmall.nD Cert.EvenSmall.τ).loc Cert.EvenSmall.main_arg1) = m ((c.tc : Thread Cert.EvenSmall.nD Cert.EvenSmall.τ).loc Cert.EvenSmall.main_arg1))
      ∧ r.2.sem = fun _ => 0)

def quiescent_EvenSmallIdeal [hEvenSmallIdeal : Cert.EvenSmallIdeal.Facts] : Prop :=
  ∀ (m : (ℓ : Loc Cert.EvenSmallIdeal.nD Cert.EvenSmallIdeal.τ Cert.EvenSmallIdeal.sig) → Buf (Elt Ideal) ℓ) (g : Dev Cert.EvenSmallIdeal.nD → PrngReg), Pre_EvenSmallIdeal m →
    θ_run (Cert.EvenSmallIdeal.defs (F := Ideal)) (onTc (τ := Cert.EvenSmallIdeal.τ) (Cert.EvenSmallIdeal.main (F := Ideal))) ⟨m, fun _ => 0, g⟩ (fun r => (∀ c : Dev Cert.EvenSmallIdeal.nD,
      r.2.mem ((c.tc : Thread Cert.EvenSmallIdeal.nD Cert.EvenSmallIdeal.τ).loc Cert.EvenSmallIdeal.main_arg0) = m ((c.tc : Thread Cert.EvenSmallIdeal.nD Cert.EvenSmallIdeal.τ).loc Cert.EvenSmallIdeal.main_arg0)
      ∧ r.2.mem ((c.tc : Thread Cert.EvenSmallIdeal.nD Cert.EvenSmallIdeal.τ).loc Cert.EvenSmallIdeal.main_arg1) = m ((c.tc : Thread Cert.EvenSmallIdeal.nD Cert.EvenSmallIdeal.τ).loc Cert.EvenSmallIdeal.main_arg1))
      ∧ r.2.sem = fun _ => 0)

def quiescent_EvenSmallRefIdeal [hEvenSmallRefIdeal : Cert.EvenSmallRefIdeal.Facts] : Prop :=
  ∀ (m : (ℓ : Loc Cert.EvenSmallRefIdeal.nD Cert.EvenSmallRefIdeal.τ Cert.EvenSmallRefIdeal.sig) → Buf (Elt Ideal) ℓ) (g : Dev Cert.EvenSmallRefIdeal.nD → PrngReg), Pre_EvenSmallRefIdeal m →
    θ_run (Cert.EvenSmallRefIdeal.defs (F := Ideal)) (onTc (τ := Cert.EvenSmallRefIdeal.τ) (Cert.EvenSmallRefIdeal.main (F := Ideal))) ⟨m, fun _ => 0, g⟩ (fun r => (∀ c : Dev Cert.EvenSmallRefIdeal.nD,
      r.2.mem ((c.tc : Thread Cert.EvenSmallRefIdeal.nD Cert.EvenSmallRefIdeal.τ).loc Cert.EvenSmallRefIdeal.main_arg0) = m ((c.tc : Thread Cert.EvenSmallRefIdeal.nD Cert.EvenSmallRefIdeal.τ).loc Cert.EvenSmallRefIdeal.main_arg0)
      ∧ r.2.mem ((c.tc : Thread Cert.EvenSmallRefIdeal.nD Cert.EvenSmallRefIdeal.τ).loc Cert.EvenSmallRefIdeal.main_arg1) = m ((c.tc : Thread Cert.EvenSmallRefIdeal.nD Cert.EvenSmallRefIdeal.τ).loc Cert.EvenSmallRefIdeal.main_arg1))
      ∧ r.2.sem = fun _ => 0)

def quiescent_MlaLatent [hMlaLatent : Cert.MlaLatent.Facts] : Prop :=
  ∀ (m : (ℓ : Loc Cert.MlaLatent.nD Cert.MlaLatent.τ Cert.MlaLatent.sig) → Buf (Elt Bits) ℓ) (g : Dev Cert.MlaLatent.nD → PrngReg), Pre_MlaLatent m →
    θ_run (Cert.MlaLatent.defs (F := Bits)) (onTc (τ := Cert.MlaLatent.τ) (Cert.MlaLatent.main (F := Bits))) ⟨m, fun _ => 0, g⟩ (fun r => (∀ c : Dev Cert.MlaLatent.nD,
      r.2.mem ((c.tc : Thread Cert.MlaLatent.nD Cert.MlaLatent.τ).loc Cert.MlaLatent.main_arg0) = m ((c.tc : Thread Cert.MlaLatent.nD Cert.MlaLatent.τ).loc Cert.MlaLatent.main_arg0)
      ∧ r.2.mem ((c.tc : Thread Cert.MlaLatent.nD Cert.MlaLatent.τ).loc Cert.MlaLatent.main_arg1) = m ((c.tc : Thread Cert.MlaLatent.nD Cert.MlaLatent.τ).loc Cert.MlaLatent.main_arg1))
      ∧ r.2.sem = fun _ => 0)

def quiescent_MlaLatentIdeal [hMlaLatentIdeal : Cert.MlaLatentIdeal.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg), Pre_MlaLatentIdeal m →
    θ_run (Cert.MlaLatentIdeal.defs (F := Ideal)) (onTc (τ := Cert.MlaLatentIdeal.τ) (Cert.MlaLatentIdeal.main (F := Ideal))) ⟨m, fun _ => 0, g⟩ (fun r => (∀ c : Dev Cert.MlaLatentIdeal.nD,
      r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
      ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1))
      ∧ r.2.sem = fun _ => 0)

def quiescent_MlaLatentRefIdeal [hMlaLatentRefIdeal : Cert.MlaLatentRefIdeal.Facts] : Prop :=
  ∀ (m : (ℓ : Loc Cert.MlaLatentRefIdeal.nD Cert.MlaLatentRefIdeal.τ Cert.MlaLatentRefIdeal.sig) → Buf (Elt Ideal) ℓ) (g : Dev Cert.MlaLatentRefIdeal.nD → PrngReg), Pre_MlaLatentRefIdeal m →
    θ_run (Cert.MlaLatentRefIdeal.defs (F := Ideal)) (onTc (τ := Cert.MlaLatentRefIdeal.τ) (Cert.MlaLatentRefIdeal.main (F := Ideal))) ⟨m, fun _ => 0, g⟩ (fun r => (∀ c : Dev Cert.MlaLatentRefIdeal.nD,
      r.2.mem ((c.tc : Thread Cert.MlaLatentRefIdeal.nD Cert.MlaLatentRefIdeal.τ).loc Cert.MlaLatentRefIdeal.main_arg0) = m ((c.tc : Thread Cert.MlaLatentRefIdeal.nD Cert.MlaLatentRefIdeal.τ).loc Cert.MlaLatentRefIdeal.main_arg0)
      ∧ r.2.mem ((c.tc : Thread Cert.MlaLatentRefIdeal.nD Cert.MlaLatentRefIdeal.τ).loc Cert.MlaLatentRefIdeal.main_arg1) = m ((c.tc : Thread Cert.MlaLatentRefIdeal.nD Cert.MlaLatentRefIdeal.τ).loc Cert.MlaLatentRefIdeal.main_arg1))
      ∧ r.2.sem = fun _ => 0)

def quiescent_MlaQuery [hMlaQuery : Cert.MlaQuery.Facts] : Prop :=
  ∀ (m : (ℓ : Loc Cert.MlaQuery.nD Cert.MlaQuery.τ Cert.MlaQuery.sig) → Buf (Elt Bits) ℓ) (g : Dev Cert.MlaQuery.nD → PrngReg), Pre_MlaQuery m →
    θ_run (Cert.MlaQuery.defs (F := Bits)) (onTc (τ := Cert.MlaQuery.τ) (Cert.MlaQuery.main (F := Bits))) ⟨m, fun _ => 0, g⟩ (fun r => (∀ c : Dev Cert.MlaQuery.nD,
      r.2.mem ((c.tc : Thread Cert.MlaQuery.nD Cert.MlaQuery.τ).loc Cert.MlaQuery.main_arg0) = m ((c.tc : Thread Cert.MlaQuery.nD Cert.MlaQuery.τ).loc Cert.MlaQuery.main_arg0)
      ∧ r.2.mem ((c.tc : Thread Cert.MlaQuery.nD Cert.MlaQuery.τ).loc Cert.MlaQuery.main_arg1) = m ((c.tc : Thread Cert.MlaQuery.nD Cert.MlaQuery.τ).loc Cert.MlaQuery.main_arg1))
      ∧ r.2.sem = fun _ => 0)

def quiescent_MlaQueryIdeal [hMlaQueryIdeal : Cert.MlaQueryIdeal.Facts] : Prop :=
  ∀ (m : (ℓ : Loc Cert.MlaQueryIdeal.nD Cert.MlaQueryIdeal.τ Cert.MlaQueryIdeal.sig) → Buf (Elt Ideal) ℓ) (g : Dev Cert.MlaQueryIdeal.nD → PrngReg), Pre_MlaQueryIdeal m →
    θ_run (Cert.MlaQueryIdeal.defs (F := Ideal)) (onTc (τ := Cert.MlaQueryIdeal.τ) (Cert.MlaQueryIdeal.main (F := Ideal))) ⟨m, fun _ => 0, g⟩ (fun r => (∀ c : Dev Cert.MlaQueryIdeal.nD,
      r.2.mem ((c.tc : Thread Cert.MlaQueryIdeal.nD Cert.MlaQueryIdeal.τ).loc Cert.MlaQueryIdeal.main_arg0) = m ((c.tc : Thread Cert.MlaQueryIdeal.nD Cert.MlaQueryIdeal.τ).loc Cert.MlaQueryIdeal.main_arg0)
      ∧ r.2.mem ((c.tc : Thread Cert.MlaQueryIdeal.nD Cert.MlaQueryIdeal.τ).loc Cert.MlaQueryIdeal.main_arg1) = m ((c.tc : Thread Cert.MlaQueryIdeal.nD Cert.MlaQueryIdeal.τ).loc Cert.MlaQueryIdeal.main_arg1))
      ∧ r.2.sem = fun _ => 0)

def quiescent_MlaQueryRefIdeal [hMlaQueryRefIdeal : Cert.MlaQueryRefIdeal.Facts] : Prop :=
  ∀ (m : (ℓ : Loc Cert.MlaQueryRefIdeal.nD Cert.MlaQueryRefIdeal.τ Cert.MlaQueryRefIdeal.sig) → Buf (Elt Ideal) ℓ) (g : Dev Cert.MlaQueryRefIdeal.nD → PrngReg), Pre_MlaQueryRefIdeal m →
    θ_run (Cert.MlaQueryRefIdeal.defs (F := Ideal)) (onTc (τ := Cert.MlaQueryRefIdeal.τ) (Cert.MlaQueryRefIdeal.main (F := Ideal))) ⟨m, fun _ => 0, g⟩ (fun r => (∀ c : Dev Cert.MlaQueryRefIdeal.nD,
      r.2.mem ((c.tc : Thread Cert.MlaQueryRefIdeal.nD Cert.MlaQueryRefIdeal.τ).loc Cert.MlaQueryRefIdeal.main_arg0) = m ((c.tc : Thread Cert.MlaQueryRefIdeal.nD Cert.MlaQueryRefIdeal.τ).loc Cert.MlaQueryRefIdeal.main_arg0)
      ∧ r.2.mem ((c.tc : Thread Cert.MlaQueryRefIdeal.nD Cert.MlaQueryRefIdeal.τ).loc Cert.MlaQueryRefIdeal.main_arg1) = m ((c.tc : Thread Cert.MlaQueryRefIdeal.nD Cert.MlaQueryRefIdeal.τ).loc Cert.MlaQueryRefIdeal.main_arg1))
      ∧ r.2.sem = fun _ => 0)

def quiescent_MlaKeyVal [hMlaKeyVal : Cert.MlaKeyVal.Facts] : Prop :=
  ∀ (m : (ℓ : Loc Cert.MlaKeyVal.nD Cert.MlaKeyVal.τ Cert.MlaKeyVal.sig) → Buf (Elt Bits) ℓ) (g : Dev Cert.MlaKeyVal.nD → PrngReg), Pre_MlaKeyVal m →
    θ_run (Cert.MlaKeyVal.defs (F := Bits)) (onTc (τ := Cert.MlaKeyVal.τ) (Cert.MlaKeyVal.main (F := Bits))) ⟨m, fun _ => 0, g⟩ (fun r => (∀ c : Dev Cert.MlaKeyVal.nD,
      r.2.mem ((c.tc : Thread Cert.MlaKeyVal.nD Cert.MlaKeyVal.τ).loc Cert.MlaKeyVal.main_arg0) = m ((c.tc : Thread Cert.MlaKeyVal.nD Cert.MlaKeyVal.τ).loc Cert.MlaKeyVal.main_arg0)
      ∧ r.2.mem ((c.tc : Thread Cert.MlaKeyVal.nD Cert.MlaKeyVal.τ).loc Cert.MlaKeyVal.main_arg1) = m ((c.tc : Thread Cert.MlaKeyVal.nD Cert.MlaKeyVal.τ).loc Cert.MlaKeyVal.main_arg1))
      ∧ r.2.sem = fun _ => 0)

def quiescent_MlaKeyValIdeal [hMlaKeyValIdeal : Cert.MlaKeyValIdeal.Facts] : Prop :=
  ∀ (m : (ℓ : Loc Cert.MlaKeyValIdeal.nD Cert.MlaKeyValIdeal.τ Cert.MlaKeyValIdeal.sig) → Buf (Elt Ideal) ℓ) (g : Dev Cert.MlaKeyValIdeal.nD → PrngReg), Pre_MlaKeyValIdeal m →
    θ_run (Cert.MlaKeyValIdeal.defs (F := Ideal)) (onTc (τ := Cert.MlaKeyValIdeal.τ) (Cert.MlaKeyValIdeal.main (F := Ideal))) ⟨m, fun _ => 0, g⟩ (fun r => (∀ c : Dev Cert.MlaKeyValIdeal.nD,
      r.2.mem ((c.tc : Thread Cert.MlaKeyValIdeal.nD Cert.MlaKeyValIdeal.τ).loc Cert.MlaKeyValIdeal.main_arg0) = m ((c.tc : Thread Cert.MlaKeyValIdeal.nD Cert.MlaKeyValIdeal.τ).loc Cert.MlaKeyValIdeal.main_arg0)
      ∧ r.2.mem ((c.tc : Thread Cert.MlaKeyValIdeal.nD Cert.MlaKeyValIdeal.τ).loc Cert.MlaKeyValIdeal.main_arg1) = m ((c.tc : Thread Cert.MlaKeyValIdeal.nD Cert.MlaKeyValIdeal.τ).loc Cert.MlaKeyValIdeal.main_arg1))
      ∧ r.2.sem = fun _ => 0)

def quiescent_MlaKeyValRefIdeal [hMlaKeyValRefIdeal : Cert.MlaKeyValRefIdeal.Facts] : Prop :=
  ∀ (m : (ℓ : Loc Cert.MlaKeyValRefIdeal.nD Cert.MlaKeyValRefIdeal.τ Cert.MlaKeyValRefIdeal.sig) → Buf (Elt Ideal) ℓ) (g : Dev Cert.MlaKeyValRefIdeal.nD → PrngReg), Pre_MlaKeyValRefIdeal m →
    θ_run (Cert.MlaKeyValRefIdeal.defs (F := Ideal)) (onTc (τ := Cert.MlaKeyValRefIdeal.τ) (Cert.MlaKeyValRefIdeal.main (F := Ideal))) ⟨m, fun _ => 0, g⟩ (fun r => (∀ c : Dev Cert.MlaKeyValRefIdeal.nD,
      r.2.mem ((c.tc : Thread Cert.MlaKeyValRefIdeal.nD Cert.MlaKeyValRefIdeal.τ).loc Cert.MlaKeyValRefIdeal.main_arg0) = m ((c.tc : Thread Cert.MlaKeyValRefIdeal.nD Cert.MlaKeyValRefIdeal.τ).loc Cert.MlaKeyValRefIdeal.main_arg0)
      ∧ r.2.mem ((c.tc : Thread Cert.MlaKeyValRefIdeal.nD Cert.MlaKeyValRefIdeal.τ).loc Cert.MlaKeyValRefIdeal.main_arg1) = m ((c.tc : Thread Cert.MlaKeyValRefIdeal.nD Cert.MlaKeyValRefIdeal.τ).loc Cert.MlaKeyValRefIdeal.main_arg1))
      ∧ r.2.sem = fun _ => 0)

def quiescent_GdnStep [hGdnStep : Cert.GdnStep.Facts] : Prop :=
  ∀ (m : (ℓ : Loc Cert.GdnStep.nD Cert.GdnStep.τ Cert.GdnStep.sig) → Buf (Elt Bits) ℓ) (g : Dev Cert.GdnStep.nD → PrngReg), Pre_GdnStep m →
    θ_run (Cert.GdnStep.defs (F := Bits)) (onTc (τ := Cert.GdnStep.τ) (Cert.GdnStep.main (F := Bits))) ⟨m, fun _ => 0, g⟩ (fun r => (∀ c : Dev Cert.GdnStep.nD,
      r.2.mem ((c.tc : Thread Cert.GdnStep.nD Cert.GdnStep.τ).loc Cert.GdnStep.main_arg0) = m ((c.tc : Thread Cert.GdnStep.nD Cert.GdnStep.τ).loc Cert.GdnStep.main_arg0)
      ∧ r.2.mem ((c.tc : Thread Cert.GdnStep.nD Cert.GdnStep.τ).loc Cert.GdnStep.main_arg1) = m ((c.tc : Thread Cert.GdnStep.nD Cert.GdnStep.τ).loc Cert.GdnStep.main_arg1)
      ∧ r.2.mem ((c.tc : Thread Cert.GdnStep.nD Cert.GdnStep.τ).loc Cert.GdnStep.main_arg2) = m ((c.tc : Thread Cert.GdnStep.nD Cert.GdnStep.τ).loc Cert.GdnStep.main_arg2)
      ∧ r.2.mem ((c.tc : Thread Cert.GdnStep.nD Cert.GdnStep.τ).loc Cert.GdnStep.main_arg3) = m ((c.tc : Thread Cert.GdnStep.nD Cert.GdnStep.τ).loc Cert.GdnStep.main_arg3)
      ∧ r.2.mem ((c.tc : Thread Cert.GdnStep.nD Cert.GdnStep.τ).loc Cert.GdnStep.main_arg4) = m ((c.tc : Thread Cert.GdnStep.nD Cert.GdnStep.τ).loc Cert.GdnStep.main_arg4)
      ∧ r.2.mem ((c.tc : Thread Cert.GdnStep.nD Cert.GdnStep.τ).loc Cert.GdnStep.main_arg5) = m ((c.tc : Thread Cert.GdnStep.nD Cert.GdnStep.τ).loc Cert.GdnStep.main_arg5))
      ∧ r.2.sem = fun _ => 0)

def quiescent_GdnStepIdeal [hGdnStepIdeal : Cert.GdnStepIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
      ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5))
      ∧ r.2.sem = fun _ => 0)

def quiescent_GdnStepRefIdeal [hGdnStepRefIdeal : Cert.GdnStepRefIdeal.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4)
      ∧ r.2.mem ((c.tc : Thread Cert.GdnStepRefIdeal.nD Cert.GdnStepRefIdeal.τ).loc Cert.GdnStepRefIdeal.main_arg5) = m ((c.tc : Thread Cert.GdnStepRefIdeal.nD Cert.GdnStepRefIdeal.τ).loc Cert.GdnStepRefIdeal.main_arg5))
      ∧ r.2.sem = fun _ => 0)

def quiescent_MlstmStep [hMlstmStep : Cert.MlstmStep.Facts] : Prop :=
  ∀ (m : (ℓ : Loc Cert.MlstmStep.nD Cert.MlstmStep.τ Cert.MlstmStep.sig) → Buf (Elt Bits) ℓ) (g : Dev Cert.MlstmStep.nD → PrngReg), Pre_MlstmStep m →
    θ_run (Cert.MlstmStep.defs (F := Bits)) (onTc (τ := Cert.MlstmStep.τ) (Cert.MlstmStep.main (F := Bits))) ⟨m, fun _ => 0, g⟩ (fun r => (∀ c : Dev Cert.MlstmStep.nD,
      r.2.mem ((c.tc : Thread Cert.MlstmStep.nD Cert.MlstmStep.τ).loc Cert.MlstmStep.main_arg0) = m ((c.tc : Thread Cert.MlstmStep.nD Cert.MlstmStep.τ).loc Cert.MlstmStep.main_arg0)
      ∧ r.2.mem ((c.tc : Thread Cert.MlstmStep.nD Cert.MlstmStep.τ).loc Cert.MlstmStep.main_arg1) = m ((c.tc : Thread Cert.MlstmStep.nD Cert.MlstmStep.τ).loc Cert.MlstmStep.main_arg1)
      ∧ r.2.mem ((c.tc : Thread Cert.MlstmStep.nD Cert.MlstmStep.τ).loc Cert.MlstmStep.main_arg2) = m ((c.tc : Thread Cert.MlstmStep.nD Cert.MlstmStep.τ).loc Cert.MlstmStep.main_arg2)
      ∧ r.2.mem ((c.tc : Thread Cert.MlstmStep.nD Cert.MlstmStep.τ).loc Cert.MlstmStep.main_arg3) = m ((c.tc : Thread Cert.MlstmStep.nD Cert.MlstmStep.τ).loc Cert.MlstmStep.main_arg3)
      ∧ r.2.mem ((c.tc : Thread Cert.MlstmStep.nD Cert.MlstmStep.τ).loc Cert.MlstmStep.main_arg4) = m ((c.tc : Thread Cert.MlstmStep.nD Cert.MlstmStep.τ).loc Cert.MlstmStep.main_arg4)
      ∧ r.2.mem ((c.tc : Thread Cert.MlstmStep.nD Cert.MlstmStep.τ).loc Cert.MlstmStep.main_arg5) = m ((c.tc : Thread Cert.MlstmStep.nD Cert.MlstmStep.τ).loc Cert.MlstmStep.main_arg5)
      ∧ r.2.mem ((c.tc : Thread Cert.MlstmStep.nD Cert.MlstmStep.τ).loc Cert.MlstmStep.main_arg6) = m ((c.tc : Thread Cert.MlstmStep.nD Cert.MlstmStep.τ).loc Cert.MlstmStep.main_arg6)
      ∧ r.2.mem ((c.tc : Thread Cert.MlstmStep.nD Cert.MlstmStep.τ).loc Cert.MlstmStep.main_arg7) = m ((c.tc : Thread Cert.MlstmStep.nD Cert.MlstmStep.τ).loc Cert.MlstmStep.main_arg7))
      ∧ r.2.sem = fun _ => 0)

def quiescent_MlstmStepIdeal [hMlstmStepIdeal : Cert.MlstmStepIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg), Pre_MlstmStepIdeal m →
    θ_run (Cert.MlstmStepIdeal.defs (F := Ideal)) (onTc (τ := Cert.MlstmStepIdeal.τ) (Cert.MlstmStepIdeal.main (F := Ideal))) ⟨m, fun _ => 0, g⟩ (fun r => (∀ c : Dev Cert.MlstmStepIdeal.nD,
      r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
      ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
      ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
      ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
      ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
      ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
      ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
      ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ r.2.sem = fun _ => 0)

def quiescent_MlstmStepRefIdeal [hMlstmStepRefIdeal : Cert.MlstmStepRefIdeal.Facts] : Prop :=
  ∀ (m : (ℓ : Loc Cert.MlstmStepRefIdeal.nD Cert.MlstmStepRefIdeal.τ Cert.MlstmStepRefIdeal.sig) → Buf (Elt Ideal) ℓ) (g : Dev Cert.MlstmStepRefIdeal.nD → PrngReg), Pre_MlstmStepRefIdeal m →
    θ_run (Cert.MlstmStepRefIdeal.defs (F := Ideal)) (onTc (τ := Cert.MlstmStepRefIdeal.τ) (Cert.MlstmStepRefIdeal.main (F := Ideal))) ⟨m, fun _ => 0, g⟩ (fun r => (∀ c : Dev Cert.MlstmStepRefIdeal.nD,
      r.2.mem ((c.tc : Thread Cert.MlstmStepRefIdeal.nD Cert.MlstmStepRefIdeal.τ).loc Cert.MlstmStepRefIdeal.main_arg0) = m ((c.tc : Thread Cert.MlstmStepRefIdeal.nD Cert.MlstmStepRefIdeal.τ).loc Cert.MlstmStepRefIdeal.main_arg0)
      ∧ r.2.mem ((c.tc : Thread Cert.MlstmStepRefIdeal.nD Cert.MlstmStepRefIdeal.τ).loc Cert.MlstmStepRefIdeal.main_arg1) = m ((c.tc : Thread Cert.MlstmStepRefIdeal.nD Cert.MlstmStepRefIdeal.τ).loc Cert.MlstmStepRefIdeal.main_arg1)
      ∧ r.2.mem ((c.tc : Thread Cert.MlstmStepRefIdeal.nD Cert.MlstmStepRefIdeal.τ).loc Cert.MlstmStepRefIdeal.main_arg2) = m ((c.tc : Thread Cert.MlstmStepRefIdeal.nD Cert.MlstmStepRefIdeal.τ).loc Cert.MlstmStepRefIdeal.main_arg2)
      ∧ r.2.mem ((c.tc : Thread Cert.MlstmStepRefIdeal.nD Cert.MlstmStepRefIdeal.τ).loc Cert.MlstmStepRefIdeal.main_arg3) = m ((c.tc : Thread Cert.MlstmStepRefIdeal.nD Cert.MlstmStepRefIdeal.τ).loc Cert.MlstmStepRefIdeal.main_arg3)
      ∧ r.2.mem ((c.tc : Thread Cert.MlstmStepRefIdeal.nD Cert.MlstmStepRefIdeal.τ).loc Cert.MlstmStepRefIdeal.main_arg4) = m ((c.tc : Thread Cert.MlstmStepRefIdeal.nD Cert.MlstmStepRefIdeal.τ).loc Cert.MlstmStepRefIdeal.main_arg4)
      ∧ r.2.mem ((c.tc : Thread Cert.MlstmStepRefIdeal.nD Cert.MlstmStepRefIdeal.τ).loc Cert.MlstmStepRefIdeal.main_arg5) = m ((c.tc : Thread Cert.MlstmStepRefIdeal.nD Cert.MlstmStepRefIdeal.τ).loc Cert.MlstmStepRefIdeal.main_arg5)
      ∧ r.2.mem ((c.tc : Thread Cert.MlstmStepRefIdeal.nD Cert.MlstmStepRefIdeal.τ).loc Cert.MlstmStepRefIdeal.main_arg6) = m ((c.tc : Thread Cert.MlstmStepRefIdeal.nD Cert.MlstmStepRefIdeal.τ).loc Cert.MlstmStepRefIdeal.main_arg6)
      ∧ r.2.mem ((c.tc : Thread Cert.MlstmStepRefIdeal.nD Cert.MlstmStepRefIdeal.τ).loc Cert.MlstmStepRefIdeal.main_arg7) = m ((c.tc : Thread Cert.MlstmStepRefIdeal.nD Cert.MlstmStepRefIdeal.τ).loc Cert.MlstmStepRefIdeal.main_arg7))
      ∧ r.2.sem = fun _ => 0)

def quiescent_AbsorbQ [hAbsorbQ : Cert.AbsorbQ.Facts] : Prop :=
  ∀ (m : (ℓ : Loc Cert.AbsorbQ.nD Cert.AbsorbQ.τ Cert.AbsorbQ.sig) → Buf (Elt Bits) ℓ) (g : Dev Cert.AbsorbQ.nD → PrngReg), Pre_AbsorbQ m →
    θ_run (Cert.AbsorbQ.defs (F := Bits)) (onTc (τ := Cert.AbsorbQ.τ) (Cert.AbsorbQ.main (F := Bits))) ⟨m, fun _ => 0, g⟩ (fun r => (∀ c : Dev Cert.AbsorbQ.nD,
      r.2.mem ((c.tc : Thread Cert.AbsorbQ.nD Cert.AbsorbQ.τ).loc Cert.AbsorbQ.main_arg0) = m ((c.tc : Thread Cert.AbsorbQ.nD Cert.AbsorbQ.τ).loc Cert.AbsorbQ.main_arg0)
      ∧ r.2.mem ((c.tc : Thread Cert.AbsorbQ.nD Cert.AbsorbQ.τ).loc Cert.AbsorbQ.main_arg1) = m ((c.tc : Thread Cert.AbsorbQ.nD Cert.AbsorbQ.τ).loc Cert.AbsorbQ.main_arg1))
      ∧ r.2.sem = fun _ => 0)

def quiescent_AbsorbQIdeal [hAbsorbQIdeal : Cert.AbsorbQIdeal.Facts] : Prop :=
  ∀ (m : (ℓ : Loc Cert.AbsorbQIdeal.nD Cert.AbsorbQIdeal.τ Cert.AbsorbQIdeal.sig) → Buf (Elt Ideal) ℓ) (g : Dev Cert.AbsorbQIdeal.nD → PrngReg), Pre_AbsorbQIdeal m →
    θ_run (Cert.AbsorbQIdeal.defs (F := Ideal)) (onTc (τ := Cert.AbsorbQIdeal.τ) (Cert.AbsorbQIdeal.main (F := Ideal))) ⟨m, fun _ => 0, g⟩ (fun r => (∀ c : Dev Cert.AbsorbQIdeal.nD,
      r.2.mem ((c.tc : Thread Cert.AbsorbQIdeal.nD Cert.AbsorbQIdeal.τ).loc Cert.AbsorbQIdeal.main_arg0) = m ((c.tc : Thread Cert.AbsorbQIdeal.nD Cert.AbsorbQIdeal.τ).loc Cert.AbsorbQIdeal.main_arg0)
      ∧ r.2.mem ((c.tc : Thread Cert.AbsorbQIdeal.nD Cert.AbsorbQIdeal.τ).loc Cert.AbsorbQIdeal.main_arg1) = m ((c.tc : Thread Cert.AbsorbQIdeal.nD Cert.AbsorbQIdeal.τ).loc Cert.AbsorbQIdeal.main_arg1))
      ∧ r.2.sem = fun _ => 0)

def quiescent_AbsorbQRefIdeal [hAbsorbQRefIdeal : Cert.AbsorbQRefIdeal.Facts] : Prop :=
  ∀ (m : (ℓ : Loc Cert.AbsorbQRefIdeal.nD Cert.AbsorbQRefIdeal.τ Cert.AbsorbQRefIdeal.sig) → Buf (Elt Ideal) ℓ) (g : Dev Cert.AbsorbQRefIdeal.nD → PrngReg), Pre_AbsorbQRefIdeal m →
    θ_run (Cert.AbsorbQRefIdeal.defs (F := Ideal)) (onTc (τ := Cert.AbsorbQRefIdeal.τ) (Cert.AbsorbQRefIdeal.main (F := Ideal))) ⟨m, fun _ => 0, g⟩ (fun r => (∀ c : Dev Cert.AbsorbQRefIdeal.nD,
      r.2.mem ((c.tc : Thread Cert.AbsorbQRefIdeal.nD Cert.AbsorbQRefIdeal.τ).loc Cert.AbsorbQRefIdeal.main_arg0) = m ((c.tc : Thread Cert.AbsorbQRefIdeal.nD Cert.AbsorbQRefIdeal.τ).loc Cert.AbsorbQRefIdeal.main_arg0)
      ∧ r.2.mem ((c.tc : Thread Cert.AbsorbQRefIdeal.nD Cert.AbsorbQRefIdeal.τ).loc Cert.AbsorbQRefIdeal.main_arg1) = m ((c.tc : Thread Cert.AbsorbQRefIdeal.nD Cert.AbsorbQRefIdeal.τ).loc Cert.AbsorbQRefIdeal.main_arg1))
      ∧ r.2.sem = fun _ => 0)

def quiescent_AbsorbV [hAbsorbV : Cert.AbsorbV.Facts] : Prop :=
  ∀ (m : (ℓ : Loc Cert.AbsorbV.nD Cert.AbsorbV.τ Cert.AbsorbV.sig) → Buf (Elt Bits) ℓ) (g : Dev Cert.AbsorbV.nD → PrngReg), Pre_AbsorbV m →
    θ_run (Cert.AbsorbV.defs (F := Bits)) (onTc (τ := Cert.AbsorbV.τ) (Cert.AbsorbV.main (F := Bits))) ⟨m, fun _ => 0, g⟩ (fun r => (∀ c : Dev Cert.AbsorbV.nD,
      r.2.mem ((c.tc : Thread Cert.AbsorbV.nD Cert.AbsorbV.τ).loc Cert.AbsorbV.main_arg0) = m ((c.tc : Thread Cert.AbsorbV.nD Cert.AbsorbV.τ).loc Cert.AbsorbV.main_arg0)
      ∧ r.2.mem ((c.tc : Thread Cert.AbsorbV.nD Cert.AbsorbV.τ).loc Cert.AbsorbV.main_arg1) = m ((c.tc : Thread Cert.AbsorbV.nD Cert.AbsorbV.τ).loc Cert.AbsorbV.main_arg1))
      ∧ r.2.sem = fun _ => 0)

def quiescent_AbsorbVIdeal [hAbsorbVIdeal : Cert.AbsorbVIdeal.Facts] : Prop :=
  ∀ (m : (ℓ : Loc Cert.AbsorbVIdeal.nD Cert.AbsorbVIdeal.τ Cert.AbsorbVIdeal.sig) → Buf (Elt Ideal) ℓ) (g : Dev Cert.AbsorbVIdeal.nD → PrngReg), Pre_AbsorbVIdeal m →
    θ_run (Cert.AbsorbVIdeal.defs (F := Ideal)) (onTc (τ := Cert.AbsorbVIdeal.τ) (Cert.AbsorbVIdeal.main (F := Ideal))) ⟨m, fun _ => 0, g⟩ (fun r => (∀ c : Dev Cert.AbsorbVIdeal.nD,
      r.2.mem ((c.tc : Thread Cert.AbsorbVIdeal.nD Cert.AbsorbVIdeal.τ).loc Cert.AbsorbVIdeal.main_arg0) = m ((c.tc : Thread Cert.AbsorbVIdeal.nD Cert.AbsorbVIdeal.τ).loc Cert.AbsorbVIdeal.main_arg0)
      ∧ r.2.mem ((c.tc : Thread Cert.AbsorbVIdeal.nD Cert.AbsorbVIdeal.τ).loc Cert.AbsorbVIdeal.main_arg1) = m ((c.tc : Thread Cert.AbsorbVIdeal.nD Cert.AbsorbVIdeal.τ).loc Cert.AbsorbVIdeal.main_arg1))
      ∧ r.2.sem = fun _ => 0)

def quiescent_AbsorbVRefIdeal [hAbsorbVRefIdeal : Cert.AbsorbVRefIdeal.Facts] : Prop :=
  ∀ (m : (ℓ : Loc Cert.AbsorbVRefIdeal.nD Cert.AbsorbVRefIdeal.τ Cert.AbsorbVRefIdeal.sig) → Buf (Elt Ideal) ℓ) (g : Dev Cert.AbsorbVRefIdeal.nD → PrngReg), Pre_AbsorbVRefIdeal m →
    θ_run (Cert.AbsorbVRefIdeal.defs (F := Ideal)) (onTc (τ := Cert.AbsorbVRefIdeal.τ) (Cert.AbsorbVRefIdeal.main (F := Ideal))) ⟨m, fun _ => 0, g⟩ (fun r => (∀ c : Dev Cert.AbsorbVRefIdeal.nD,
      r.2.mem ((c.tc : Thread Cert.AbsorbVRefIdeal.nD Cert.AbsorbVRefIdeal.τ).loc Cert.AbsorbVRefIdeal.main_arg0) = m ((c.tc : Thread Cert.AbsorbVRefIdeal.nD Cert.AbsorbVRefIdeal.τ).loc Cert.AbsorbVRefIdeal.main_arg0)
      ∧ r.2.mem ((c.tc : Thread Cert.AbsorbVRefIdeal.nD Cert.AbsorbVRefIdeal.τ).loc Cert.AbsorbVRefIdeal.main_arg1) = m ((c.tc : Thread Cert.AbsorbVRefIdeal.nD Cert.AbsorbVRefIdeal.τ).loc Cert.AbsorbVRefIdeal.main_arg1))
      ∧ r.2.sem = fun _ => 0)

def quiescent_Decode [hDecode : Cert.Decode.Facts] [hPre_pages_named : Cert.Pre_pages_named.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6))
      ∧ r.2.sem = fun _ => 0)

def quiescent_DecodeIdeal [hDecodeIdeal : Cert.DecodeIdeal.Facts] [hPre_pages_named : Cert.Pre_pages_named.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ r.2.sem = fun _ => 0)

def preserves_Flash_FlashIdeal : Prop :=
  True

def algebraic_FlashIdeal_FlashRefIdeal_pre_all_finite [hFlashIdeal : Cert.FlashIdeal.Facts] [hFlashRefIdeal : Cert.FlashRefIdeal.Facts] [hPre_all_finite : Cert.Pre_all_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_all_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v32) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_EvenQkv_EvenQkvIdeal : Prop :=
  True

def algebraic_EvenQkvIdeal_EvenQkvRefIdeal [hEvenQkvIdeal : Cert.EvenQkvIdeal.Facts] [hEvenQkvRefIdeal : Cert.EvenQkvRefIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg)
    (m' : (ℓ : Loc Cert.EvenQkvRefIdeal.nD Cert.EvenQkvRefIdeal.τ Cert.EvenQkvRefIdeal.sig) → Buf (Elt Ideal) ℓ) (g' : Dev Cert.EvenQkvRefIdeal.nD → PrngReg), Pre_EvenQkvIdeal m →
    (∀ c : Dev Cert.EvenQkvIdeal.nD,
      m' ((c.tc : Thread Cert.EvenQkvRefIdeal.nD Cert.EvenQkvRefIdeal.τ).loc Cert.EvenQkvRefIdeal.main_arg0) = m ((c.tc : Thread Cert.EvenQkvIdeal.nD Cert.EvenQkvIdeal.τ).loc Cert.EvenQkvIdeal.main_arg0)
      ∧ m' ((c.tc : Thread Cert.EvenQkvRefIdeal.nD Cert.EvenQkvRefIdeal.τ).loc Cert.EvenQkvRefIdeal.main_arg1) = m ((c.tc : Thread Cert.EvenQkvIdeal.nD Cert.EvenQkvIdeal.τ).loc Cert.EvenQkvIdeal.main_arg1)) →
    ∃ (v0 : (c : Dev Cert.EvenQkvIdeal.nD) → Buf (Elt Ideal) ((c.tc : Thread Cert.EvenQkvIdeal.nD Cert.EvenQkvIdeal.τ).loc Cert.EvenQkvIdeal.main_v0)),
      θ_run (Cert.EvenQkvIdeal.defs (F := Ideal)) (onTc (τ := Cert.EvenQkvIdeal.τ) (Cert.EvenQkvIdeal.main (F := Ideal))) ⟨m, fun _ => 0, g⟩ (fun r => ∀ c : Dev Cert.EvenQkvIdeal.nD,
          r.2.mem ((c.tc : Thread Cert.EvenQkvIdeal.nD Cert.EvenQkvIdeal.τ).loc Cert.EvenQkvIdeal.main_v0) = v0 c
          ∧ r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
          ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1))
      ∧ θ_run (Cert.EvenQkvRefIdeal.defs (F := Ideal)) (onTc (τ := Cert.EvenQkvRefIdeal.τ) (Cert.EvenQkvRefIdeal.main (F := Ideal))) ⟨m', fun _ => 0, g'⟩ (fun r => ∀ c : Dev Cert.EvenQkvRefIdeal.nD,
          r.2.mem ((c.tc : Thread Cert.EvenQkvRefIdeal.nD Cert.EvenQkvRefIdeal.τ).loc Cert.EvenQkvRefIdeal.main_v4) = v0 c
          ∧ r.2.mem ((c.tc : Thread Cert.EvenQkvRefIdeal.nD Cert.EvenQkvRefIdeal.τ).loc Cert.EvenQkvRefIdeal.main_arg0) = m' ((c.tc : Thread Cert.EvenQkvRefIdeal.nD Cert.EvenQkvRefIdeal.τ).loc Cert.EvenQkvRefIdeal.main_arg0)
          ∧ r.2.mem ((c.tc : Thread Cert.EvenQkvRefIdeal.nD Cert.EvenQkvRefIdeal.τ).loc Cert.EvenQkvRefIdeal.main_arg1) = m' ((c.tc : Thread Cert.EvenQkvRefIdeal.nD Cert.EvenQkvRefIdeal.τ).loc Cert.EvenQkvRefIdeal.main_arg1))

def preserves_EvenRest_EvenRestIdeal : Prop :=
  True

def algebraic_EvenRestIdeal_EvenRestRefIdeal [hEvenRestIdeal : Cert.EvenRestIdeal.Facts] [hEvenRestRefIdeal : Cert.EvenRestRefIdeal.Facts] : Prop :=
  ∀ (m : (ℓ : Loc Cert.EvenRestIdeal.nD Cert.EvenRestIdeal.τ Cert.EvenRestIdeal.sig) → Buf (Elt Ideal) ℓ) (g : Dev Cert.EvenRestIdeal.nD → PrngReg)
    (m' : (ℓ : Loc Cert.EvenRestRefIdeal.nD Cert.EvenRestRefIdeal.τ Cert.EvenRestRefIdeal.sig) → Buf (Elt Ideal) ℓ) (g' : Dev Cert.EvenRestRefIdeal.nD → PrngReg), Pre_EvenRestIdeal m →
    (∀ c : Dev Cert.EvenRestIdeal.nD,
      m' ((c.tc : Thread Cert.EvenRestRefIdeal.nD Cert.EvenRestRefIdeal.τ).loc Cert.EvenRestRefIdeal.main_arg0) = m ((c.tc : Thread Cert.EvenRestIdeal.nD Cert.EvenRestIdeal.τ).loc Cert.EvenRestIdeal.main_arg0)
      ∧ m' ((c.tc : Thread Cert.EvenRestRefIdeal.nD Cert.EvenRestRefIdeal.τ).loc Cert.EvenRestRefIdeal.main_arg1) = m ((c.tc : Thread Cert.EvenRestIdeal.nD Cert.EvenRestIdeal.τ).loc Cert.EvenRestIdeal.main_arg1)) →
    ∃ (v0 : (c : Dev Cert.EvenRestIdeal.nD) → Buf (Elt Ideal) ((c.tc : Thread Cert.EvenRestIdeal.nD Cert.EvenRestIdeal.τ).loc Cert.EvenRestIdeal.main_v6)),
      θ_run (Cert.EvenRestIdeal.defs (F := Ideal)) (onTc (τ := Cert.EvenRestIdeal.τ) (Cert.EvenRestIdeal.main (F := Ideal))) ⟨m, fun _ => 0, g⟩ (fun r => ∀ c : Dev Cert.EvenRestIdeal.nD,
          r.2.mem ((c.tc : Thread Cert.EvenRestIdeal.nD Cert.EvenRestIdeal.τ).loc Cert.EvenRestIdeal.main_v6) = v0 c
          ∧ r.2.mem ((c.tc : Thread Cert.EvenRestIdeal.nD Cert.EvenRestIdeal.τ).loc Cert.EvenRestIdeal.main_arg0) = m ((c.tc : Thread Cert.EvenRestIdeal.nD Cert.EvenRestIdeal.τ).loc Cert.EvenRestIdeal.main_arg0)
          ∧ r.2.mem ((c.tc : Thread Cert.EvenRestIdeal.nD Cert.EvenRestIdeal.τ).loc Cert.EvenRestIdeal.main_arg1) = m ((c.tc : Thread Cert.EvenRestIdeal.nD Cert.EvenRestIdeal.τ).loc Cert.EvenRestIdeal.main_arg1))
      ∧ θ_run (Cert.EvenRestRefIdeal.defs (F := Ideal)) (onTc (τ := Cert.EvenRestRefIdeal.τ) (Cert.EvenRestRefIdeal.main (F := Ideal))) ⟨m', fun _ => 0, g'⟩ (fun r => ∀ c : Dev Cert.EvenRestRefIdeal.nD,
          r.2.mem ((c.tc : Thread Cert.EvenRestRefIdeal.nD Cert.EvenRestRefIdeal.τ).loc Cert.EvenRestRefIdeal.main_v6) = v0 c
          ∧ r.2.mem ((c.tc : Thread Cert.EvenRestRefIdeal.nD Cert.EvenRestRefIdeal.τ).loc Cert.EvenRestRefIdeal.main_arg0) = m' ((c.tc : Thread Cert.EvenRestRefIdeal.nD Cert.EvenRestRefIdeal.τ).loc Cert.EvenRestRefIdeal.main_arg0)
          ∧ r.2.mem ((c.tc : Thread Cert.EvenRestRefIdeal.nD Cert.EvenRestRefIdeal.τ).loc Cert.EvenRestRefIdeal.main_arg1) = m' ((c.tc : Thread Cert.EvenRestRefIdeal.nD Cert.EvenRestRefIdeal.τ).loc Cert.EvenRestRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_EvenSmall_EvenSmallIdeal : Prop :=
  True

def algebraic_EvenSmallIdeal_EvenSmallRefIdeal [hEvenSmallIdeal : Cert.EvenSmallIdeal.Facts] [hEvenSmallRefIdeal : Cert.EvenSmallRefIdeal.Facts] : Prop :=
  ∀ (m : (ℓ : Loc Cert.EvenSmallIdeal.nD Cert.EvenSmallIdeal.τ Cert.EvenSmallIdeal.sig) → Buf (Elt Ideal) ℓ) (g : Dev Cert.EvenSmallIdeal.nD → PrngReg)
    (m' : (ℓ : Loc Cert.EvenSmallRefIdeal.nD Cert.EvenSmallRefIdeal.τ Cert.EvenSmallRefIdeal.sig) → Buf (Elt Ideal) ℓ) (g' : Dev Cert.EvenSmallRefIdeal.nD → PrngReg), Pre_EvenSmallIdeal m →
    (∀ c : Dev Cert.EvenSmallIdeal.nD,
      m' ((c.tc : Thread Cert.EvenSmallRefIdeal.nD Cert.EvenSmallRefIdeal.τ).loc Cert.EvenSmallRefIdeal.main_arg0) = m ((c.tc : Thread Cert.EvenSmallIdeal.nD Cert.EvenSmallIdeal.τ).loc Cert.EvenSmallIdeal.main_arg0)
      ∧ m' ((c.tc : Thread Cert.EvenSmallRefIdeal.nD Cert.EvenSmallRefIdeal.τ).loc Cert.EvenSmallRefIdeal.main_arg1) = m ((c.tc : Thread Cert.EvenSmallIdeal.nD Cert.EvenSmallIdeal.τ).loc Cert.EvenSmallIdeal.main_arg1)) →
    ∃ (v0 : (c : Dev Cert.EvenSmallIdeal.nD) → Buf (Elt Ideal) ((c.tc : Thread Cert.EvenSmallIdeal.nD Cert.EvenSmallIdeal.τ).loc Cert.EvenSmallIdeal.main_v7)),
      θ_run (Cert.EvenSmallIdeal.defs (F := Ideal)) (onTc (τ := Cert.EvenSmallIdeal.τ) (Cert.EvenSmallIdeal.main (F := Ideal))) ⟨m, fun _ => 0, g⟩ (fun r => ∀ c : Dev Cert.EvenSmallIdeal.nD,
          r.2.mem ((c.tc : Thread Cert.EvenSmallIdeal.nD Cert.EvenSmallIdeal.τ).loc Cert.EvenSmallIdeal.main_v7) = v0 c
          ∧ r.2.mem ((c.tc : Thread Cert.EvenSmallIdeal.nD Cert.EvenSmallIdeal.τ).loc Cert.EvenSmallIdeal.main_arg0) = m ((c.tc : Thread Cert.EvenSmallIdeal.nD Cert.EvenSmallIdeal.τ).loc Cert.EvenSmallIdeal.main_arg0)
          ∧ r.2.mem ((c.tc : Thread Cert.EvenSmallIdeal.nD Cert.EvenSmallIdeal.τ).loc Cert.EvenSmallIdeal.main_arg1) = m ((c.tc : Thread Cert.EvenSmallIdeal.nD Cert.EvenSmallIdeal.τ).loc Cert.EvenSmallIdeal.main_arg1))
      ∧ θ_run (Cert.EvenSmallRefIdeal.defs (F := Ideal)) (onTc (τ := Cert.EvenSmallRefIdeal.τ) (Cert.EvenSmallRefIdeal.main (F := Ideal))) ⟨m', fun _ => 0, g'⟩ (fun r => ∀ c : Dev Cert.EvenSmallRefIdeal.nD,
          r.2.mem ((c.tc : Thread Cert.EvenSmallRefIdeal.nD Cert.EvenSmallRefIdeal.τ).loc Cert.EvenSmallRefIdeal.main_v7) = v0 c
          ∧ r.2.mem ((c.tc : Thread Cert.EvenSmallRefIdeal.nD Cert.EvenSmallRefIdeal.τ).loc Cert.EvenSmallRefIdeal.main_arg0) = m' ((c.tc : Thread Cert.EvenSmallRefIdeal.nD Cert.EvenSmallRefIdeal.τ).loc Cert.EvenSmallRefIdeal.main_arg0)
          ∧ r.2.mem ((c.tc : Thread Cert.EvenSmallRefIdeal.nD Cert.EvenSmallRefIdeal.τ).loc Cert.EvenSmallRefIdeal.main_arg1) = m' ((c.tc : Thread Cert.EvenSmallRefIdeal.nD Cert.EvenSmallRefIdeal.τ).loc Cert.EvenSmallRefIdeal.main_arg1))

def preserves_MlaLatent_MlaLatentIdeal : Prop :=
  True

def algebraic_MlaLatentIdeal_MlaLatentRefIdeal [hMlaLatentIdeal : Cert.MlaLatentIdeal.Facts] [hMlaLatentRefIdeal : Cert.MlaLatentRefIdeal.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg)
    (m' : (ℓ : Loc Cert.MlaLatentRefIdeal.nD Cert.MlaLatentRefIdeal.τ Cert.MlaLatentRefIdeal.sig) → Buf (Elt Ideal) ℓ) (g' : Dev Cert.MlaLatentRefIdeal.nD → PrngReg), Pre_MlaLatentIdeal m →
    (∀ c : Dev Cert.MlaLatentIdeal.nD,
      m' ((c.tc : Thread Cert.MlaLatentRefIdeal.nD Cert.MlaLatentRefIdeal.τ).loc Cert.MlaLatentRefIdeal.main_arg0) = m ((c.tc : Thread Cert.MlaLatentIdeal.nD Cert.MlaLatentIdeal.τ).loc Cert.MlaLatentIdeal.main_arg0)
      ∧ m' ((c.tc : Thread Cert.MlaLatentRefIdeal.nD Cert.MlaLatentRefIdeal.τ).loc Cert.MlaLatentRefIdeal.main_arg1) = m ((c.tc : Thread Cert.MlaLatentIdeal.nD Cert.MlaLatentIdeal.τ).loc Cert.MlaLatentIdeal.main_arg1)) →
    ∃ (v0 : (c : Dev Cert.MlaLatentIdeal.nD) → Buf (Elt Ideal) ((c.tc : Thread Cert.MlaLatentIdeal.nD Cert.MlaLatentIdeal.τ).loc Cert.MlaLatentIdeal.main_v4)),
      θ_run (Cert.MlaLatentIdeal.defs (F := Ideal)) (onTc (τ := Cert.MlaLatentIdeal.τ) (Cert.MlaLatentIdeal.main (F := Ideal))) ⟨m, fun _ => 0, g⟩ (fun r => ∀ c : Dev Cert.MlaLatentIdeal.nD,
          r.2.mem ((c.tc : Thread Cert.MlaLatentIdeal.nD Cert.MlaLatentIdeal.τ).loc Cert.MlaLatentIdeal.main_v4) = v0 c
          ∧ r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
          ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1))
      ∧ θ_run (Cert.MlaLatentRefIdeal.defs (F := Ideal)) (onTc (τ := Cert.MlaLatentRefIdeal.τ) (Cert.MlaLatentRefIdeal.main (F := Ideal))) ⟨m', fun _ => 0, g'⟩ (fun r => ∀ c : Dev Cert.MlaLatentRefIdeal.nD,
          r.2.mem ((c.tc : Thread Cert.MlaLatentRefIdeal.nD Cert.MlaLatentRefIdeal.τ).loc Cert.MlaLatentRefIdeal.main_v4) = v0 c
          ∧ r.2.mem ((c.tc : Thread Cert.MlaLatentRefIdeal.nD Cert.MlaLatentRefIdeal.τ).loc Cert.MlaLatentRefIdeal.main_arg0) = m' ((c.tc : Thread Cert.MlaLatentRefIdeal.nD Cert.MlaLatentRefIdeal.τ).loc Cert.MlaLatentRefIdeal.main_arg0)
          ∧ r.2.mem ((c.tc : Thread Cert.MlaLatentRefIdeal.nD Cert.MlaLatentRefIdeal.τ).loc Cert.MlaLatentRefIdeal.main_arg1) = m' ((c.tc : Thread Cert.MlaLatentRefIdeal.nD Cert.MlaLatentRefIdeal.τ).loc Cert.MlaLatentRefIdeal.main_arg1))

def preserves_MlaQuery_MlaQueryIdeal : Prop :=
  True

def algebraic_MlaQueryIdeal_MlaQueryRefIdeal [hMlaQueryIdeal : Cert.MlaQueryIdeal.Facts] [hMlaQueryRefIdeal : Cert.MlaQueryRefIdeal.Facts] : Prop :=
  ∀ (m : (ℓ : Loc Cert.MlaQueryIdeal.nD Cert.MlaQueryIdeal.τ Cert.MlaQueryIdeal.sig) → Buf (Elt Ideal) ℓ) (g : Dev Cert.MlaQueryIdeal.nD → PrngReg)
    (m' : (ℓ : Loc Cert.MlaQueryRefIdeal.nD Cert.MlaQueryRefIdeal.τ Cert.MlaQueryRefIdeal.sig) → Buf (Elt Ideal) ℓ) (g' : Dev Cert.MlaQueryRefIdeal.nD → PrngReg), Pre_MlaQueryIdeal m →
    (∀ c : Dev Cert.MlaQueryIdeal.nD,
      m' ((c.tc : Thread Cert.MlaQueryRefIdeal.nD Cert.MlaQueryRefIdeal.τ).loc Cert.MlaQueryRefIdeal.main_arg0) = m ((c.tc : Thread Cert.MlaQueryIdeal.nD Cert.MlaQueryIdeal.τ).loc Cert.MlaQueryIdeal.main_arg0)
      ∧ m' ((c.tc : Thread Cert.MlaQueryRefIdeal.nD Cert.MlaQueryRefIdeal.τ).loc Cert.MlaQueryRefIdeal.main_arg1) = m ((c.tc : Thread Cert.MlaQueryIdeal.nD Cert.MlaQueryIdeal.τ).loc Cert.MlaQueryIdeal.main_arg1)) →
    ∃ (v0 : (c : Dev Cert.MlaQueryIdeal.nD) → Buf (Elt Ideal) ((c.tc : Thread Cert.MlaQueryIdeal.nD Cert.MlaQueryIdeal.τ).loc Cert.MlaQueryIdeal.main_v9)),
      θ_run (Cert.MlaQueryIdeal.defs (F := Ideal)) (onTc (τ := Cert.MlaQueryIdeal.τ) (Cert.MlaQueryIdeal.main (F := Ideal))) ⟨m, fun _ => 0, g⟩ (fun r => ∀ c : Dev Cert.MlaQueryIdeal.nD,
          r.2.mem ((c.tc : Thread Cert.MlaQueryIdeal.nD Cert.MlaQueryIdeal.τ).loc Cert.MlaQueryIdeal.main_v9) = v0 c
          ∧ r.2.mem ((c.tc : Thread Cert.MlaQueryIdeal.nD Cert.MlaQueryIdeal.τ).loc Cert.MlaQueryIdeal.main_arg0) = m ((c.tc : Thread Cert.MlaQueryIdeal.nD Cert.MlaQueryIdeal.τ).loc Cert.MlaQueryIdeal.main_arg0)
          ∧ r.2.mem ((c.tc : Thread Cert.MlaQueryIdeal.nD Cert.MlaQueryIdeal.τ).loc Cert.MlaQueryIdeal.main_arg1) = m ((c.tc : Thread Cert.MlaQueryIdeal.nD Cert.MlaQueryIdeal.τ).loc Cert.MlaQueryIdeal.main_arg1))
      ∧ θ_run (Cert.MlaQueryRefIdeal.defs (F := Ideal)) (onTc (τ := Cert.MlaQueryRefIdeal.τ) (Cert.MlaQueryRefIdeal.main (F := Ideal))) ⟨m', fun _ => 0, g'⟩ (fun r => ∀ c : Dev Cert.MlaQueryRefIdeal.nD,
          r.2.mem ((c.tc : Thread Cert.MlaQueryRefIdeal.nD Cert.MlaQueryRefIdeal.τ).loc Cert.MlaQueryRefIdeal.main_v9) = v0 c
          ∧ r.2.mem ((c.tc : Thread Cert.MlaQueryRefIdeal.nD Cert.MlaQueryRefIdeal.τ).loc Cert.MlaQueryRefIdeal.main_arg0) = m' ((c.tc : Thread Cert.MlaQueryRefIdeal.nD Cert.MlaQueryRefIdeal.τ).loc Cert.MlaQueryRefIdeal.main_arg0)
          ∧ r.2.mem ((c.tc : Thread Cert.MlaQueryRefIdeal.nD Cert.MlaQueryRefIdeal.τ).loc Cert.MlaQueryRefIdeal.main_arg1) = m' ((c.tc : Thread Cert.MlaQueryRefIdeal.nD Cert.MlaQueryRefIdeal.τ).loc Cert.MlaQueryRefIdeal.main_arg1))

def preserves_MlaKeyVal_MlaKeyValIdeal : Prop :=
  True

def algebraic_MlaKeyValIdeal_MlaKeyValRefIdeal [hMlaKeyValIdeal : Cert.MlaKeyValIdeal.Facts] [hMlaKeyValRefIdeal : Cert.MlaKeyValRefIdeal.Facts] : Prop :=
  ∀ (m : (ℓ : Loc Cert.MlaKeyValIdeal.nD Cert.MlaKeyValIdeal.τ Cert.MlaKeyValIdeal.sig) → Buf (Elt Ideal) ℓ) (g : Dev Cert.MlaKeyValIdeal.nD → PrngReg)
    (m' : (ℓ : Loc Cert.MlaKeyValRefIdeal.nD Cert.MlaKeyValRefIdeal.τ Cert.MlaKeyValRefIdeal.sig) → Buf (Elt Ideal) ℓ) (g' : Dev Cert.MlaKeyValRefIdeal.nD → PrngReg), Pre_MlaKeyValIdeal m →
    (∀ c : Dev Cert.MlaKeyValIdeal.nD,
      m' ((c.tc : Thread Cert.MlaKeyValRefIdeal.nD Cert.MlaKeyValRefIdeal.τ).loc Cert.MlaKeyValRefIdeal.main_arg0) = m ((c.tc : Thread Cert.MlaKeyValIdeal.nD Cert.MlaKeyValIdeal.τ).loc Cert.MlaKeyValIdeal.main_arg0)
      ∧ m' ((c.tc : Thread Cert.MlaKeyValRefIdeal.nD Cert.MlaKeyValRefIdeal.τ).loc Cert.MlaKeyValRefIdeal.main_arg1) = m ((c.tc : Thread Cert.MlaKeyValIdeal.nD Cert.MlaKeyValIdeal.τ).loc Cert.MlaKeyValIdeal.main_arg1)) →
    ∃ (v0 : (c : Dev Cert.MlaKeyValIdeal.nD) → Buf (Elt Ideal) ((c.tc : Thread Cert.MlaKeyValIdeal.nD Cert.MlaKeyValIdeal.τ).loc Cert.MlaKeyValIdeal.main_v3)),
      θ_run (Cert.MlaKeyValIdeal.defs (F := Ideal)) (onTc (τ := Cert.MlaKeyValIdeal.τ) (Cert.MlaKeyValIdeal.main (F := Ideal))) ⟨m, fun _ => 0, g⟩ (fun r => ∀ c : Dev Cert.MlaKeyValIdeal.nD,
          r.2.mem ((c.tc : Thread Cert.MlaKeyValIdeal.nD Cert.MlaKeyValIdeal.τ).loc Cert.MlaKeyValIdeal.main_v3) = v0 c
          ∧ r.2.mem ((c.tc : Thread Cert.MlaKeyValIdeal.nD Cert.MlaKeyValIdeal.τ).loc Cert.MlaKeyValIdeal.main_arg0) = m ((c.tc : Thread Cert.MlaKeyValIdeal.nD Cert.MlaKeyValIdeal.τ).loc Cert.MlaKeyValIdeal.main_arg0)
          ∧ r.2.mem ((c.tc : Thread Cert.MlaKeyValIdeal.nD Cert.MlaKeyValIdeal.τ).loc Cert.MlaKeyValIdeal.main_arg1) = m ((c.tc : Thread Cert.MlaKeyValIdeal.nD Cert.MlaKeyValIdeal.τ).loc Cert.MlaKeyValIdeal.main_arg1))
      ∧ θ_run (Cert.MlaKeyValRefIdeal.defs (F := Ideal)) (onTc (τ := Cert.MlaKeyValRefIdeal.τ) (Cert.MlaKeyValRefIdeal.main (F := Ideal))) ⟨m', fun _ => 0, g'⟩ (fun r => ∀ c : Dev Cert.MlaKeyValRefIdeal.nD,
          r.2.mem ((c.tc : Thread Cert.MlaKeyValRefIdeal.nD Cert.MlaKeyValRefIdeal.τ).loc Cert.MlaKeyValRefIdeal.main_v4) = v0 c
          ∧ r.2.mem ((c.tc : Thread Cert.MlaKeyValRefIdeal.nD Cert.MlaKeyValRefIdeal.τ).loc Cert.MlaKeyValRefIdeal.main_arg0) = m' ((c.tc : Thread Cert.MlaKeyValRefIdeal.nD Cert.MlaKeyValRefIdeal.τ).loc Cert.MlaKeyValRefIdeal.main_arg0)
          ∧ r.2.mem ((c.tc : Thread Cert.MlaKeyValRefIdeal.nD Cert.MlaKeyValRefIdeal.τ).loc Cert.MlaKeyValRefIdeal.main_arg1) = m' ((c.tc : Thread Cert.MlaKeyValRefIdeal.nD Cert.MlaKeyValRefIdeal.τ).loc Cert.MlaKeyValRefIdeal.main_arg1))

def preserves_GdnStep_GdnStepIdeal : Prop :=
  True

def algebraic_GdnStepIdeal_GdnStepRefIdeal [hGdnStepIdeal : Cert.GdnStepIdeal.Facts] [hGdnStepRefIdeal : Cert.GdnStepRefIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg)
    (m' : (ℓ : Loc Cert.GdnStepRefIdeal.nD Cert.GdnStepRefIdeal.τ Cert.GdnStepRefIdeal.sig) → Buf (Elt Ideal) ℓ) (g' : Dev Cert.GdnStepRefIdeal.nD → PrngReg), Pre_GdnStepIdeal m →
    (∀ c : Dev Cert.GdnStepIdeal.nD,
      m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0)
      ∧ m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1)
      ∧ m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2)
      ∧ m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3)
      ∧ m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4)
      ∧ m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5)) →
    ∃ (v0 : (c : Dev Cert.GdnStepIdeal.nD) → Buf (Elt Ideal) ((c.tc : Thread Cert.GdnStepIdeal.nD Cert.GdnStepIdeal.τ).loc Cert.GdnStepIdeal.main_v5_0)) (v1 : (c : Dev Cert.GdnStepIdeal.nD) → Buf (Elt Ideal) ((c.tc : Thread Cert.GdnStepIdeal.nD Cert.GdnStepIdeal.τ).loc Cert.GdnStepIdeal.main_v5_1)),
      θ_run (Cert.GdnStepIdeal.defs (F := Ideal)) (onTc (τ := Cert.GdnStepIdeal.τ) (Cert.GdnStepIdeal.main (F := Ideal))) ⟨m, fun _ => 0, g⟩ (fun r => ∀ c : Dev Cert.GdnStepIdeal.nD,
          r.2.mem ((c.tc : Thread Cert.GdnStepIdeal.nD Cert.GdnStepIdeal.τ).loc Cert.GdnStepIdeal.main_v5_0) = v0 c
          ∧ r.2.mem ((c.tc : Thread Cert.GdnStepIdeal.nD Cert.GdnStepIdeal.τ).loc Cert.GdnStepIdeal.main_v5_1) = v1 c
          ∧ r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
          ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
          ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
          ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
          ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
          ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5))
      ∧ θ_run (Cert.GdnStepRefIdeal.defs (F := Ideal)) (onTc (τ := Cert.GdnStepRefIdeal.τ) (Cert.GdnStepRefIdeal.main (F := Ideal))) ⟨m', fun _ => 0, g'⟩ (fun r => ∀ c : Dev Cert.GdnStepRefIdeal.nD,
          r.2.mem ((c.tc : Thread Cert.GdnStepRefIdeal.nD Cert.GdnStepRefIdeal.τ).loc Cert.GdnStepRefIdeal.main_v17) = v0 c
          ∧ r.2.mem ((c.tc : Thread Cert.GdnStepRefIdeal.nD Cert.GdnStepRefIdeal.τ).loc Cert.GdnStepRefIdeal.main_v26) = v1 c
          ∧ r.2.mem ((c.tc : Thread Cert.GdnStepRefIdeal.nD Cert.GdnStepRefIdeal.τ).loc Cert.GdnStepRefIdeal.main_arg0) = m' ((c.tc : Thread Cert.GdnStepRefIdeal.nD Cert.GdnStepRefIdeal.τ).loc Cert.GdnStepRefIdeal.main_arg0)
          ∧ r.2.mem ((c.tc : Thread Cert.GdnStepRefIdeal.nD Cert.GdnStepRefIdeal.τ).loc Cert.GdnStepRefIdeal.main_arg1) = m' ((c.tc : Thread Cert.GdnStepRefIdeal.nD Cert.GdnStepRefIdeal.τ).loc Cert.GdnStepRefIdeal.main_arg1)
          ∧ r.2.mem ((c.tc : Thread Cert.GdnStepRefIdeal.nD Cert.GdnStepRefIdeal.τ).loc Cert.GdnStepRefIdeal.main_arg2) = m' ((c.tc : Thread Cert.GdnStepRefIdeal.nD Cert.GdnStepRefIdeal.τ).loc Cert.GdnStepRefIdeal.main_arg2)
          ∧ r.2.mem ((c.tc : Thread Cert.GdnStepRefIdeal.nD Cert.GdnStepRefIdeal.τ).loc Cert.GdnStepRefIdeal.main_arg3) = m' ((c.tc : Thread Cert.GdnStepRefIdeal.nD Cert.GdnStepRefIdeal.τ).loc Cert.GdnStepRefIdeal.main_arg3)
          ∧ r.2.mem ((c.tc : Thread Cert.GdnStepRefIdeal.nD Cert.GdnStepRefIdeal.τ).loc Cert.GdnStepRefIdeal.main_arg4) = m' ((c.tc : Thread Cert.GdnStepRefIdeal.nD Cert.GdnStepRefIdeal.τ).loc Cert.GdnStepRefIdeal.main_arg4)
          ∧ r.2.mem ((c.tc : Thread Cert.GdnStepRefIdeal.nD Cert.GdnStepRefIdeal.τ).loc Cert.GdnStepRefIdeal.main_arg5) = m' ((c.tc : Thread Cert.GdnStepRefIdeal.nD Cert.GdnStepRefIdeal.τ).loc Cert.GdnStepRefIdeal.main_arg5))

def preserves_MlstmStep_MlstmStepIdeal : Prop :=
  True

def algebraic_MlstmStepIdeal_MlstmStepRefIdeal [hMlstmStepIdeal : Cert.MlstmStepIdeal.Facts] [hMlstmStepRefIdeal : Cert.MlstmStepRefIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg)
    (m' : (ℓ : Loc Cert.MlstmStepRefIdeal.nD Cert.MlstmStepRefIdeal.τ Cert.MlstmStepRefIdeal.sig) → Buf (Elt Ideal) ℓ) (g' : Dev Cert.MlstmStepRefIdeal.nD → PrngReg), Pre_MlstmStepIdeal m →
    (∀ c : Dev Cert.MlstmStepIdeal.nD,
      m' ((c.tc : Thread Cert.MlstmStepRefIdeal.nD Cert.MlstmStepRefIdeal.τ).loc Cert.MlstmStepRefIdeal.main_arg0) = m ((c.tc : Thread Cert.MlstmStepIdeal.nD Cert.MlstmStepIdeal.τ).loc Cert.MlstmStepIdeal.main_arg0)
      ∧ m' ((c.tc : Thread Cert.MlstmStepRefIdeal.nD Cert.MlstmStepRefIdeal.τ).loc Cert.MlstmStepRefIdeal.main_arg1) = m ((c.tc : Thread Cert.MlstmStepIdeal.nD Cert.MlstmStepIdeal.τ).loc Cert.MlstmStepIdeal.main_arg1)
      ∧ m' ((c.tc : Thread Cert.MlstmStepRefIdeal.nD Cert.MlstmStepRefIdeal.τ).loc Cert.MlstmStepRefIdeal.main_arg2) = m ((c.tc : Thread Cert.MlstmStepIdeal.nD Cert.MlstmStepIdeal.τ).loc Cert.MlstmStepIdeal.main_arg2)
      ∧ m' ((c.tc : Thread Cert.MlstmStepRefIdeal.nD Cert.MlstmStepRefIdeal.τ).loc Cert.MlstmStepRefIdeal.main_arg3) = m ((c.tc : Thread Cert.MlstmStepIdeal.nD Cert.MlstmStepIdeal.τ).loc Cert.MlstmStepIdeal.main_arg3)
      ∧ m' ((c.tc : Thread Cert.MlstmStepRefIdeal.nD Cert.MlstmStepRefIdeal.τ).loc Cert.MlstmStepRefIdeal.main_arg4) = m ((c.tc : Thread Cert.MlstmStepIdeal.nD Cert.MlstmStepIdeal.τ).loc Cert.MlstmStepIdeal.main_arg4)
      ∧ m' ((c.tc : Thread Cert.MlstmStepRefIdeal.nD Cert.MlstmStepRefIdeal.τ).loc Cert.MlstmStepRefIdeal.main_arg5) = m ((c.tc : Thread Cert.MlstmStepIdeal.nD Cert.MlstmStepIdeal.τ).loc Cert.MlstmStepIdeal.main_arg5)
      ∧ m' ((c.tc : Thread Cert.MlstmStepRefIdeal.nD Cert.MlstmStepRefIdeal.τ).loc Cert.MlstmStepRefIdeal.main_arg6) = m ((c.tc : Thread Cert.MlstmStepIdeal.nD Cert.MlstmStepIdeal.τ).loc Cert.MlstmStepIdeal.main_arg6)
      ∧ m' ((c.tc : Thread Cert.MlstmStepRefIdeal.nD Cert.MlstmStepRefIdeal.τ).loc Cert.MlstmStepRefIdeal.main_arg7) = m ((c.tc : Thread Cert.MlstmStepIdeal.nD Cert.MlstmStepIdeal.τ).loc Cert.MlstmStepIdeal.main_arg7)) →
    ∃ (v0 : (c : Dev Cert.MlstmStepIdeal.nD) → Buf (Elt Ideal) ((c.tc : Thread Cert.MlstmStepIdeal.nD Cert.MlstmStepIdeal.τ).loc Cert.MlstmStepIdeal.main_v6_0)) (v1 : (c : Dev Cert.MlstmStepIdeal.nD) → Buf (Elt Ideal) ((c.tc : Thread Cert.MlstmStepIdeal.nD Cert.MlstmStepIdeal.τ).loc Cert.MlstmStepIdeal.main_v6_1)) (v2 : (c : Dev Cert.MlstmStepIdeal.nD) → Buf (Elt Ideal) ((c.tc : Thread Cert.MlstmStepIdeal.nD Cert.MlstmStepIdeal.τ).loc Cert.MlstmStepIdeal.main_v6_2)) (v3 : (c : Dev Cert.MlstmStepIdeal.nD) → Buf (Elt Ideal) ((c.tc : Thread Cert.MlstmStepIdeal.nD Cert.MlstmStepIdeal.τ).loc Cert.MlstmStepIdeal.main_v6_3)),
      θ_run (Cert.MlstmStepIdeal.defs (F := Ideal)) (onTc (τ := Cert.MlstmStepIdeal.τ) (Cert.MlstmStepIdeal.main (F := Ideal))) ⟨m, fun _ => 0, g⟩ (fun r => ∀ c : Dev Cert.MlstmStepIdeal.nD,
          r.2.mem ((c.tc : Thread Cert.MlstmStepIdeal.nD Cert.MlstmStepIdeal.τ).loc Cert.MlstmStepIdeal.main_v6_0) = v0 c
          ∧ r.2.mem ((c.tc : Thread Cert.MlstmStepIdeal.nD Cert.MlstmStepIdeal.τ).loc Cert.MlstmStepIdeal.main_v6_1) = v1 c
          ∧ r.2.mem ((c.tc : Thread Cert.MlstmStepIdeal.nD Cert.MlstmStepIdeal.τ).loc Cert.MlstmStepIdeal.main_v6_2) = v2 c
          ∧ r.2.mem ((c.tc : Thread Cert.MlstmStepIdeal.nD Cert.MlstmStepIdeal.τ).loc Cert.MlstmStepIdeal.main_v6_3) = v3 c
          ∧ r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
          ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
          ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
          ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
          ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
          ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
          ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
          ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ θ_run (Cert.MlstmStepRefIdeal.defs (F := Ideal)) (onTc (τ := Cert.MlstmStepRefIdeal.τ) (Cert.MlstmStepRefIdeal.main (F := Ideal))) ⟨m', fun _ => 0, g'⟩ (fun r => ∀ c : Dev Cert.MlstmStepRefIdeal.nD,
          r.2.mem ((c.tc : Thread Cert.MlstmStepRefIdeal.nD Cert.MlstmStepRefIdeal.τ).loc Cert.MlstmStepRefIdeal.main_v26) = v0 c
          ∧ r.2.mem ((c.tc : Thread Cert.MlstmStepRefIdeal.nD Cert.MlstmStepRefIdeal.τ).loc Cert.MlstmStepRefIdeal.main_v38) = v1 c
          ∧ r.2.mem ((c.tc : Thread Cert.MlstmStepRefIdeal.nD Cert.MlstmStepRefIdeal.τ).loc Cert.MlstmStepRefIdeal.main_v42) = v2 c
          ∧ r.2.mem ((c.tc : Thread Cert.MlstmStepRefIdeal.nD Cert.MlstmStepRefIdeal.τ).loc Cert.MlstmStepRefIdeal.main_v44) = v3 c
          ∧ r.2.mem ((c.tc : Thread Cert.MlstmStepRefIdeal.nD Cert.MlstmStepRefIdeal.τ).loc Cert.MlstmStepRefIdeal.main_arg0) = m' ((c.tc : Thread Cert.MlstmStepRefIdeal.nD Cert.MlstmStepRefIdeal.τ).loc Cert.MlstmStepRefIdeal.main_arg0)
          ∧ r.2.mem ((c.tc : Thread Cert.MlstmStepRefIdeal.nD Cert.MlstmStepRefIdeal.τ).loc Cert.MlstmStepRefIdeal.main_arg1) = m' ((c.tc : Thread Cert.MlstmStepRefIdeal.nD Cert.MlstmStepRefIdeal.τ).loc Cert.MlstmStepRefIdeal.main_arg1)
          ∧ r.2.mem ((c.tc : Thread Cert.MlstmStepRefIdeal.nD Cert.MlstmStepRefIdeal.τ).loc Cert.MlstmStepRefIdeal.main_arg2) = m' ((c.tc : Thread Cert.MlstmStepRefIdeal.nD Cert.MlstmStepRefIdeal.τ).loc Cert.MlstmStepRefIdeal.main_arg2)
          ∧ r.2.mem ((c.tc : Thread Cert.MlstmStepRefIdeal.nD Cert.MlstmStepRefIdeal.τ).loc Cert.MlstmStepRefIdeal.main_arg3) = m' ((c.tc : Thread Cert.MlstmStepRefIdeal.nD Cert.MlstmStepRefIdeal.τ).loc Cert.MlstmStepRefIdeal.main_arg3)
          ∧ r.2.mem ((c.tc : Thread Cert.MlstmStepRefIdeal.nD Cert.MlstmStepRefIdeal.τ).loc Cert.MlstmStepRefIdeal.main_arg4) = m' ((c.tc : Thread Cert.MlstmStepRefIdeal.nD Cert.MlstmStepRefIdeal.τ).loc Cert.MlstmStepRefIdeal.main_arg4)
          ∧ r.2.mem ((c.tc : Thread Cert.MlstmStepRefIdeal.nD Cert.MlstmStepRefIdeal.τ).loc Cert.MlstmStepRefIdeal.main_arg5) = m' ((c.tc : Thread Cert.MlstmStepRefIdeal.nD Cert.MlstmStepRefIdeal.τ).loc Cert.MlstmStepRefIdeal.main_arg5)
          ∧ r.2.mem ((c.tc : Thread Cert.MlstmStepRefIdeal.nD Cert.MlstmStepRefIdeal.τ).loc Cert.MlstmStepRefIdeal.main_arg6) = m' ((c.tc : Thread Cert.MlstmStepRefIdeal.nD Cert.MlstmStepRefIdeal.τ).loc Cert.MlstmStepRefIdeal.main_arg6)
          ∧ r.2.mem ((c.tc : Thread Cert.MlstmStepRefIdeal.nD Cert.MlstmStepRefIdeal.τ).loc Cert.MlstmStepRefIdeal.main_arg7) = m' ((c.tc : Thread Cert.MlstmStepRefIdeal.nD Cert.MlstmStepRefIdeal.τ).loc Cert.MlstmStepRefIdeal.main_arg7))

def preserves_AbsorbQ_AbsorbQIdeal : Prop :=
  True

def algebraic_AbsorbQIdeal_AbsorbQRefIdeal [hAbsorbQIdeal : Cert.AbsorbQIdeal.Facts] [hAbsorbQRefIdeal : Cert.AbsorbQRefIdeal.Facts] : Prop :=
  ∀ (m : (ℓ : Loc Cert.AbsorbQIdeal.nD Cert.AbsorbQIdeal.τ Cert.AbsorbQIdeal.sig) → Buf (Elt Ideal) ℓ) (g : Dev Cert.AbsorbQIdeal.nD → PrngReg)
    (m' : (ℓ : Loc Cert.AbsorbQRefIdeal.nD Cert.AbsorbQRefIdeal.τ Cert.AbsorbQRefIdeal.sig) → Buf (Elt Ideal) ℓ) (g' : Dev Cert.AbsorbQRefIdeal.nD → PrngReg), Pre_AbsorbQIdeal m →
    (∀ c : Dev Cert.AbsorbQIdeal.nD,
      m' ((c.tc : Thread Cert.AbsorbQRefIdeal.nD Cert.AbsorbQRefIdeal.τ).loc Cert.AbsorbQRefIdeal.main_arg0) = m ((c.tc : Thread Cert.AbsorbQIdeal.nD Cert.AbsorbQIdeal.τ).loc Cert.AbsorbQIdeal.main_arg0)
      ∧ m' ((c.tc : Thread Cert.AbsorbQRefIdeal.nD Cert.AbsorbQRefIdeal.τ).loc Cert.AbsorbQRefIdeal.main_arg1) = m ((c.tc : Thread Cert.AbsorbQIdeal.nD Cert.AbsorbQIdeal.τ).loc Cert.AbsorbQIdeal.main_arg1)) →
    ∃ (v0 : (c : Dev Cert.AbsorbQIdeal.nD) → Buf (Elt Ideal) ((c.tc : Thread Cert.AbsorbQIdeal.nD Cert.AbsorbQIdeal.τ).loc Cert.AbsorbQIdeal.main_v3)),
      θ_run (Cert.AbsorbQIdeal.defs (F := Ideal)) (onTc (τ := Cert.AbsorbQIdeal.τ) (Cert.AbsorbQIdeal.main (F := Ideal))) ⟨m, fun _ => 0, g⟩ (fun r => ∀ c : Dev Cert.AbsorbQIdeal.nD,
          r.2.mem ((c.tc : Thread Cert.AbsorbQIdeal.nD Cert.AbsorbQIdeal.τ).loc Cert.AbsorbQIdeal.main_v3) = v0 c
          ∧ r.2.mem ((c.tc : Thread Cert.AbsorbQIdeal.nD Cert.AbsorbQIdeal.τ).loc Cert.AbsorbQIdeal.main_arg0) = m ((c.tc : Thread Cert.AbsorbQIdeal.nD Cert.AbsorbQIdeal.τ).loc Cert.AbsorbQIdeal.main_arg0)
          ∧ r.2.mem ((c.tc : Thread Cert.AbsorbQIdeal.nD Cert.AbsorbQIdeal.τ).loc Cert.AbsorbQIdeal.main_arg1) = m ((c.tc : Thread Cert.AbsorbQIdeal.nD Cert.AbsorbQIdeal.τ).loc Cert.AbsorbQIdeal.main_arg1))
      ∧ θ_run (Cert.AbsorbQRefIdeal.defs (F := Ideal)) (onTc (τ := Cert.AbsorbQRefIdeal.τ) (Cert.AbsorbQRefIdeal.main (F := Ideal))) ⟨m', fun _ => 0, g'⟩ (fun r => ∀ c : Dev Cert.AbsorbQRefIdeal.nD,
          r.2.mem ((c.tc : Thread Cert.AbsorbQRefIdeal.nD Cert.AbsorbQRefIdeal.τ).loc Cert.AbsorbQRefIdeal.main_v6) = v0 c
          ∧ r.2.mem ((c.tc : Thread Cert.AbsorbQRefIdeal.nD Cert.AbsorbQRefIdeal.τ).loc Cert.AbsorbQRefIdeal.main_arg0) = m' ((c.tc : Thread Cert.AbsorbQRefIdeal.nD Cert.AbsorbQRefIdeal.τ).loc Cert.AbsorbQRefIdeal.main_arg0)
          ∧ r.2.mem ((c.tc : Thread Cert.AbsorbQRefIdeal.nD Cert.AbsorbQRefIdeal.τ).loc Cert.AbsorbQRefIdeal.main_arg1) = m' ((c.tc : Thread Cert.AbsorbQRefIdeal.nD Cert.AbsorbQRefIdeal.τ).loc Cert.AbsorbQRefIdeal.main_arg1))

def preserves_AbsorbV_AbsorbVIdeal : Prop :=
  True

def algebraic_AbsorbVIdeal_AbsorbVRefIdeal [hAbsorbVIdeal : Cert.AbsorbVIdeal.Facts] [hAbsorbVRefIdeal : Cert.AbsorbVRefIdeal.Facts] : Prop :=
  ∀ (m : (ℓ : Loc Cert.AbsorbVIdeal.nD Cert.AbsorbVIdeal.τ Cert.AbsorbVIdeal.sig) → Buf (Elt Ideal) ℓ) (g : Dev Cert.AbsorbVIdeal.nD → PrngReg)
    (m' : (ℓ : Loc Cert.AbsorbVRefIdeal.nD Cert.AbsorbVRefIdeal.τ Cert.AbsorbVRefIdeal.sig) → Buf (Elt Ideal) ℓ) (g' : Dev Cert.AbsorbVRefIdeal.nD → PrngReg), Pre_AbsorbVIdeal m →
    (∀ c : Dev Cert.AbsorbVIdeal.nD,
      m' ((c.tc : Thread Cert.AbsorbVRefIdeal.nD Cert.AbsorbVRefIdeal.τ).loc Cert.AbsorbVRefIdeal.main_arg0) = m ((c.tc : Thread Cert.AbsorbVIdeal.nD Cert.AbsorbVIdeal.τ).loc Cert.AbsorbVIdeal.main_arg0)
      ∧ m' ((c.tc : Thread Cert.AbsorbVRefIdeal.nD Cert.AbsorbVRefIdeal.τ).loc Cert.AbsorbVRefIdeal.main_arg1) = m ((c.tc : Thread Cert.AbsorbVIdeal.nD Cert.AbsorbVIdeal.τ).loc Cert.AbsorbVIdeal.main_arg1)) →
    ∃ (v0 : (c : Dev Cert.AbsorbVIdeal.nD) → Buf (Elt Ideal) ((c.tc : Thread Cert.AbsorbVIdeal.nD Cert.AbsorbVIdeal.τ).loc Cert.AbsorbVIdeal.main_v3)),
      θ_run (Cert.AbsorbVIdeal.defs (F := Ideal)) (onTc (τ := Cert.AbsorbVIdeal.τ) (Cert.AbsorbVIdeal.main (F := Ideal))) ⟨m, fun _ => 0, g⟩ (fun r => ∀ c : Dev Cert.AbsorbVIdeal.nD,
          r.2.mem ((c.tc : Thread Cert.AbsorbVIdeal.nD Cert.AbsorbVIdeal.τ).loc Cert.AbsorbVIdeal.main_v3) = v0 c
          ∧ r.2.mem ((c.tc : Thread Cert.AbsorbVIdeal.nD Cert.AbsorbVIdeal.τ).loc Cert.AbsorbVIdeal.main_arg0) = m ((c.tc : Thread Cert.AbsorbVIdeal.nD Cert.AbsorbVIdeal.τ).loc Cert.AbsorbVIdeal.main_arg0)
          ∧ r.2.mem ((c.tc : Thread Cert.AbsorbVIdeal.nD Cert.AbsorbVIdeal.τ).loc Cert.AbsorbVIdeal.main_arg1) = m ((c.tc : Thread Cert.AbsorbVIdeal.nD Cert.AbsorbVIdeal.τ).loc Cert.AbsorbVIdeal.main_arg1))
      ∧ θ_run (Cert.AbsorbVRefIdeal.defs (F := Ideal)) (onTc (τ := Cert.AbsorbVRefIdeal.τ) (Cert.AbsorbVRefIdeal.main (F := Ideal))) ⟨m', fun _ => 0, g'⟩ (fun r => ∀ c : Dev Cert.AbsorbVRefIdeal.nD,
          r.2.mem ((c.tc : Thread Cert.AbsorbVRefIdeal.nD Cert.AbsorbVRefIdeal.τ).loc Cert.AbsorbVRefIdeal.main_v6) = v0 c
          ∧ r.2.mem ((c.tc : Thread Cert.AbsorbVRefIdeal.nD Cert.AbsorbVRefIdeal.τ).loc Cert.AbsorbVRefIdeal.main_arg0) = m' ((c.tc : Thread Cert.AbsorbVRefIdeal.nD Cert.AbsorbVRefIdeal.τ).loc Cert.AbsorbVRefIdeal.main_arg0)
          ∧ r.2.mem ((c.tc : Thread Cert.AbsorbVRefIdeal.nD Cert.AbsorbVRefIdeal.τ).loc Cert.AbsorbVRefIdeal.main_arg1) = m' ((c.tc : Thread Cert.AbsorbVRefIdeal.nD Cert.AbsorbVRefIdeal.τ).loc Cert.AbsorbVRefIdeal.main_arg1))

def preserves_Decode_DecodeIdeal : Prop :=
  True

def Claim : Prop :=
  ∃ (hFlash : Cert.Flash.Facts) (hFlashIdeal : Cert.FlashIdeal.Facts) (hFlashRefIdeal : Cert.FlashRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hEvenQkv : Cert.EvenQkv.Facts) (hEvenQkvIdeal : Cert.EvenQkvIdeal.Facts) (hEvenQkvRefIdeal : Cert.EvenQkvRefIdeal.Facts) (hEvenRest : Cert.EvenRest.Facts) (hEvenRestIdeal : Cert.EvenRestIdeal.Facts) (hEvenRestRefIdeal : Cert.EvenRestRefIdeal.Facts) (hMixOut : Cert.MixOut.Facts) (hMixOutIdeal : Cert.MixOutIdeal.Facts) (hMixOutRefIdeal : Cert.MixOutRefIdeal.Facts) (hEvenSmall : Cert.EvenSmall.Facts) (hEvenSmallIdeal : Cert.EvenSmallIdeal.Facts) (hEvenSmallRefIdeal : Cert.EvenSmallRefIdeal.Facts) (hMlaLatent : Cert.MlaLatent.Facts) (hMlaLatentIdeal : Cert.MlaLatentIdeal.Facts) (hMlaLatentRefIdeal : Cert.MlaLatentRefIdeal.Facts) (hMlaQuery : Cert.MlaQuery.Facts) (hMlaQueryIdeal : Cert.MlaQueryIdeal.Facts) (hMlaQueryRefIdeal : Cert.MlaQueryRefIdeal.Facts) (hMlaKeyVal : Cert.MlaKeyVal.Facts) (hMlaKeyValIdeal : Cert.MlaKeyValIdeal.Facts) (hMlaKeyValRefIdeal : Cert.MlaKeyValRefIdeal.Facts) (hGdnStep : Cert.GdnStep.Facts) (hGdnStepIdeal : Cert.GdnStepIdeal.Facts) (hGdnStepRefIdeal : Cert.GdnStepRefIdeal.Facts) (hMlstmStep : Cert.MlstmStep.Facts) (hMlstmStepIdeal : Cert.MlstmStepIdeal.Facts) (hMlstmStepRefIdeal : Cert.MlstmStepRefIdeal.Facts) (hAbsorbQ : Cert.AbsorbQ.Facts) (hAbsorbQIdeal : Cert.AbsorbQIdeal.Facts) (hAbsorbQRefIdeal : Cert.AbsorbQRefIdeal.Facts) (hAbsorbV : Cert.AbsorbV.Facts) (hAbsorbVIdeal : Cert.AbsorbVIdeal.Facts) (hAbsorbVRefIdeal : Cert.AbsorbVRefIdeal.Facts) (hDecode : Cert.Decode.Facts) (hDecodeIdeal : Cert.DecodeIdeal.Facts) (hPre_all_finite : Cert.Pre_all_finite.Facts) (hPre_pages_named : Cert.Pre_pages_named.Facts),
    quiescent_Flash (hFlash := hFlash)
    ∧ quiescent_FlashIdeal (hFlashIdeal := hFlashIdeal)
    ∧ quiescent_FlashIdeal_pre_all_finite (hFlashIdeal := hFlashIdeal) (hPre_all_finite := hPre_all_finite)
    ∧ quiescent_FlashRefIdeal (hFlashRefIdeal := hFlashRefIdeal)
    ∧ quiescent_FlashRefIdeal_pre_all_finite (hFlashRefIdeal := hFlashRefIdeal) (hPre_all_finite := hPre_all_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_EvenQkv (hEvenQkv := hEvenQkv)
    ∧ quiescent_EvenQkvIdeal (hEvenQkvIdeal := hEvenQkvIdeal)
    ∧ quiescent_EvenQkvRefIdeal (hEvenQkvRefIdeal := hEvenQkvRefIdeal)
    ∧ quiescent_EvenRest (hEvenRest := hEvenRest)
    ∧ quiescent_EvenRestIdeal (hEvenRestIdeal := hEvenRestIdeal)
    ∧ quiescent_EvenRestRefIdeal (hEvenRestRefIdeal := hEvenRestRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_EvenSmall (hEvenSmall := hEvenSmall)
    ∧ quiescent_EvenSmallIdeal (hEvenSmallIdeal := hEvenSmallIdeal)
    ∧ quiescent_EvenSmallRefIdeal (hEvenSmallRefIdeal := hEvenSmallRefIdeal)
    ∧ quiescent_MlaLatent (hMlaLatent := hMlaLatent)
    ∧ quiescent_MlaLatentIdeal (hMlaLatentIdeal := hMlaLatentIdeal)
    ∧ quiescent_MlaLatentRefIdeal (hMlaLatentRefIdeal := hMlaLatentRefIdeal)
    ∧ quiescent_MlaQuery (hMlaQuery := hMlaQuery)
    ∧ quiescent_MlaQueryIdeal (hMlaQueryIdeal := hMlaQueryIdeal)
    ∧ quiescent_MlaQueryRefIdeal (hMlaQueryRefIdeal := hMlaQueryRefIdeal)
    ∧ quiescent_MlaKeyVal (hMlaKeyVal := hMlaKeyVal)
    ∧ quiescent_MlaKeyValIdeal (hMlaKeyValIdeal := hMlaKeyValIdeal)
    ∧ quiescent_MlaKeyValRefIdeal (hMlaKeyValRefIdeal := hMlaKeyValRefIdeal)
    ∧ quiescent_GdnStep (hGdnStep := hGdnStep)
    ∧ quiescent_GdnStepIdeal (hGdnStepIdeal := hGdnStepIdeal)
    ∧ quiescent_GdnStepRefIdeal (hGdnStepRefIdeal := hGdnStepRefIdeal)
    ∧ quiescent_MlstmStep (hMlstmStep := hMlstmStep)
    ∧ quiescent_MlstmStepIdeal (hMlstmStepIdeal := hMlstmStepIdeal)
    ∧ quiescent_MlstmStepRefIdeal (hMlstmStepRefIdeal := hMlstmStepRefIdeal)
    ∧ quiescent_AbsorbQ (hAbsorbQ := hAbsorbQ)
    ∧ quiescent_AbsorbQIdeal (hAbsorbQIdeal := hAbsorbQIdeal)
    ∧ quiescent_AbsorbQRefIdeal (hAbsorbQRefIdeal := hAbsorbQRefIdeal)
    ∧ quiescent_AbsorbV (hAbsorbV := hAbsorbV)
    ∧ quiescent_AbsorbVIdeal (hAbsorbVIdeal := hAbsorbVIdeal)
    ∧ quiescent_AbsorbVRefIdeal (hAbsorbVRefIdeal := hAbsorbVRefIdeal)
    ∧ quiescent_Decode (hDecode := hDecode) (hPre_pages_named := hPre_pages_named)
    ∧ quiescent_DecodeIdeal (hDecodeIdeal := hDecodeIdeal) (hPre_pages_named := hPre_pages_named)
    ∧ preserves_Flash_FlashIdeal
    ∧ algebraic_FlashIdeal_FlashRefIdeal_pre_all_finite (hFlashIdeal := hFlashIdeal) (hFlashRefIdeal := hFlashRefIdeal) (hPre_all_finite := hPre_all_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_EvenQkv_EvenQkvIdeal
    ∧ algebraic_EvenQkvIdeal_EvenQkvRefIdeal (hEvenQkvIdeal := hEvenQkvIdeal) (hEvenQkvRefIdeal := hEvenQkvRefIdeal)
    ∧ preserves_EvenRest_EvenRestIdeal
    ∧ algebraic_EvenRestIdeal_EvenRestRefIdeal (hEvenRestIdeal := hEvenRestIdeal) (hEvenRestRefIdeal := hEvenRestRefIdeal)
    ∧ preserves_MixOut_MixOutIdeal
    ∧ algebraic_MixOutIdeal_MixOutRefIdeal (hMixOutIdeal := hMixOutIdeal) (hMixOutRefIdeal := hMixOutRefIdeal)
    ∧ preserves_EvenSmall_EvenSmallIdeal
    ∧ algebraic_EvenSmallIdeal_EvenSmallRefIdeal (hEvenSmallIdeal := hEvenSmallIdeal) (hEvenSmallRefIdeal := hEvenSmallRefIdeal)
    ∧ preserves_MlaLatent_MlaLatentIdeal
    ∧ algebraic_MlaLatentIdeal_MlaLatentRefIdeal (hMlaLatentIdeal := hMlaLatentIdeal) (hMlaLatentRefIdeal := hMlaLatentRefIdeal)
    ∧ preserves_MlaQuery_MlaQueryIdeal
    ∧ algebraic_MlaQueryIdeal_MlaQueryRefIdeal (hMlaQueryIdeal := hMlaQueryIdeal) (hMlaQueryRefIdeal := hMlaQueryRefIdeal)
    ∧ preserves_MlaKeyVal_MlaKeyValIdeal
    ∧ algebraic_MlaKeyValIdeal_MlaKeyValRefIdeal (hMlaKeyValIdeal := hMlaKeyValIdeal) (hMlaKeyValRefIdeal := hMlaKeyValRefIdeal)
    ∧ preserves_GdnStep_GdnStepIdeal
    ∧ algebraic_GdnStepIdeal_GdnStepRefIdeal (hGdnStepIdeal := hGdnStepIdeal) (hGdnStepRefIdeal := hGdnStepRefIdeal)
    ∧ preserves_MlstmStep_MlstmStepIdeal
    ∧ algebraic_MlstmStepIdeal_MlstmStepRefIdeal (hMlstmStepIdeal := hMlstmStepIdeal) (hMlstmStepRefIdeal := hMlstmStepRefIdeal)
    ∧ preserves_AbsorbQ_AbsorbQIdeal
    ∧ algebraic_AbsorbQIdeal_AbsorbQRefIdeal (hAbsorbQIdeal := hAbsorbQIdeal) (hAbsorbQRefIdeal := hAbsorbQRefIdeal)
    ∧ preserves_AbsorbV_AbsorbVIdeal
    ∧ algebraic_AbsorbVIdeal_AbsorbVRefIdeal (hAbsorbVIdeal := hAbsorbVIdeal) (hAbsorbVRefIdeal := hAbsorbVRefIdeal)
    ∧ preserves_Decode_DecodeIdeal
-- ==== Pre_all_finite.lean ====
abbrev S8192x4096 : Shape := ⟨2, ![8192, 4096]⟩
abbrev S8192x2048 : Shape := ⟨2, ![8192, 2048]⟩
abbrev S8192x8192 : Shape := ⟨2, ![8192, 8192]⟩
abbrev S8192x64 : Shape := ⟨2, ![8192, 64]⟩
abbrev S_ : Shape := ⟨0, ![]⟩

class Facts : Prop where
  bcast_S_S8192x4096 : S_.BroadcastsInDim S8192x4096 (![] : Fin 0 → Fin S8192x4096.rank)
  bcast_S_S8192x2048 : S_.BroadcastsInDim S8192x2048 (![] : Fin 0 → Fin S8192x2048.rank)
  bcast_S_S8192x8192 : S_.BroadcastsInDim S8192x8192 (![] : Fin 0 → Fin S8192x8192.rank)
  bcast_S_S8192x64 : S_.BroadcastsInDim S8192x64 (![] : Fin 0 → Fin S8192x64.rank)

variable [Facts]

def fn {F : FTy → Type} [FloatOps F] (main_arg0 : FVec F S8192x4096 .f32) (main_arg1 : FVec F S8192x2048 .f32) (main_arg2 : FVec F S8192x8192 .f32) (main_arg3 : FVec F S8192x64 .f32) : IVec S8192x4096 1 × IVec S8192x2048 1 × IVec S8192x8192 1 × IVec S8192x64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x8192 .f32 := Host.absf main_arg2
  let main_cst_1 : FVec F S_ .f32 := constant S_ .f32 0x7F800000#32
  let main_v7 : FVec F S8192x8192 .f32 := broadcastInDim S8192x8192 ![] bcast_S_S8192x8192 main_cst_1
  let main_v8 : IVec S8192x8192 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== Pre_pages_named.lean ====
abbrev S128x32x512 : Shape := ⟨3, ![128, 32, 512]⟩
abbrev S128x32x64 : Shape := ⟨3, ![128, 32, 64]⟩
abbrev S128x1x512 : Shape := ⟨3, ![128, 1, 512]⟩
abbrev S128x1x64 : Shape := ⟨3, ![128, 1, 64]⟩
abbrev S2x10240x128x512 : Shape := ⟨4, ![2, 10240, 128, 512]⟩
abbrev S2x10240x128x64 : Shape := ⟨4, ![2, 10240, 128, 64]⟩
abbrev S128x64 : Shape := ⟨2, ![128, 64]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S128x32x512 .f32) (main_arg1 : FVec F S128x32x64 .f32) (main_arg2 : FVec F S128x1x512 .f32) (main_arg3 : FVec F S128x1x64 .f32) (main_arg4 : FVec F S2x10240x128x512 .f32) (main_arg5 : FVec F S2x10240x128x64 .f32) (main_arg6 : IVec S128x64 32) : IVec S128x64 1 :=
  let main_c : IVec S_ 32 := constantI S_ 32 0#32
  let main_v0 : IVec S128x64 32 := broadcastInDim S128x64 ![] bcast_S_S128x64 main_c
  let main_v1 : IVec S128x64 1 := cmpi .sge main_arg6 main_v0
  let main_c_0 : IVec S_ 32 := constantI S_ 32 10240#32
  let main_v2 : IVec S128x64 32 := broadcastInDim S128x64 ![] bcast_S_S128x64 main_c_0
  let main_v3 : IVec S128x64 1 := cmpi .slt main_arg6 main_v2
  let main_v4 : IVec S128x64 1 := andi main_v1 main_v3
  main_v4
-- ==== Flash.lean ====
abbrev S8192x4096 : Shape := ⟨2, ![8192, 4096]⟩
abbrev S8192x2048 : Shape := ⟨2, ![8192, 2048]⟩
abbrev S8192x8192 : Shape := ⟨2, ![8192, 8192]⟩
abbrev S8192x64 : Shape := ⟨2, ![8192, 64]⟩
abbrev S512x256 : Shape := ⟨2, ![512, 256]⟩
abbrev S512x128 : Shape := ⟨2, ![512, 128]⟩
abbrev S512x512 : Shape := ⟨2, ![512, 512]⟩
abbrev S512x64 : Shape := ⟨2, ![512, 64]⟩
abbrev S2x512x1 : Shape := ⟨3, ![2, 512, 1]⟩
abbrev S2x512x128 : Shape := ⟨3, ![2, 512, 128]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x8192, .f32⟩
  | .hbm, ⟨3, _⟩ => ⟨S8192x64, .f32⟩
  | .hbm, ⟨4, _⟩ => ⟨S8192x4096, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x64, .f32⟩
  | .local _ .vmem, ⟨7, _⟩ => ⟨S512x64, .f32⟩
  | .local _ .vmem, ⟨8, _⟩ => ⟨S512x256, .f32⟩
  | .local _ .vmem, ⟨9, _⟩ => ⟨S512x256, .f32⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 16, 4, 4], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg3 arg2
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg3 arg2
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== FlashRefIdeal.lean ====
abbrev S8192x4096 : Shape := ⟨2, ![8192, 4096]⟩
abbrev S8192x2048 : Shape := ⟨2, ![8192, 2048]⟩
abbrev S8192x8192 : Shape := ⟨2, ![8192, 8192]⟩
abbrev S8192x64 : Shape := ⟨2, ![8192, 64]⟩
abbrev S4x2048x32x128 : Shape := ⟨4, ![4, 2048, 32, 128]⟩
abbrev S4x2048x32x64 : Shape := ⟨4, ![4, 2048, 32, 64]⟩
abbrev S4x2048x32x256 : Shape := ⟨4, ![4, 2048, 32, 256]⟩
abbrev S4x2048x64 : Shape := ⟨3, ![4, 2048, 64]⟩
abbrev S2048 : Shape := ⟨1, ![2048]⟩
abbrev S4x32x2048x2048 : Shape := ⟨4, ![4, 32, 2048, 2048]⟩
abbrev S4x2048x2048x32 : Shape := ⟨4, ![4, 2048, 2048, 32]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x8192, .f32⟩
  | .hbm, ⟨3, _⟩ => ⟨S8192x64, .f32⟩
  | .hbm, ⟨4, _⟩ => ⟨S4x2048x32x128, .f32⟩
  | .hbm, ⟨5, _⟩ => ⟨S4x2048x32x64, .f32⟩
  | .hbm, ⟨6, _⟩ => ⟨S4x2048x32x256, .f32⟩
  | .hbm, ⟨7, _⟩ => ⟨S4x2048x64, .f32⟩
  | .hbm, ⟨8, _⟩ => ⟨S4x2048x32x128, .f32⟩
  | .hbm, ⟨9, _⟩ => ⟨S4x2048x32x128, .f32⟩
  | .hbm, ⟨10, _⟩ => ⟨S2048, .i32⟩
  | .hbm, ⟨11, _⟩ => ⟨S4x32x2048x2048, .f32⟩
  | .hbm, ⟨12, _⟩ => ⟨S4x2048x2048x32, .f32⟩
  | .hbm, ⟨13, _⟩ => ⟨S4x32x2048x2048, .f32⟩
  | .hbm, ⟨14, _⟩ => ⟨S4x32x2048x2048, .f32⟩
  | .hbm, ⟨15, _⟩ => ⟨S_, .f32⟩
  | .hbm, ⟨16, _⟩ => ⟨S4x32x2048x2048, .f32⟩
  | .hbm, ⟨17, _⟩ => ⟨S4x32x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S4x32x2048x2048, .i1⟩
  | .hbm, ⟨26, _⟩ => ⟨S4x32x2048x2048, .f32⟩
  | .hbm, ⟨27, _⟩ => ⟨S4x32x2048x2048, .f32⟩
  | .hbm, ⟨28, _⟩ => ⟨S_, .f32⟩
  | .hbm, ⟨29, _⟩ => ⟨S4x32x2048, .f32⟩
  | .hbm, ⟨30, _⟩ => ⟨S_, .f32⟩
  | .hbm, ⟨31, _⟩ => ⟨S4x32x2048, .f32⟩
  | .hbm, ⟨32, _⟩ => ⟨S4x32x2048, .f32⟩
  | .hbm, ⟨33, _⟩ => ⟨S4x32x2048x1, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S_, .f32⟩
  | .hbm, ⟨38, _⟩ => ⟨S4x32x2048, .f32⟩
  | .hbm, ⟨39, _⟩ => ⟨S4x32x2048x1, .f32⟩
  | .hbm, ⟨40, _⟩ => ⟨S4x32x2048x2048, .f32⟩
  | .hbm, ⟨41, _⟩ => ⟨S4x32x2048x2048, .f32⟩
  | .hbm, ⟨42, _⟩ => ⟨S4x32x128x2048, .f32⟩
  | .hbm, ⟨43, _⟩ => ⟨S4x2048x32x128, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== FfnUp.lean ====
abbrev S8192x4096 : Shape := ⟨2, ![8192, 4096]⟩
abbrev S4x4096x22016 : Shape := ⟨3, ![4, 4096, 22016]⟩
abbrev S8192x22016 : Shape := ⟨2, ![8192, 22016]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S8192x22016, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .f32⟩
  | .local _ .vmem, ⟨3, _⟩ => ⟨S1x512x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 43, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x4096 : Shape := ⟨2, ![8192, 4096]⟩
abbrev S4x4096x22016 : Shape := ⟨3, ![4, 4096, 22016]⟩
abbrev S1x4096x22016 : Shape := ⟨3, ![1, 4096, 22016]⟩
abbrev S4096x22016 : Shape := ⟨2, ![4096, 22016]⟩
abbrev S8192x22016 : Shape := ⟨2, ![8192, 22016]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S8192x4096, .f32⟩
  | .hbm, ⟨3, _⟩ => ⟨S1x4096x22016, .f32⟩
  | .hbm, ⟨4, _⟩ => ⟨S4096x22016, .f32⟩
  | .hbm, ⟨5, _⟩ => ⟨S8192x22016, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S8192x11008 : Shape := ⟨2, ![8192, 11008]⟩
abbrev S4x11008x4096 : Shape := ⟨3, ![4, 11008, 4096]⟩
abbrev S8192x4096 : Shape := ⟨2, ![8192, 4096]⟩
abbrev S2048x256 : Shape := ⟨2, ![2048, 256]⟩
abbrev S1x256x1024 : Shape := ⟨3, ![1, 256, 1024]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S8192x4096, .f32⟩
  | .local _ .vmem, ⟨0, _⟩ => ⟨S2048x256, .bf16⟩
  | .local _ .vmem, ⟨1, _⟩ => ⟨S2048x256, .bf16⟩
  | .local _ .vmem, ⟨2, _⟩ => ⟨S1x256x1024, .f32⟩
  | .local _ .vmem, ⟨3, _⟩ => ⟨S1x256x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 43], ![false, false, false]⟩

def k0_cond3 (i : grid0.Coords) : BitVec 1 :=
  let arg2 : BitVec 32 := BitVec.ofNat 32 (i 2).val
  let c42_i32 : BitVec 32 := 42#32
  let v11 : BitVec 1 := Scalar.cmpi .eq arg2 c42_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x11008 : Shape := ⟨2, ![8192, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenQkv.lean ====
abbrev S8192x4096 : Shape := ⟨2, ![8192, 4096]⟩
abbrev S2x4096x14384 : Shape := ⟨3, ![2, 4096, 14384]⟩
abbrev S8192x6144 : Shape := ⟨2, ![8192, 6144]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S8192x6144, .f32⟩
  | .local _ .vmem, ⟨0, _⟩ => ⟨S2048x512, .bf16⟩
  | .local _ .vmem, ⟨1, _⟩ => ⟨S2048x512, .bf16⟩
  | .local _ .vmem, ⟨2, _⟩ => ⟨S1x512x1024, .f32⟩
  | .local _ .vmem, ⟨3, _⟩ => ⟨S1x512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenQkvRefIdeal.lean ====
abbrev S8192x4096 : Shape := ⟨2, ![8192, 4096]⟩
abbrev S2x4096x14384 : Shape := ⟨3, ![2, 4096, 14384]⟩
abbrev S1x4096x14384 : Shape := ⟨3, ![1, 4096, 14384]⟩
abbrev S4096x14384 : Shape := ⟨2, ![4096, 14384]⟩
abbrev S4096x6144 : Shape := ⟨2, ![4096, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S8192x4096, .f32⟩
  | .hbm, ⟨3, _⟩ => ⟨S1x4096x14384, .f32⟩
  | .hbm, ⟨4, _⟩ => ⟨S4096x14384, .f32⟩
  | .hbm, ⟨5, _⟩ => ⟨S4096x6144, .f32⟩
  | .hbm, ⟨6, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EvenRest.lean ====
abbrev S8192x4096 : Shape := ⟨2, ![8192, 4096]⟩
abbrev S2x4096x14384 : Shape := ⟨3, ![2, 4096, 14384]⟩
abbrev S1x4096x14384 : Shape := ⟨3, ![1, 4096, 14384]⟩
abbrev S4096x14384 : Shape := ⟨2, ![4096, 14384]⟩
abbrev S4096x6144 : Shape := ⟨2, ![4096, 6144]⟩
abbrev S4096x2048 : Shape := ⟨2, ![4096, 2048]⟩
abbrev S4096x8192 : Shape := ⟨2, ![4096, 8192]⟩
abbrev S8192x8192 : Shape := ⟨2, ![8192, 8192]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S1x4096x14384, .f32⟩
  | .hbm, ⟨3, _⟩ => ⟨S4096x14384, .f32⟩
  | .hbm, ⟨4, _⟩ => ⟨S4096x6144, .f32⟩
  | .hbm, ⟨5, _⟩ => ⟨S4096x2048, .f32⟩
  | .hbm, ⟨6, _⟩ => ⟨S4096x8192, .f32⟩
  | .hbm, ⟨7, _⟩ => ⟨S4096x8192, .bf16⟩
  | .hbm, ⟨8, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenRestRefIdeal.lean ====
abbrev S8192x4096 : Shape := ⟨2, ![8192, 4096]⟩
abbrev S2x4096x14384 : Shape := ⟨3, ![2, 4096, 14384]⟩
abbrev S1x4096x14384 : Shape := ⟨3, ![1, 4096, 14384]⟩
abbrev S4096x14384 : Shape := ⟨2, ![4096, 14384]⟩
abbrev S8192x14384 : Shape := ⟨2, ![8192, 14384]⟩
abbrev S8192x6144 : Shape := ⟨2, ![8192, 6144]⟩
abbrev S8192x2048 : Shape := ⟨2, ![8192, 2048]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S8192x4096, .f32⟩
  | .hbm, ⟨3, _⟩ => ⟨S1x4096x14384, .f32⟩
  | .hbm, ⟨4, _⟩ => ⟨S4096x14384, .f32⟩
  | .hbm, ⟨5, _⟩ => ⟨S8192x14384, .f32⟩
  | .hbm, ⟨6, _⟩ => ⟨S8192x6144, .f32⟩
  | .hbm, ⟨7, _⟩ => ⟨S8192x2048, .f32⟩
  | .hbm, ⟨8, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MixOut.lean ====
abbrev S8192x4096 : Shape := ⟨2, ![8192, 4096]⟩
abbrev S2x4096x4096 : Shape := ⟨3, ![2, 4096, 4096]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1x512x1024, .f32⟩
  | .local _ .vmem, ⟨3, _⟩ => ⟨S1x512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenSmall.lean ====
abbrev S8192x4096 : Shape := ⟨2, ![8192, 4096]⟩
abbrev S2x4096x14384 : Shape := ⟨3, ![2, 4096, 14384]⟩
abbrev S1x4096x14384 : Shape := ⟨3, ![1, 4096, 14384]⟩
abbrev S4096x14384 : Shape := ⟨2, ![4096, 14384]⟩
abbrev S4096x32 : Shape := ⟨2, ![4096, 32]⟩
abbrev S4096x16 : Shape := ⟨2, ![4096, 16]⟩
abbrev S4096x48 : Shape := ⟨2, ![4096, 48]⟩
abbrev S_ : Shape := ⟨0, ![]⟩
abbrev S4096x128 : Shape := ⟨2, ![4096, 128]⟩
abbrev S8192x128 : Shape := ⟨2, ![8192, 128]⟩
abbrev S2048x512 : Shape := ⟨2, ![2048, 512]⟩
abbrev S512x128 : Shape := ⟨2, ![512, 128]⟩
abbrev S2048x128 : Shape := ⟨2, ![2048, 128]⟩

abbrev nBuf : Space → Nat
  | .hbm => 12
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S1x4096x14384, .f32⟩
  | .hbm, ⟨3, _⟩ => ⟨S4096x14384, .f32⟩
  | .hbm, ⟨4, _⟩ => ⟨S4096x32, .f32⟩
  | .hbm, ⟨5, _⟩ => ⟨S4096x16, .f32⟩
  | .hbm, ⟨6, _⟩ => ⟨S4096x48, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x128, .bf16⟩
  | .hbm, ⟨11, _⟩ => ⟨S8192x128, .f32⟩
  | .local _ .vmem, ⟨0, _⟩ => ⟨S2048x512, .bf16⟩
  | .local _ .vmem, ⟨1, _⟩ => ⟨S2048x512, .bf16⟩
  | .local _ .vmem, ⟨2, _⟩ => ⟨S512x128, .bf16⟩
  | .local _ .vmem, ⟨3, _⟩ => ⟨S512x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenSmallRefIdeal.lean ====
abbrev S8192x4096 : Shape := ⟨2, ![8192, 4096]⟩
abbrev S2x4096x14384 : Shape := ⟨3, ![2, 4096, 14384]⟩
abbrev S1x4096x14384 : Shape := ⟨3, ![1, 4096, 14384]⟩
abbrev S4096x14384 : Shape := ⟨2, ![4096, 14384]⟩
abbrev S8192x14384 : Shape := ⟨2, ![8192, 14384]⟩
abbrev S8192x32 : Shape := ⟨2, ![8192, 32]⟩
abbrev S8192x16 : Shape := ⟨2, ![8192, 16]⟩
abbrev S8192x48 : Shape := ⟨2, ![8192, 48]⟩
abbrev S_ : Shape := ⟨0, ![]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x14384, .f32⟩
  | .hbm, ⟨2, _⟩ => ⟨S8192x4096, .f32⟩
  | .hbm, ⟨3, _⟩ => ⟨S1x4096x14384, .f32⟩
  | .hbm, ⟨4, _⟩ => ⟨S4096x14384, .f32⟩
  | .hbm, ⟨5, _⟩ => ⟨S8192x14384, .f32⟩
  | .hbm, ⟨6, _⟩ => ⟨S8192x32, .f32⟩
  | .hbm, ⟨7, _⟩ => ⟨S8192x16, .f32⟩
  | .hbm, ⟨8, _⟩ => ⟨S8192x48, .f32⟩
  | .hbm, ⟨9, _⟩ => ⟨S_, .i32⟩
  | .hbm, ⟨10, _⟩ => ⟨S_, .f32⟩
  | .hbm, ⟨11, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MlaLatent.lean ====
abbrev S8192x4096 : Shape := ⟨2, ![8192, 4096]⟩
abbrev S2x4096x1600 : Shape := ⟨3, ![2, 4096, 1600]⟩
abbrev S1x4096x1600 : Shape := ⟨3, ![1, 4096, 1600]⟩
abbrev S4096x1600 : Shape := ⟨2, ![4096, 1600]⟩
abbrev S_ : Shape := ⟨0, ![]⟩
abbrev S4096x2048 : Shape := ⟨2, ![4096, 2048]⟩
abbrev S8192x2048 : Shape := ⟨2, ![8192, 2048]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x1600, .f32⟩
  | .hbm, ⟨2, _⟩ => ⟨S1x4096x1600, .f32⟩
  | .hbm, ⟨3, _⟩ => ⟨S4096x1600, .f32⟩
  | .hbm, ⟨4, _⟩ => ⟨S_, .i32⟩
  | .hbm, ⟨5, _⟩ => ⟨S_, .f32⟩
  | .hbm, ⟨6, _⟩ => ⟨S4096x2048, .f32⟩
  | .hbm, ⟨7, _⟩ => ⟨S4096x2048, .bf16⟩
  | .hbm, ⟨8, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaLatentRefIdeal.lean ====
abbrev S8192x4096 : Shape := ⟨2, ![8192, 4096]⟩
abbrev S2x4096x1600 : Shape := ⟨3, ![2, 4096, 1600]⟩
abbrev S1x4096x1600 : Shape := ⟨3, ![1, 4096, 1600]⟩
abbrev S4096x1600 : Shape := ⟨2, ![4096, 1600]⟩
abbrev S8192x1600 : Shape := ⟨2, ![8192, 1600]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1600, .f32⟩
  | .hbm, ⟨2, _⟩ => ⟨S8192x4096, .f32⟩
  | .hbm, ⟨3, _⟩ => ⟨S1x4096x1600, .f32⟩
  | .hbm, ⟨4, _⟩ => ⟨S4096x1600, .f32⟩
  | .hbm, ⟨5, _⟩ => ⟨S8192x1600, .f32⟩
  | .hbm, ⟨6, _⟩ => ⟨S_, .i32⟩
  | .hbm, ⟨7, _⟩ => ⟨S_, .f32⟩
  | .hbm, ⟨8, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlaQuery.lean ====
abbrev S8192x1024 : Shape := ⟨2, ![8192, 1024]⟩
abbrev S2x1024x6144 : Shape := ⟨3, ![2, 1024, 6144]⟩
abbrev S1x1024x6144 : Shape := ⟨3, ![1, 1024, 6144]⟩
abbrev S1024x6144 : Shape := ⟨2, ![1024, 6144]⟩
abbrev S1024x32x192 : Shape := ⟨3, ![1024, 32, 192]⟩
abbrev S1024x32x128 : Shape := ⟨3, ![1024, 32, 128]⟩
abbrev S1024x4096 : Shape := ⟨2, ![1024, 4096]⟩
abbrev S1024x32x64 : Shape := ⟨3, ![1024, 32, 64]⟩
abbrev S1024x2048 : Shape := ⟨2, ![1024, 2048]⟩
abbrev S8192x6144 : Shape := ⟨2, ![8192, 6144]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x6144, .f32⟩
  | .hbm, ⟨2, _⟩ => ⟨S1x1024x6144, .f32⟩
  | .hbm, ⟨3, _⟩ => ⟨S1024x6144, .f32⟩
  | .hbm, ⟨4, _⟩ => ⟨S1024x32x192, .f32⟩
  | .hbm, ⟨5, _⟩ => ⟨S1024x32x128, .f32⟩
  | .hbm, ⟨6, _⟩ => ⟨S1024x4096, .f32⟩
  | .hbm, ⟨7, _⟩ => ⟨S1024x32x64, .f32⟩
  | .hbm, ⟨8, _⟩ => ⟨S1024x2048, .f32⟩
  | .hbm, ⟨9, _⟩ => ⟨S1024x6144, .f32⟩
  | .hbm, ⟨10, _⟩ => ⟨S1024x6144, .bf16⟩
  | .hbm, ⟨11, _⟩ => ⟨S8192x6144, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQueryRefIdeal.lean ====
abbrev S8192x1024 : Shape := ⟨2, ![8192, 1024]⟩
abbrev S2x1024x6144 : Shape := ⟨3, ![2, 1024, 6144]⟩
abbrev S1x1024x6144 : Shape := ⟨3, ![1, 1024, 6144]⟩
abbrev S1024x6144 : Shape := ⟨2, ![1024, 6144]⟩
abbrev S8192x6144 : Shape := ⟨2, ![8192, 6144]⟩
abbrev S8192x32x192 : Shape := ⟨3, ![8192, 32, 192]⟩
abbrev S8192x32x128 : Shape := ⟨3, ![8192, 32, 128]⟩
abbrev S8192x4096 : Shape := ⟨2, ![8192, 4096]⟩
abbrev S8192x32x64 : Shape := ⟨3, ![8192, 32, 64]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x6144, .f32⟩
  | .hbm, ⟨2, _⟩ => ⟨S8192x1024, .f32⟩
  | .hbm, ⟨3, _⟩ => ⟨S1x1024x6144, .f32⟩
  | .hbm, ⟨4, _⟩ => ⟨S1024x6144, .f32⟩
  | .hbm, ⟨5, _⟩ => ⟨S8192x6144, .f32⟩
  | .hbm, ⟨6, _⟩ => ⟨S8192x32x192, .f32⟩
  | .hbm, ⟨7, _⟩ => ⟨S8192x32x128, .f32⟩
  | .hbm, ⟨8, _⟩ => ⟨S8192x4096, .f32⟩
  | .hbm, ⟨9, _⟩ => ⟨S8192x32x64, .f32⟩
  | .hbm, ⟨10, _⟩ => ⟨S8192x2048, .f32⟩
  | .hbm, ⟨11, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== MlaKeyVal.lean ====
abbrev S8192x512 : Shape := ⟨2, ![8192, 512]⟩
abbrev S2x512x32x256 : Shape := ⟨4, ![2, 512, 32, 256]⟩
abbrev S1x512x32x256 : Shape := ⟨4, ![1, 512, 32, 256]⟩
abbrev S512x32x256 : Shape := ⟨3, ![512, 32, 256]⟩
abbrev S512x8192 : Shape := ⟨2, ![512, 8192]⟩
abbrev S8192x8192 : Shape := ⟨2, ![8192, 8192]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S2x512x32x256, .f32⟩
  | .hbm, ⟨2, _⟩ => ⟨S1x512x32x256, .f32⟩
  | .hbm, ⟨3, _⟩ => ⟨S512x32x256, .f32⟩
  | .hbm, ⟨4, _⟩ => ⟨S512x8192, .f32⟩
  | .hbm, ⟨5, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKeyValRefIdeal.lean ====
abbrev S8192x512 : Shape := ⟨2, ![8192, 512]⟩
abbrev S2x512x32x256 : Shape := ⟨4, ![2, 512, 32, 256]⟩
abbrev S1x512x32x256 : Shape := ⟨4, ![1, 512, 32, 256]⟩
abbrev S512x32x256 : Shape := ⟨3, ![512, 32, 256]⟩
abbrev S8192x32x256 : Shape := ⟨3, ![8192, 32, 256]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x512x32x256, .f32⟩
  | .hbm, ⟨2, _⟩ => ⟨S8192x512, .f32⟩
  | .hbm, ⟨3, _⟩ => ⟨S1x512x32x256, .f32⟩
  | .hbm, ⟨4, _⟩ => ⟨S512x32x256, .f32⟩
  | .hbm, ⟨5, _⟩ => ⟨S8192x32x256, .f32⟩
  | .hbm, ⟨6, _⟩ => ⟨S8192x8192, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GdnStep.lean ====
abbrev S128x16x128 : Shape := ⟨3, ![128, 16, 128]⟩
abbrev S128x16 : Shape := ⟨2, ![128, 16]⟩
abbrev S128x16x128x128 : Shape := ⟨4, ![128, 16, 128, 128]⟩
abbrev S128x16x1 : Shape := ⟨3, ![128, 16, 1]⟩
abbrev S1x16x128 : Shape := ⟨3, ![1, 16, 128]⟩
abbrev S1x16x128x128 : Shape := ⟨4, ![1, 16, 128, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 13
  | .vmem => 16
  | .smem => 0
  | _ => 0

abbrev bufTy : (tb : Table) → Fin (tcTables nBuf tb) → BufTy
  | .hbm, ⟨0, _⟩ => ⟨S128x16x128, .f32⟩
  | .hbm, ⟨1, _⟩ => ⟨S128x16x128, .f32⟩
  | .hbm, ⟨2, _⟩ => ⟨S128x16x128, .f32⟩
  | .hbm, ⟨3, _⟩ => ⟨S128x16, .f32⟩
  | .hbm, ⟨4, _⟩ => ⟨S128x16, .f32⟩
  | .hbm, ⟨5, _⟩ => ⟨S128x16x128x128, .f32⟩
  | .hbm, ⟨6, _⟩ => ⟨S128x16, .f32⟩
  | .hbm, ⟨7, _⟩ => ⟨S128x16x1, .f32⟩
  | .hbm, ⟨8, _⟩ => ⟨S128x16x128, .f32⟩
  | .hbm, ⟨9, _⟩ => ⟨S128x16x1, .f32⟩
  | .hbm, ⟨10, _⟩ => ⟨S128x16x128, .f32⟩
  | .hbm, ⟨11, _⟩ => ⟨S128x16x128, .f32⟩
  | .hbm, ⟨12, _⟩ => ⟨S128x16x128x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128x128, .f32⟩
  | .local _ .vmem, ⟨11, _⟩ => ⟨S1x16x128x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128x128, .f32⟩
  | .local _ .vmem, ⟨15, _⟩ => ⟨S1x16x128x128, .f32⟩
  | _, _ => ⟨S128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnStepRefIdeal.lean ====
abbrev S128x16x128 : Shape := ⟨3, ![128, 16, 128]⟩
abbrev S128x16 : Shape := ⟨2, ![128, 16]⟩
abbrev S128x16x128x128 : Shape := ⟨4, ![128, 16, 128, 128]⟩
abbrev S128x16x1 : Shape := ⟨3, ![128, 16, 1]⟩
abbrev S128x16x1x1 : Shape := ⟨4, ![128, 16, 1, 1]⟩
abbrev S128x16x128x1 : Shape := ⟨4, ![128, 16, 128, 1]⟩
abbrev S128x16x1x128 : Shape := ⟨4, ![128, 16, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S128x16x128, .f32⟩
  | .hbm, ⟨1, _⟩ => ⟨S128x16x128, .f32⟩
  | .hbm, ⟨2, _⟩ => ⟨S128x16x128, .f32⟩
  | .hbm, ⟨3, _⟩ => ⟨S128x16, .f32⟩
  | .hbm, ⟨4, _⟩ => ⟨S128x16, .f32⟩
  | .hbm, ⟨5, _⟩ => ⟨S128x16x128x128, .f32⟩
  | .hbm, ⟨6, _⟩ => ⟨S128x16, .f32⟩
  | .hbm, ⟨7, _⟩ => ⟨S128x16x1, .f32⟩
  | .hbm, ⟨8, _⟩ => ⟨S128x16x1, .f32⟩
  | .hbm, ⟨9, _⟩ => ⟨S128x16x128, .f32⟩
  | .hbm, ⟨10, _⟩ => ⟨S128x16x128, .f32⟩
  | .hbm, ⟨11, _⟩ => ⟨S128x16x128, .f32⟩
  | .hbm, ⟨12, _⟩ => ⟨S128x16x128, .f32⟩
  | .hbm, ⟨13, _⟩ => ⟨S128x16x128, .f32⟩
  | .hbm, ⟨14, _⟩ => ⟨S128x16x128, .f32⟩
  | .hbm, ⟨15, _⟩ => ⟨S128x16x1, .f32⟩
  | .hbm, ⟨16, _⟩ => ⟨S128x16x128, .f32⟩
  | .hbm, ⟨17, _⟩ => ⟨S128x16x128, .f32⟩
  | .hbm, ⟨18, _⟩ => ⟨S128x16x128, .f32⟩
  | .hbm, ⟨19, _⟩ => ⟨S128x16, .f32⟩
  | .hbm, ⟨20, _⟩ => ⟨S128x16x1, .f32⟩
  | .hbm, ⟨21, _⟩ => ⟨S128x16x128, .f32⟩
  | .hbm, ⟨22, _⟩ => ⟨S128x16x128, .f32⟩
  | .hbm, ⟨23, _⟩ => ⟨S128x16x128, .f32⟩
  | .hbm, ⟨24, _⟩ => ⟨S128x16x1x1, .f32⟩
  | .hbm, ⟨25, _⟩ => ⟨S128x16x128x128, .f32⟩
  | .hbm, ⟨26, _⟩ => ⟨S128x16x128x128, .f32⟩
  | .hbm, ⟨27, _⟩ => ⟨S128x16x128x1, .f32⟩
  | .hbm, ⟨28, _⟩ => ⟨S128x16x1x128, .f32⟩
  | .hbm, ⟨29, _⟩ => ⟨S128x16x128x128, .f32⟩
  | .hbm, ⟨30, _⟩ => ⟨S128x16x128x128, .f32⟩
  | .hbm, ⟨31, _⟩ => ⟨S128x16x128x128, .f32⟩
  | .hbm, ⟨32, _⟩ => ⟨S128x16x128x128, .f32⟩
  | _, _ => ⟨S128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== MlstmStep.lean ====
abbrev S128x8x128 : Shape := ⟨3, ![128, 8, 128]⟩
abbrev S128x8x256 : Shape := ⟨3, ![128, 8, 256]⟩
abbrev S128x8 : Shape := ⟨2, ![128, 8]⟩
abbrev S128x8x128x256 : Shape := ⟨4, ![128, 8, 128, 256]⟩
abbrev S128x8x1 : Shape := ⟨3, ![128, 8, 1]⟩
abbrev S1x8x128 : Shape := ⟨3, ![1, 8, 128]⟩
abbrev S1x8x256 : Shape := ⟨3, ![1, 8, 256]⟩
abbrev S1x8x128x256 : Shape := ⟨4, ![1, 8, 128, 256]⟩
abbrev S1x1x128x256 : Shape := ⟨4, ![1, 1, 128, 256]⟩
abbrev S128x256 : Shape := ⟨2, ![128, 256]⟩
abbrev S1x1x128 : Shape := ⟨3, ![1, 1, 128]⟩
abbrev S1x128 : Shape := ⟨2, ![1, 128]⟩
abbrev S1x1x256 : Shape := ⟨3, ![1, 1, 256]⟩
abbrev S1x256 : Shape := ⟨2, ![1, 256]⟩
abbrev S1x1 : Shape := ⟨2, ![1, 1]⟩
abbrev S1 : Shape := ⟨1, ![1]⟩
abbrev S128x128 : Shape := ⟨2, ![128, 128]⟩
abbrev S128 : Shape := ⟨1, ![128]⟩
abbrev S128x1 : Shape := ⟨2, ![128, 1]⟩
abbrev S256 : Shape := ⟨1, ![256]⟩

abbrev nBuf : Space → Nat
  | .hbm => 18
  | .vmem => 24
  | .smem => 0
  | _ => 0

abbrev bufTy : (tb : Table) → Fin (tcTables nBuf tb) → BufTy
  | .hbm, ⟨0, _⟩ => ⟨S128x8x128, .f32⟩
  | .hbm, ⟨1, _⟩ => ⟨S128x8x128, .f32⟩
  | .hbm, ⟨2, _⟩ => ⟨S128x8x256, .f32⟩
  | .hbm, ⟨3, _⟩ => ⟨S128x8, .f32⟩
  | .hbm, ⟨4, _⟩ => ⟨S128x8, .f32⟩
  | .hbm, ⟨5, _⟩ => ⟨S128x8, .f32⟩
  | .hbm, ⟨6, _⟩ => ⟨S128x8x128x256, .f32⟩
  | .hbm, ⟨7, _⟩ => ⟨S128x8x128, .f32⟩
  | .hbm, ⟨8, _⟩ => ⟨S128x8x1, .f32⟩
  | .hbm, ⟨9, _⟩ => ⟨S128x8x128, .f32⟩
  | .hbm, ⟨10, _⟩ => ⟨S128x8x1, .f32⟩
  | .hbm, ⟨11, _⟩ => ⟨S128x8x128, .f32⟩
  | .hbm, ⟨12, _⟩ => ⟨S128x8x1, .f32⟩
  | .hbm, ⟨13, _⟩ => ⟨S128x8x128, .f32⟩
  | .hbm, ⟨14, _⟩ => ⟨S128x8x256, .f32⟩
  | .hbm, ⟨15, _⟩ => ⟨S128x8x128x256, .f32⟩
  | .hbm, ⟨16, _⟩ => ⟨S128x8x128, .f32⟩
  | .hbm, ⟨17, _⟩ => ⟨S128x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x256, .f32⟩
  | .local _ .vmem, ⟨5, _⟩ => ⟨S1x8x256, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128x256, .f32⟩
  | .local _ .vmem, ⟨13, _⟩ => ⟨S1x8x128x256, .f32⟩
  | .local _ .vmem, ⟨14, _⟩ => ⟨S1x8x128, .f32⟩
  | .local _ .vmem, ⟨15, _⟩ => ⟨S1x8x128, .f32⟩
  | .local _ .vmem, ⟨16, _⟩ => ⟨S1x8x256, .f32⟩
  | .local _ .vmem, ⟨17, _⟩ => ⟨S1x8x256, .f32⟩
  | .local _ .vmem, ⟨18, _⟩ => ⟨S1x8x128x256, .f32⟩
  | .local _ .vmem, ⟨19, _⟩ => ⟨S1x8x128x256, .f32⟩
  | .local _ .vmem, ⟨20, _⟩ => ⟨S1x8x128, .f32⟩
  | .local _ .vmem, ⟨21, _⟩ => ⟨S1x8x128, .f32⟩
  | .local _ .vmem, ⟨22, _⟩ => ⟨S1x8x128, .f32⟩
  | .local _ .vmem, ⟨23, _⟩ => ⟨S1x8x128, .f32⟩
  | _, _ => ⟨S128x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlstmStepRefIdeal.lean ====
abbrev S128x8x128 : Shape := ⟨3, ![128, 8, 128]⟩
abbrev S128x8x256 : Shape := ⟨3, ![128, 8, 256]⟩
abbrev S128x8 : Shape := ⟨2, ![128, 8]⟩
abbrev S128x8x128x256 : Shape := ⟨4, ![128, 8, 128, 256]⟩
abbrev S128x8x1 : Shape := ⟨3, ![128, 8, 1]⟩
abbrev S128x8x1x1 : Shape := ⟨4, ![128, 8, 1, 1]⟩
abbrev S128x8x128x1 : Shape := ⟨4, ![128, 8, 128, 1]⟩
abbrev S128x8x1x256 : Shape := ⟨4, ![128, 8, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S128x8x128, .f32⟩
  | .hbm, ⟨1, _⟩ => ⟨S128x8x128, .f32⟩
  | .hbm, ⟨2, _⟩ => ⟨S128x8x256, .f32⟩
  | .hbm, ⟨3, _⟩ => ⟨S128x8, .f32⟩
  | .hbm, ⟨4, _⟩ => ⟨S128x8, .f32⟩
  | .hbm, ⟨5, _⟩ => ⟨S128x8, .f32⟩
  | .hbm, ⟨6, _⟩ => ⟨S128x8x128x256, .f32⟩
  | .hbm, ⟨7, _⟩ => ⟨S128x8x128, .f32⟩
  | .hbm, ⟨8, _⟩ => ⟨S128x8, .f32⟩
  | .hbm, ⟨9, _⟩ => ⟨S128x8, .f32⟩
  | .hbm, ⟨10, _⟩ => ⟨S128x8, .f32⟩
  | .hbm, ⟨11, _⟩ => ⟨S128x8, .f32⟩
  | .hbm, ⟨12, _⟩ => ⟨S128x8, .f32⟩
  | .hbm, ⟨13, _⟩ => ⟨S128x8, .f32⟩
  | .hbm, ⟨14, _⟩ => ⟨S128x8, .f32⟩
  | .hbm, ⟨15, _⟩ => ⟨S128x8, .f32⟩
  | .hbm, ⟨16, _⟩ => ⟨S128x8, .f32⟩
  | .hbm, ⟨17, _⟩ => ⟨S128x8x1, .f32⟩
  | .hbm, ⟨18, _⟩ => ⟨S128x8x256, .f32⟩
  | .hbm, ⟨19, _⟩ => ⟨S128x8x256, .f32⟩
  | .hbm, ⟨20, _⟩ => ⟨S128x8x256, .f32⟩
  | .hbm, ⟨21, _⟩ => ⟨S128x8x1, .f32⟩
  | .hbm, ⟨22, _⟩ => ⟨S128x8x256, .f32⟩
  | .hbm, ⟨23, _⟩ => ⟨S128x8x256, .f32⟩
  | .hbm, ⟨24, _⟩ => ⟨S128x8x256, .f32⟩
  | .hbm, ⟨25, _⟩ => ⟨S128x8, .f32⟩
  | .hbm, ⟨26, _⟩ => ⟨S128x8, .f32⟩
  | .hbm, ⟨27, _⟩ => ⟨S128x8, .f32⟩
  | .hbm, ⟨28, _⟩ => ⟨S128x8, .f32⟩
  | .hbm, ⟨29, _⟩ => ⟨S128x8, .f32⟩
  | .hbm, ⟨30, _⟩ => ⟨S128x8, .f32⟩
  | .hbm, ⟨31, _⟩ => ⟨S128x8, .f32⟩
  | .hbm, ⟨32, _⟩ => ⟨S128x8x1, .f32⟩
  | .hbm, ⟨33, _⟩ => ⟨S128x8x256, .f32⟩
  | .hbm, ⟨34, _⟩ => ⟨S128x8x256, .f32⟩
  | .hbm, ⟨35, _⟩ => ⟨S128x8x1, .f32⟩
  | .hbm, ⟨36, _⟩ => ⟨S128x8x128, .f32⟩
  | .hbm, ⟨37, _⟩ => ⟨S128x8x128, .f32⟩
  | .hbm, ⟨38, _⟩ => ⟨S128x8x1x1, .f32⟩
  | .hbm, ⟨39, _⟩ => ⟨S128x8x128x256, .f32⟩
  | .hbm, ⟨40, _⟩ => ⟨S128x8x128x256, .f32⟩
  | .hbm, ⟨41, _⟩ => ⟨S128x8x128x1, .f32⟩
  | .hbm, ⟨42, _⟩ => ⟨S128x8x1x256, .f32⟩
  | .hbm, ⟨43, _⟩ => ⟨S128x8x128x256, .f32⟩
  | .hbm, ⟨44, _⟩ => ⟨S128x8x128x256, .f32⟩
  | .hbm, ⟨45, _⟩ => ⟨S128x8x128x256, .f32⟩
  | .hbm, ⟨46, _⟩ => ⟨S128x8x128x256, .f32⟩
  | .hbm, ⟨47, _⟩ => ⟨S128x8x1, .f32⟩
  | .hbm, ⟨48, _⟩ => ⟨S128x8x128, .f32⟩
  | .hbm, ⟨49, _⟩ => ⟨S128x8x128, .f32⟩
  | .hbm, ⟨50, _⟩ => ⟨S128x8x128, .f32⟩
  | .hbm, ⟨51, _⟩ => ⟨S128x8x1, .f32⟩
  | .hbm, ⟨52, _⟩ => ⟨S128x8x128, .f32⟩
  | _, _ => ⟨S128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== AbsorbQ.lean ====
abbrev S128x4096 : Shape := ⟨2, ![128, 4096]⟩
abbrev S2x512x32x256 : Shape := ⟨4, ![2, 512, 32, 256]⟩
abbrev S1x512x32x256 : Shape := ⟨4, ![1, 512, 32, 256]⟩
abbrev S512x32x256 : Shape := ⟨3, ![512, 32, 256]⟩
abbrev S512x8192 : Shape := ⟨2, ![512, 8192]⟩
abbrev S128x16384 : Shape := ⟨2, ![128, 16384]⟩
abbrev S128x128 : Shape := ⟨2, ![128, 128]⟩
abbrev S512x128 : Shape := ⟨2, ![512, 128]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S2x512x32x256, .f32⟩
  | .hbm, ⟨2, _⟩ => ⟨S1x512x32x256, .f32⟩
  | .hbm, ⟨3, _⟩ => ⟨S512x32x256, .f32⟩
  | .hbm, ⟨4, _⟩ => ⟨S512x8192, .f32⟩
  | .hbm, ⟨5, _⟩ => ⟨S128x16384, .f32⟩
  | .local _ .vmem, ⟨0, _⟩ => ⟨S128x128, .f32⟩
  | .local _ .vmem, ⟨1, _⟩ => ⟨S128x128, .f32⟩
  | .local _ .vmem, ⟨2, _⟩ => ⟨S512x128, .f32⟩
  | .local _ .vmem, ⟨3, _⟩ => ⟨S512x128, .f32⟩
  | .local _ .vmem, ⟨4, _⟩ => ⟨S128x512, .f32⟩
  | .local _ .vmem, ⟨5, _⟩ => ⟨S128x512, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AbsorbQRefIdeal.lean ====
abbrev S128x4096 : Shape := ⟨2, ![128, 4096]⟩
abbrev S2x512x32x256 : Shape := ⟨4, ![2, 512, 32, 256]⟩
abbrev S128x32x128 : Shape := ⟨3, ![128, 32, 128]⟩
abbrev S1x512x32x256 : Shape := ⟨4, ![1, 512, 32, 256]⟩
abbrev S512x32x256 : Shape := ⟨3, ![512, 32, 256]⟩
abbrev S512x32x128 : Shape := ⟨3, ![512, 32, 128]⟩
abbrev S32x512x128 : Shape := ⟨3, ![32, 512, 128]⟩
abbrev S128x32x512 : Shape := ⟨3, ![128, 32, 512]⟩
abbrev S128x16384 : Shape := ⟨2, ![128, 16384]⟩

abbrev nBuf : Space → Nat
  | .hbm => 9
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S2x512x32x256, .f32⟩
  | .hbm, ⟨2, _⟩ => ⟨S128x32x128, .f32⟩
  | .hbm, ⟨3, _⟩ => ⟨S1x512x32x256, .f32⟩
  | .hbm, ⟨4, _⟩ => ⟨S512x32x256, .f32⟩
  | .hbm, ⟨5, _⟩ => ⟨S512x32x128, .f32⟩
  | .hbm, ⟨6, _⟩ => ⟨S32x512x128, .f32⟩
  | .hbm, ⟨7, _⟩ => ⟨S128x32x512, .f32⟩
  | .hbm, ⟨8, _⟩ => ⟨S128x16384, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AbsorbV.lean ====
abbrev S128x16384 : Shape := ⟨2, ![128, 16384]⟩
abbrev S2x512x32x256 : Shape := ⟨4, ![2, 512, 32, 256]⟩
abbrev S1x512x32x256 : Shape := ⟨4, ![1, 512, 32, 256]⟩
abbrev S512x32x256 : Shape := ⟨3, ![512, 32, 256]⟩
abbrev S512x8192 : Shape := ⟨2, ![512, 8192]⟩
abbrev S128x4096 : Shape := ⟨2, ![128, 4096]⟩
abbrev S128x512 : Shape := ⟨2, ![128, 512]⟩
abbrev S512x128 : Shape := ⟨2, ![512, 128]⟩
abbrev S128x128 : Shape := ⟨2, ![128, 128]⟩

abbrev nBuf : Space → Nat
  | .hbm => 6
  | .vmem => 6
  | .smem => 0
  | _ => 0

abbrev bufTy : (tb : Table) → Fin (tcTables nBuf tb) → BufTy
  | .hbm, ⟨0, _⟩ => ⟨S128x16384, .f32⟩
  | .hbm, ⟨1, _⟩ => ⟨S2x512x32x256, .f32⟩
  | .hbm, ⟨2, _⟩ => ⟨S1x512x32x256, .f32⟩
  | .hbm, ⟨3, _⟩ => ⟨S512x32x256, .f32⟩
  | .hbm, ⟨4, _⟩ => ⟨S512x8192, .f32⟩
  | .hbm, ⟨5, _⟩ => ⟨S128x4096, .f32⟩
  | .local _ .vmem, ⟨0, _⟩ => ⟨S128x512, .f32⟩
  | .local _ .vmem, ⟨1, _⟩ => ⟨S128x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AbsorbVRefIdeal.lean ====
abbrev S128x16384 : Shape := ⟨2, ![128, 16384]⟩
abbrev S2x512x32x256 : Shape := ⟨4, ![2, 512, 32, 256]⟩
abbrev S128x32x512 : Shape := ⟨3, ![128, 32, 512]⟩
abbrev S1x512x32x256 : Shape := ⟨4, ![1, 512, 32, 256]⟩
abbrev S512x32x256 : Shape := ⟨3, ![512, 32, 256]⟩
abbrev S512x32x128 : Shape := ⟨3, ![512, 32, 128]⟩
abbrev S32x128x128 : Shape := ⟨3, ![32, 128, 128]⟩
abbrev S128x32x128 : Shape := ⟨3, ![128, 32, 128]⟩
abbrev S128x4096 : Shape := ⟨2, ![128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S2x512x32x256, .f32⟩
  | .hbm, ⟨2, _⟩ => ⟨S128x32x512, .f32⟩
  | .hbm, ⟨3, _⟩ => ⟨S1x512x32x256, .f32⟩
  | .hbm, ⟨4, _⟩ => ⟨S512x32x256, .f32⟩
  | .hbm, ⟨5, _⟩ => ⟨S512x32x128, .f32⟩
  | .hbm, ⟨6, _⟩ => ⟨S32x128x128, .f32⟩
  | .hbm, ⟨7, _⟩ => ⟨S128x32x128, .f32⟩
  | .hbm, ⟨8, _⟩ => ⟨S128x4096, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Decode.lean ====
abbrev S128x32x512 : Shape := ⟨3, ![128, 32, 512]⟩
abbrev S128x32x64 : Shape := ⟨3, ![128, 32, 64]⟩
abbrev S128x1x512 : Shape := ⟨3, ![128, 1, 512]⟩
abbrev S128x1x64 : Shape := ⟨3, ![128, 1, 64]⟩
abbrev S2x10240x128x512 : Shape := ⟨4, ![2, 10240, 128, 512]⟩
abbrev S2x10240x128x64 : Shape := ⟨4, ![2, 10240, 128, 64]⟩
abbrev S128x64 : Shape := ⟨2, ![128, 64]⟩
abbrev S1x32x512 : Shape := ⟨3, ![1, 32, 512]⟩
abbrev S1x32x64 : Shape := ⟨3, ![1, 32, 64]⟩
abbrev S1x1x512 : Shape := ⟨3, ![1, 1, 512]⟩
abbrev S1x1x64 : Shape := ⟨3, ![1, 1, 64]⟩
abbrev S1x1x128x512 : Shape := ⟨4, ![1, 1, 128, 512]⟩
abbrev S1x1 : Shape := ⟨2, ![1, 1]⟩
abbrev S1x1x128x64 : Shape := ⟨4, ![1, 1, 128, 64]⟩
abbrev S32x1 : Shape := ⟨2, ![32, 1]⟩
abbrev S32x512 : Shape := ⟨2, ![32, 512]⟩
abbrev S32x64 : Shape := ⟨2, ![32, 64]⟩
abbrev S128x512 : Shape := ⟨2, ![128, 512]⟩
abbrev S32x128 : Shape := ⟨2, ![32, 128]⟩
abbrev S32x1024 : Shape := ⟨2, ![32, 1024]⟩
abbrev S32 : Shape := ⟨1, ![32]⟩
abbrev S1x512 : Shape := ⟨2, ![1, 512]⟩
abbrev S1x64 : Shape := ⟨2, ![1, 64]⟩

abbrev nBuf : Space → Nat
  | .hbm => 7
  | .vmem => 45
  | .smem => 1
  | _ => 0

abbrev bufTy : (tb : Table) → Fin (tcTables nBuf tb) → BufTy
  | .hbm, ⟨0, _⟩ => ⟨S128x32x512, .f32⟩
  | .hbm, ⟨1, _⟩ => ⟨S128x32x64, .f32⟩
  | .hbm, ⟨2, _⟩ => ⟨S128x1x512, .f32⟩
  | .hbm, ⟨3, _⟩ => ⟨S128x1x64, .f32⟩
  | .hbm, ⟨4, _⟩ => ⟨S2x10240x128x512, .f32⟩
  | .hbm, ⟨5, _⟩ => ⟨S2x10240x128x64, .f32⟩
  | .hbm, ⟨6, _⟩ => ⟨S128x32x512, .f32⟩
  | .local _ .vmem, ⟨0, _⟩ => ⟨S1x32x512, .f32⟩
  | .local _ .vmem, ⟨1, _⟩ => ⟨S1x32x512, .f32⟩
  | .local _ .vmem, ⟨2, _⟩ => ⟨S1x32x64, .f32⟩
  | .local _ .vmem, ⟨3, _⟩ => ⟨S1x32x64, .f32⟩
  | .local _ .vmem, ⟨4, _⟩ => ⟨S1x1x512, .f32⟩
  | .local _ .vmem, ⟨5, _⟩ => ⟨S1x1x512, .f32⟩
  | .local _ .vmem, ⟨6, _⟩ => ⟨S1x1x64, .f32⟩
  | .local _ .vmem, ⟨7, _⟩ => ⟨S1x1x64, .f32⟩
  | .local _ .vmem, ⟨8, _⟩ => ⟨S1x1x128x512, .f32⟩
  | .local _ .vmem, ⟨9, _⟩ => ⟨S1x1x128x512, .f32⟩
  | .local _ .vmem, ⟨10, _⟩ => ⟨S1x1x128x512, .f32⟩
  | .local _ .vmem, ⟨11, _⟩ => ⟨S1x1x128x512, .f32⟩
  | .local _ .vmem, ⟨12, _⟩ => ⟨S1x1x128x512, .f32⟩
  | .local _ .vmem, ⟨13, _⟩ => ⟨S1x1x128x512, .f32⟩
  | .local _ .vmem, ⟨14, _⟩ => ⟨S1x1x128x512, .f32⟩
  | .local _ .vmem, ⟨15, _⟩ => ⟨S1x1x128x512, .f32⟩
  | .local _ .vmem, ⟨16, _⟩ => ⟨S1x1x128x512, .f32⟩
  | .local _ .vmem, ⟨17, _⟩ => ⟨S1x1x128x512, .f32⟩
  | .local _ .vmem, ⟨18, _⟩ => ⟨S1x1x128x512, .f32⟩
  | .local _ .vmem, ⟨19, _⟩ => ⟨S1x1x128x512, .f32⟩
  | .local _ .vmem, ⟨20, _⟩ => ⟨S1x1x128x512, .f32⟩
  | .local _ .vmem, ⟨21, _⟩ => ⟨S1x1x128x512, .f32⟩
  | .local _ .vmem, ⟨22, _⟩ => ⟨S1x1x128x512, .f32⟩
  | .local _ .vmem, ⟨23, _⟩ => ⟨S1x1x128x512, .f32⟩
  | .local _ .vmem, ⟨24, _⟩ => ⟨S1x1x128x64, .f32⟩
  | .local _ .vmem, ⟨25, _⟩ => ⟨S1x1x128x64, .f32⟩
  | .local _ .vmem, ⟨26, _⟩ => ⟨S1x1x128x64, .f32⟩
  | .local _ .vmem, ⟨27, _⟩ => ⟨S1x1x128x64, .f32⟩
  | .local _ .vmem, ⟨28, _⟩ => ⟨S1x1x128x64, .f32⟩
  | .local _ .vmem, ⟨29, _⟩ => ⟨S1x1x128x64, .f32⟩
  | .local _ .vmem, ⟨30, _⟩ => ⟨S1x1x128x64, .f32⟩
  | .local _ .vmem, ⟨31, _⟩ => ⟨S1x1x128x64, .f32⟩
  | .local _ .vmem, ⟨32, _⟩ => ⟨S1x1x128x64, .f32⟩
  | .local _ .vmem, ⟨33, _⟩ => ⟨S1x1x128x64, .f32⟩
  | .local _ .vmem, ⟨34, _⟩ => ⟨S1x1x128x64, .f32⟩
  | .local _ .vmem, ⟨35, _⟩ => ⟨S1x1x128x64, .f32⟩
  | .local _ .vmem, ⟨36, _⟩ => ⟨S1x1x128x64, .f32⟩
  | .local _ .vmem, ⟨37, _⟩ => ⟨S1x1x128x64, .f32⟩
  | .local _ .vmem, ⟨38, _⟩ => ⟨S1x1x128x64, .f32⟩
  | .local _ .vmem, ⟨39, _⟩ => ⟨S1x1x128x64, .f32⟩
  | .local _ .vmem, ⟨40, _⟩ => ⟨S1x32x512, .f32⟩
  | .local _ .vmem, ⟨41, _⟩ => ⟨S1x32x512, .f32⟩
  | .local _ .vmem, ⟨42, _⟩ => ⟨S32x1, .f32⟩
  | .local _ .vmem, ⟨43, _⟩ => ⟨S32x1, .f32⟩
  | .local _ .vmem, ⟨44, _⟩ => ⟨S32x512, .f32⟩
  | .local _ .smem, ⟨0, _⟩ => ⟨S128x64, .i32⟩
  | _, _ => ⟨S128x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![128, 8], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c7_i32 : BitVec 32 := 7#32
  let v168 : BitVec 1 := Scalar.cmpi .eq arg1 c7_i32
  let v169 : BitVec 32 := Scalar.extui v168
  let c0_i32_141 : BitVec 32 := 0#32
  let v170 : BitVec 1 := Scalar.cmpi .ne v169 c0_i32_141
  v170

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_5 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_11 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_12 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_13 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_14 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_15 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_16 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_17 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_18 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_19 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Proof.FlashIdealRuns.lean ====
/-
  The attention kernel's body, run once for each of the five combinations its three conditionals take over the
  grid: what its stores leave in the output block and in the three carried scratch arrays.
-/
module

public import proofs.«01_k».proof.Proof.Gen.FlashIdeal.Frame
public import proofs.«01_k».proof.Proof.Gen.FlashIdeal.Skeleton
public import Idealize.ShloMosaic.Lib.Pipeline.FrameBody
public import Idealize.ShloMosaic.Lib.Ring
public import Idealize.ShloMosaic.Lib.Tactic
public import Idealize.ShloMosaic.Lib.WordCmp

@[expose] public section

-- (rectangles of the arrays' full extents: one level of recursion per coordinate of a long axis)
set_option maxRecDepth 16384

noncomputable section

namespace Cert.FlashIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 4 % 4 := Pipeline.Grid.coords_val t 2 (by decide) rfl
    have e3 : (grid0.coords t 3).val = t.val / 1 % 4 := Pipeline.Grid.coords_val t 3 (by decide) rfl
    simp only [cond0_0, e0, e1, e2, e3]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 3).val) (BitVec.ofNat 32 (i 2).val))) 0#32) = 1#1
/-- It holds at the points whose coordinates have i3 ≤ i2 — decided over the grid. -/
theorem hcond0_1 : ∀ t : Fin cfg0.N, cond0_1 (grid0.coords t) ↔ t.val % 4 ≤ t.val / 4 % 4 :=
  (by decide +kernel : ∀ t : Fin grid0.N, cond0_1 (grid0.coords t) ↔ t.val % 4 ≤ t.val / 4 % 4)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 4 % 4 = t.val % 4 :=
  (by decide +kernel : ∀ t : Fin grid0.N, cond0_2 (grid0.coords t) ↔ t.val / 4 % 4 = t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → cond0_1 (grid0.coords t) → cond0_2 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → ¬cond0_2 (grid0.coords t) → cfg0.idle 4 (grid0.coords t) = true := by decide +kernel
/-- At the points of case C the printed configuration (`Cfg.idle`) calls output 4 idle: the case stores nothing into it. -/
theorem idleAt0_4_C : ∀ t : Fin cfg0.N, cond0_0 (grid0.coords t) → cond0_1 (grid0.coords t) → ¬cond0_2 (grid0.coords t) → cfg0.idle 4 (grid0.coords t) = true := by decide +kernel
/-- At the points of case C the pipeline does not write output 4's block back. -/
theorem noFlush0_4_C : ∀ t : Fin cfg0.N, cond0_0 (grid0.coords t) → cond0_1 (grid0.coords t) → ¬cond0_2 (grid0.coords t) → (cfg0.win 4).flush t = false := by decide +kernel
/-- At the points of case D the printed configuration (`Cfg.idle`) calls output 4 live: the case stores into it. -/
theorem liveAt0_4_D : ∀ t : Fin cfg0.N, ¬cond0_0 (grid0.coords t) → cond0_1 (grid0.coords t) → cond0_2 (grid0.coords t) → cfg0.idle 4 (grid0.coords t) = false := by decide +kernel
/-- At the points of case E the printed configuration (`Cfg.idle`) calls output 4 idle: the case stores nothing into it. -/
theorem idleAt0_4_E : ∀ t : Fin cfg0.N, ¬cond0_0 (grid0.coords t) → cond0_1 (grid0.coords t) → ¬cond0_2 (grid0.coords t) → cfg0.idle 4 (grid0.coords t) = true := by decide +kernel
/-- At the points of case E the pipeline does not write output 4's block back. -/
theorem noFlush0_4_E : ∀ t : Fin cfg0.N, ¬cond0_0 (grid0.coords t) → cond0_1 (grid0.coords t) → ¬cond0_2 (grid0.coords t) → (cfg0.win 4).flush t = false := by decide +kernel

/-! ## The kernel body on any staging memrefs: a subtype the run finds -/

/-- One staging buffer of output window 4, through which its contents are stated (`View.read_writes_of_cover`: the
    choice does not matter). -/
abbrev VO0_4 : View sig .tc .vmem S512x256 .f32 := (Memref.whole cc0_stg4_0 : Memref sig .tc .vmem S512x256 .f32).view
/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x512x1 .f32 := Memref.whole cc0_scratch0
abbrev scM0_1 : Memref sig .tc .vmem S2x512x1 .f32 := Memref.whole cc0_scratch1
abbrev scM0_2 : Memref sig .tc .vmem S2x512x128 .f32 := Memref.whole cc0_scratch2
/-- The scratch `arg9` the kernel carries between points, as a view: what it holds is stated through it. -/
abbrev VS0_0 : View sig .tc .vmem S2x512x1 .f32 := scM0_0.view
/-- The scratch `arg10` the kernel carries between points, as a view: what it holds is stated through it. -/
abbrev VS0_1 : View sig .tc .vmem S2x512x1 .f32 := scM0_1.view
/-- The scratch `arg11` the kernel carries between points, as a view: what it holds is stated through it. -/
abbrev VS0_2 : View sig .tc .vmem S2x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken: points 0, 16, … 1008: 64 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) :
    Σ' (L4 : List (View.Piece (Elt F) S512x256 .f32)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_mla_flash_prompt i arg4 harg4 arg5 harg5 arg6 harg6 arg7 harg7 arg8 harg8 arg9 harg9 arg10 harg10 arg11 harg11) K } := by
  refine ⟨?_, ?_, ?_, ?_, fun E K => ?run⟩
  case run =>
    simp only [cc0_mla_flash_prompt_eq_skeleton]; unfold cc0_mla_flash_prompt_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 1019: 384 of 1024), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) :
    Σ' (L4 : List (View.Piece (Elt F) S512x256 .f32)), Σ' (LS0 : List (View.Piece (Elt F) S2x512x1 .f32)), Σ' (LS1 : List (View.Piece (Elt F) S2x512x1 .f32)), { LS2 : List (View.Piece (Elt F) S2x512x128 .f32) //
      ∀ (xi4 : Vec F S512x256 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_mla_flash_prompt i arg4 harg4 arg5 harg5 arg6 harg6 arg7 harg7 arg8 harg8 arg9 harg9 arg10 harg10 arg11 harg11) K } := by
  refine ⟨[], [], [], [], fun xi4 E K => ?run⟩
  case run =>
    simp only [cc0_mla_flash_prompt_eq_skeleton]; unfold cc0_mla_flash_prompt_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

-- (the run's proof term is large: the definition's epilogue — `abstractNestedProofs` — walks it past the default budget)
set_option maxHeartbeats 1000000 in
/-- What the body's stores leave in each output's staging memref, as pieces (last first) IN CASE C (`scf.if` 0 taken, `scf.if` 1 taken, `scf.if` 2 not taken: points 4, 8, … 1020: 192 of 1024), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) :
    Σ' (L4 : List (View.Piece (Elt F) S512x256 .f32)), Σ' (LS0 : List (View.Piece (Elt F) S2x512x1 .f32)), Σ' (LS1 : List (View.Piece (Elt F) S2x512x1 .f32)), { LS2 : List (View.Piece (Elt F) S2x512x128 .f32) //
      ∀ (xi4 : Vec F S512x256 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_mla_flash_prompt i arg4 harg4 arg5 harg5 arg6 harg6 arg7 harg7 arg8 harg8 arg9 harg9 arg10 harg10 arg11 harg11) K } := by
  refine ⟨[], ?_, ?_, ?_, fun xi4 E K => ?run⟩
  case run =>
    simp only [cc0_mla_flash_prompt_eq_skeleton]; unfold cc0_mla_flash_prompt_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

-- (the run's proof term is large: the definition's epilogue — `abstractNestedProofs` — walks it past the default budget)
set_option maxHeartbeats 1200000 in
/-- What the body's stores leave in each output's staging memref, as pieces (last first) IN CASE D (`scf.if` 0 not taken, `scf.if` 1 taken, `scf.if` 2 taken: points 5, 10, … 1023: 192 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) :
    Σ' (L4 : List (View.Piece (Elt F) S512x256 .f32)), Σ' (LS0 : List (View.Piece (Elt F) S2x512x1 .f32)), Σ' (LS1 : List (View.Piece (Elt F) S2x512x1 .f32)), { LS2 : List (View.Piece (Elt F) S2x512x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_mla_flash_prompt i arg4 harg4 arg5 harg5 arg6 harg6 arg7 harg7 arg8 harg8 arg9 harg9 arg10 harg10 arg11 harg11) K } := by
  refine ⟨?_, ?_, ?_, ?_, fun E K => ?run⟩
  case run =>
    simp only [cc0_mla_flash_prompt_eq_skeleton]; unfold cc0_mla_flash_prompt_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

-- (the run's proof term is large: the definition's epilogue — `abstractNestedProofs` — walks it past the default budget)
set_option maxHeartbeats 1200000 in
/-- What the body's stores leave in each output's staging memref, as pieces (last first) IN CASE E (`scf.if` 0 not taken, `scf.if` 1 taken, `scf.if` 2 not taken: points 9, 13, … 1022: 192 of 1024), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) :
    Σ' (L4 : List (View.Piece (Elt F) S512x256 .f32)), Σ' (LS0 : List (View.Piece (Elt F) S2x512x1 .f32)), Σ' (LS1 : List (View.Piece (Elt F) S2x512x1 .f32)), { LS2 : List (View.Piece (Elt F) S2x512x128 .f32) //
      ∀ (xi4 : Vec F S512x256 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_mla_flash_prompt i arg4 harg4 arg5 harg5 arg6 harg6 arg7 harg7 arg8 harg8 arg9 harg9 arg10 harg10 arg11 harg11) K } := by
  refine ⟨[], ?_, ?_, ?_, fun xi4 E K => ?run⟩
  case run =>
    simp only [cc0_mla_flash_prompt_eq_skeleton]; unfold cc0_mla_flash_prompt_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

end Cert.FlashIdeal.Gen

end
-- ==== Proof.FlashIdealFrame.lean ====
/-
  The attention kernel's frame: what the output block and the scratch hold after each grid point, the proof that the
  body keeps it so, and the run of the launch.  Past the diagonal key block of a row the body leaves the output
  alone although the block is written back only at the row's last point: there the block is the one the diagonal point
  stored, carried.
-/
module

public import proofs.«01_k».proof.Proof.FlashIdealRuns
public import Idealize.ShloMosaic.Lib.Claim
public import Idealize.ShloMosaic.Lib.Pipeline.TableIdle

@[expose] public section

-- (rectangles of the arrays' full extents: one level of recursion per coordinate of a long axis)
set_option maxRecDepth 16384

noncomputable section

namespace Cert.FlashIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (2 stores of `S512x128`, checked by the kernel's evaluation: Lib/Ring.lean `Piece.tiledL`, linear in the pieces, through a loop's `@[irreducible]` trip theorem too), so they cover it. -/
theorem cover0_A_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) (y : S512x256.Idx) :
    ∃ pc ∈ (kernelRun0_A c i arg4 harg4 arg5 harg5 arg6 harg6 arg7 harg7 arg8 harg8 arg9 harg9 arg10 harg10 arg11 harg11 hc0 hc1 hc2 x0 x1 x2 x3).1, y ∈ pc.1.set :=
  View.cover_of_tiledL (kernelRun0_A c i arg4 harg4 arg5 harg5 arg6 harg6 arg7 harg7 arg8 harg8 arg9 harg9 arg10 harg10 arg11 harg11 hc0 hc1 hc2 x0 x1 x2 x3).1 S512x128.size (by sl_kernel_rfl) y

/-- What case A leaves in output 4's staging buffer: its pieces read back over junk. -/
def out0_A_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) : Vec F S512x256 .f32 :=
  VO0_4.read (Elt F) (VO0_4.writes (Elt F) VO0_4.junk (kernelRun0_A c i arg4 harg4 arg5 harg5 arg6 harg6 arg7 harg7 arg8 harg8 arg9 harg9 arg10 harg10 arg11 harg11 hc0 hc1 hc2 x0 x1 x2 x3).1)

/-- Case A's pieces for scratch `arg9`, which the kernel carries between points, cover it: one of them a store of the WHOLE buffer (Lib/Ring.lean `sl_whole_mem`). -/
theorem scover0_A_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) (y : S2x512x1.Idx) :
    ∃ pc ∈ (kernelRun0_A c i arg4 harg4 arg5 harg5 arg6 harg6 arg7 harg7 arg8 harg8 arg9 harg9 arg10 harg10 arg11 harg11 hc0 hc1 hc2 x0 x1 x2 x3).2.1, y ∈ pc.1.set :=
  View.cover_of_wholeMem (kernelRun0_A c i arg4 harg4 arg5 harg5 arg6 harg6 arg7 harg7 arg8 harg8 arg9 harg9 arg10 harg10 arg11 harg11 hc0 hc1 hc2 x0 x1 x2 x3).2.1 (by sl_whole_mem) y

/-- What case A leaves in scratch `arg9`: its pieces read back over junk. -/
def sout0_A_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) : Vec F S2x512x1 .f32 :=
  VS0_0.read (Elt F) (VS0_0.writes (Elt F) VS0_0.junk (kernelRun0_A c i arg4 harg4 arg5 harg5 arg6 harg6 arg7 harg7 arg8 harg8 arg9 harg9 arg10 harg10 arg11 harg11 hc0 hc1 hc2 x0 x1 x2 x3).2.1)

/-- Case A's pieces for scratch `arg10`, which the kernel carries between points, cover it: one of them a store of the WHOLE buffer (Lib/Ring.lean `sl_whole_mem`). -/
theorem scover0_A_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) (y : S2x512x1.Idx) :
    ∃ pc ∈ (kernelRun0_A c i arg4 harg4 arg5 harg5 arg6 harg6 arg7 harg7 arg8 harg8 arg9 harg9 arg10 harg10 arg11 harg11 hc0 hc1 hc2 x0 x1 x2 x3).2.2.1, y ∈ pc.1.set :=
  View.cover_of_wholeMem (kernelRun0_A c i arg4 harg4 arg5 harg5 arg6 harg6 arg7 harg7 arg8 harg8 arg9 harg9 arg10 harg10 arg11 harg11 hc0 hc1 hc2 x0 x1 x2 x3).2.2.1 (by sl_whole_mem) y

/-- What case A leaves in scratch `arg10`: its pieces read back over junk. -/
def sout0_A_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) : Vec F S2x512x1 .f32 :=
  VS0_1.read (Elt F) (VS0_1.writes (Elt F) VS0_1.junk (kernelRun0_A c i arg4 harg4 arg5 harg5 arg6 harg6 arg7 harg7 arg8 harg8 arg9 harg9 arg10 harg10 arg11 harg11 hc0 hc1 hc2 x0 x1 x2 x3).2.2.1)

/-- Case A's pieces for scratch `arg11`, which the kernel carries between points, cover it: one of them a store of the WHOLE buffer (Lib/Ring.lean `sl_whole_mem`). -/
theorem scover0_A_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) (y : S2x512x128.Idx) :
    ∃ pc ∈ (kernelRun0_A c i arg4 harg4 arg5 harg5 arg6 harg6 arg7 harg7 arg8 harg8 arg9 harg9 arg10 harg10 arg11 harg11 hc0 hc1 hc2 x0 x1 x2 x3).2.2.2.1, y ∈ pc.1.set :=
  View.cover_of_wholeMem (kernelRun0_A c i arg4 harg4 arg5 harg5 arg6 harg6 arg7 harg7 arg8 harg8 arg9 harg9 arg10 harg10 arg11 harg11 hc0 hc1 hc2 x0 x1 x2 x3).2.2.2.1 (by sl_whole_mem) y

/-- What case A leaves in scratch `arg11`: its pieces read back over junk. -/
def sout0_A_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : cond0_2 i)
    (x0 : Vec F S512x256 .f32) (x1 : Vec F S512x128 .f32) (x2 : Vec F S512x512 .f32) (x3 : Vec F S512x64 .f32) : Vec F S2x512x128 .f32 :=
  VS0_2.read (Elt F) (VS0_2.writes (Elt F) VS0_2.junk (kernelRun0_A c i arg4 harg4 arg5 harg5 arg6 harg6 arg7 harg7 arg8 harg8 arg9 harg9 arg10 harg10 arg11 harg11 hc0 hc1 hc2 x0 x1 x2 x3).2.2.2.1)

/-- Case B stores nothing into scratch `arg9`: it holds what the point before left. -/
def sout0_B_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 := xs0

/-- Case B stores nothing into scratch `arg10`: it holds what the point before left. -/
def sout0_B_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 := xs1

/-- Case B stores nothing into scratch `arg11`: it holds what the point before left. -/
def sout0_B_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : ¬cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x128 .f32 := xs2

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) : Vec F S512x256 .f32 :=
  VO0_4.read (Elt F) (VO0_4.writes (Elt F) VO0_4.junk (kernelRun0_C c i arg4 harg4 arg5 harg5 arg6 harg6 arg7 harg7 arg8 harg8 arg9 harg9 arg10 harg10 arg11 harg11 hc0 hc1 hc2 x0 x1 x2 x3).1)

/-- Case C's pieces for scratch `arg9`, which the kernel carries between points, cover it: one of them a store of the WHOLE buffer (Lib/Ring.lean `sl_whole_mem`). -/
theorem scover0_C_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) (y : S2x512x1.Idx) :
    ∃ pc ∈ (kernelRun0_C c i arg4 harg4 arg5 harg5 arg6 harg6 arg7 harg7 arg8 harg8 arg9 harg9 arg10 harg10 arg11 harg11 hc0 hc1 hc2 x0 x1 x2 x3).2.1, y ∈ pc.1.set :=
  View.cover_of_wholeMem (kernelRun0_C c i arg4 harg4 arg5 harg5 arg6 harg6 arg7 harg7 arg8 harg8 arg9 harg9 arg10 harg10 arg11 harg11 hc0 hc1 hc2 x0 x1 x2 x3).2.1 (by sl_whole_mem) y

/-- What case C leaves in scratch `arg9`: its pieces read back over junk. -/
def sout0_C_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) : Vec F S2x512x1 .f32 :=
  VS0_0.read (Elt F) (VS0_0.writes (Elt F) VS0_0.junk (kernelRun0_C c i arg4 harg4 arg5 harg5 arg6 harg6 arg7 harg7 arg8 harg8 arg9 harg9 arg10 harg10 arg11 harg11 hc0 hc1 hc2 x0 x1 x2 x3).2.1)

/-- Case C's pieces for scratch `arg10`, which the kernel carries between points, cover it: one of them a store of the WHOLE buffer (Lib/Ring.lean `sl_whole_mem`). -/
theorem scover0_C_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) (y : S2x512x1.Idx) :
    ∃ pc ∈ (kernelRun0_C c i arg4 harg4 arg5 harg5 arg6 harg6 arg7 harg7 arg8 harg8 arg9 harg9 arg10 harg10 arg11 harg11 hc0 hc1 hc2 x0 x1 x2 x3).2.2.1, y ∈ pc.1.set :=
  View.cover_of_wholeMem (kernelRun0_C c i arg4 harg4 arg5 harg5 arg6 harg6 arg7 harg7 arg8 harg8 arg9 harg9 arg10 harg10 arg11 harg11 hc0 hc1 hc2 x0 x1 x2 x3).2.2.1 (by sl_whole_mem) y

/-- What case C leaves in scratch `arg10`: its pieces read back over junk. -/
def sout0_C_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) : Vec F S2x512x1 .f32 :=
  VS0_1.read (Elt F) (VS0_1.writes (Elt F) VS0_1.junk (kernelRun0_C c i arg4 harg4 arg5 harg5 arg6 harg6 arg7 harg7 arg8 harg8 arg9 harg9 arg10 harg10 arg11 harg11 hc0 hc1 hc2 x0 x1 x2 x3).2.2.1)

/-- Case C's pieces for scratch `arg11`, which the kernel carries between points, cover it: one of them a store of the WHOLE buffer (Lib/Ring.lean `sl_whole_mem`). -/
theorem scover0_C_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) (y : S2x512x128.Idx) :
    ∃ pc ∈ (kernelRun0_C c i arg4 harg4 arg5 harg5 arg6 harg6 arg7 harg7 arg8 harg8 arg9 harg9 arg10 harg10 arg11 harg11 hc0 hc1 hc2 x0 x1 x2 x3).2.2.2.1, y ∈ pc.1.set :=
  View.cover_of_wholeMem (kernelRun0_C c i arg4 harg4 arg5 harg5 arg6 harg6 arg7 harg7 arg8 harg8 arg9 harg9 arg10 harg10 arg11 harg11 hc0 hc1 hc2 x0 x1 x2 x3).2.2.2.1 (by sl_whole_mem) y

/-- What case C leaves in scratch `arg11`: its pieces read back over junk. -/
def sout0_C_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : cond0_0 i) (hc1 : cond0_1 i) (hc2 : ¬cond0_2 i)
    (x0 : Vec F S512x256 .f32) (x1 : Vec F S512x128 .f32) (x2 : Vec F S512x512 .f32) (x3 : Vec F S512x64 .f32) : Vec F S2x512x128 .f32 :=
  VS0_2.read (Elt F) (VS0_2.writes (Elt F) VS0_2.junk (kernelRun0_C c i arg4 harg4 arg5 harg5 arg6 harg6 arg7 harg7 arg8 harg8 arg9 harg9 arg10 harg10 arg11 harg11 hc0 hc1 hc2 x0 x1 x2 x3).2.2.2.1)

/-- Case D's pieces for output 4 tile its block (2 stores of `S512x128`, checked by the kernel's evaluation: Lib/Ring.lean `Piece.tiledL`, linear in the pieces, through a loop's `@[irreducible]` trip theorem too), so they cover it. -/
theorem cover0_D_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S512x256.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).1 S512x128.size (by sl_kernel_rfl) y

/-- What case D leaves in output 4's staging buffer: its pieces read back over junk. -/
def out0_D_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S512x256 .f32 :=
  VO0_4.read (Elt F) (VO0_4.writes (Elt F) VO0_4.junk (kernelRun0_D c i arg4 harg4 arg5 harg5 arg6 harg6 arg7 harg7 arg8 harg8 arg9 harg9 arg10 harg10 arg11 harg11 hc0 hc1 hc2 x0 x1 x2 x3 xs0 xs1 xs2).1)

/-- Case D's pieces for scratch `arg9`, which the kernel carries between points, cover it: 2 pieces of `S1x512x1` tiling it (Lib/Ring.lean `Piece.tiledL`). -/
theorem scover0_D_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x1.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.1 S1x512x1.size (by sl_kernel_rfl) y

/-- What case D leaves in scratch `arg9`: its pieces read back over junk. -/
def sout0_D_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 :=
  VS0_0.read (Elt F) (VS0_0.writes (Elt F) VS0_0.junk (kernelRun0_D c i arg4 harg4 arg5 harg5 arg6 harg6 arg7 harg7 arg8 harg8 arg9 harg9 arg10 harg10 arg11 harg11 hc0 hc1 hc2 x0 x1 x2 x3 xs0 xs1 xs2).2.1)

/-- Case D's pieces for scratch `arg10`, which the kernel carries between points, cover it: 2 pieces of `S1x512x1` tiling it (Lib/Ring.lean `Piece.tiledL`). -/
theorem scover0_D_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x1.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.2.1 S1x512x1.size (by sl_kernel_rfl) y

/-- What case D leaves in scratch `arg10`: its pieces read back over junk. -/
def sout0_D_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 :=
  VS0_1.read (Elt F) (VS0_1.writes (Elt F) VS0_1.junk (kernelRun0_D c i arg4 harg4 arg5 harg5 arg6 harg6 arg7 harg7 arg8 harg8 arg9 harg9 arg10 harg10 arg11 harg11 hc0 hc1 hc2 x0 x1 x2 x3 xs0 xs1 xs2).2.2.1)

/-- Case D's pieces for scratch `arg11`, which the kernel carries between points, cover it: 2 pieces of `S1x512x128` tiling it (Lib/Ring.lean `Piece.tiledL`). -/
theorem scover0_D_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x128.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.2.2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.2.2.1 S1x512x128.size (by sl_kernel_rfl) y

/-- What case D leaves in scratch `arg11`: its pieces read back over junk. -/
def sout0_D_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x128 .f32 :=
  VS0_2.read (Elt F) (VS0_2.writes (Elt F) VS0_2.junk (kernelRun0_D c i arg4 harg4 arg5 harg5 arg6 harg6 arg7 harg7 arg8 harg8 arg9 harg9 arg10 harg10 arg11 harg11 hc0 hc1 hc2 x0 x1 x2 x3 xs0 xs1 xs2).2.2.2.1)

/-- Case E stores nothing into output 4 (the window is idle at its points and not written back there):
    no pieces — a placeholder (junk read back) that nothing consults, since at these points the window is neither
    written back nor read at the next point (Lib/Pipeline.lean "Idle points"). -/
def out0_E_4 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S512x256 .f32 :=
  VO0_4.read (Elt F) (VO0_4.writes (Elt F) VO0_4.junk (kernelRun0_E c i arg4 harg4 arg5 harg5 arg6 harg6 arg7 harg7 arg8 harg8 arg9 harg9 arg10 harg10 arg11 harg11 hc0 hc1 hc2 x0 x1 x2 x3 xs0 xs1 xs2).1)

/-- Case E's pieces for scratch `arg9`, which the kernel carries between points, cover it: 2 pieces of `S1x512x1` tiling it (Lib/Ring.lean `Piece.tiledL`). -/
theorem scover0_E_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x1.Idx) :
    ∃ pc ∈ (kernelRun0_E c i arg4 harg4 arg5 harg5 arg6 harg6 arg7 harg7 arg8 harg8 arg9 harg9 arg10 harg10 arg11 harg11 hc0 hc1 hc2 x0 x1 x2 x3 xs0 xs1 xs2).2.1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 xs0 xs1 xs2).2.1 S1x512x1.size (by sl_kernel_rfl) y

/-- What case E leaves in scratch `arg9`: its pieces read back over junk. -/
def sout0_E_0 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 :=
  VS0_0.read (Elt F) (VS0_0.writes (Elt F) VS0_0.junk (kernelRun0_E c i arg4 harg4 arg5 harg5 arg6 harg6 arg7 harg7 arg8 harg8 arg9 harg9 arg10 harg10 arg11 harg11 hc0 hc1 hc2 x0 x1 x2 x3 xs0 xs1 xs2).2.1)

/-- Case E's pieces for scratch `arg10`, which the kernel carries between points, cover it: 2 pieces of `S1x512x1` tiling it (Lib/Ring.lean `Piece.tiledL`). -/
theorem scover0_E_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x1.Idx) :
    ∃ pc ∈ (kernelRun0_E c i arg4 harg4 arg5 harg5 arg6 harg6 arg7 harg7 arg8 harg8 arg9 harg9 arg10 harg10 arg11 harg11 hc0 hc1 hc2 x0 x1 x2 x3 xs0 xs1 xs2).2.2.1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 xs0 xs1 xs2).2.2.1 S1x512x1.size (by sl_kernel_rfl) y

/-- What case E leaves in scratch `arg10`: its pieces read back over junk. -/
def sout0_E_1 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x1 .f32 :=
  VS0_1.read (Elt F) (VS0_1.writes (Elt F) VS0_1.junk (kernelRun0_E c i arg4 harg4 arg5 harg5 arg6 harg6 arg7 harg7 arg8 harg8 arg9 harg9 arg10 harg10 arg11 harg11 hc0 hc1 hc2 x0 x1 x2 x3 xs0 xs1 xs2).2.2.1)

/-- Case E's pieces for scratch `arg11`, which the kernel carries between points, cover it: 2 pieces of `S1x512x128` tiling it (Lib/Ring.lean `Piece.tiledL`). -/
theorem scover0_E_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) (y : S2x512x128.Idx) :
    ∃ pc ∈ (kernelRun0_E c i arg4 harg4 arg5 harg5 arg6 harg6 arg7 harg7 arg8 harg8 arg9 harg9 arg10 harg10 arg11 harg11 hc0 hc1 hc2 x0 x1 x2 x3 xs0 xs1 xs2).2.2.2.1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 xs0 xs1 xs2).2.2.2.1 S1x512x128.size (by sl_kernel_rfl) y

/-- What case E leaves in scratch `arg11`: its pieces read back over junk. -/
def sout0_E_2 (c : Dev nD) (i : grid0.Coords) (arg4 : Memref sig .tc .vmem S512x256 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S512x64 .f32) (harg7 : arg7.IsWhole) (arg8 : Memref sig .tc .vmem S512x256 .f32) (harg8 : arg8.IsWhole) (arg9 : Memref sig .tc .vmem S2x512x1 .f32) (harg9 : arg9.IsWhole) (arg10 : Memref sig .tc .vmem S2x512x1 .f32) (harg10 : arg10.IsWhole) (arg11 : Memref sig .tc .vmem S2x512x128 .f32) (harg11 : arg11.IsWhole) (hc0 : ¬cond0_0 i) (hc1 : cond0_1 i) (hc2 : ¬cond0_2 i)
    (x0 : Vec F S512x256 .f32) (x1 : Vec F S512x128 .f32) (x2 : Vec F S512x512 .f32) (x3 : Vec F S512x64 .f32) (xs0 : Vec F S2x512x1 .f32) (xs1 : Vec F S2x512x1 .f32) (xs2 : Vec F S2x512x128 .f32) : Vec F S2x512x128 .f32 :=
  VS0_2.read (Elt F) (VS0_2.writes (Elt F) VS0_2.junk (kernelRun0_E c i arg4 harg4 arg5 harg5 arg6 harg6 arg7 harg7 arg8 harg8 arg9 harg9 arg10 harg10 arg11 harg11 hc0 hc1 hc2 x0 x1 x2 x3 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x256 .f32 × Vec F S2x512x1 .f32 × Vec F S2x512x1 .f32 × Vec F S2x512x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only) <;> omega)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only) <;> omega)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only) <;> omega)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only) <;> omega)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 ≤ (n + 1) / 4 % 4 then
        if h2 : (n + 1) / 4 % 4 = (n + 1) % 4 then
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩))
        else
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 1024 := lt_of_lt_of_eq hn (show cfg0.N = 1024 from N_0); omega)
    else
      if h1 : (n + 1) % 4 ≤ (n + 1) / 4 % 4 then
        if h2 : (n + 1) / 4 % 4 = (n + 1) % 4 then
          (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
        else
          (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        if h2 : (n + 1) / 4 % 4 = (n + 1) % 4 then
          False.elim (by have hN : n + 1 < 1024 := lt_of_lt_of_eq hn (show cfg0.N = 1024 from N_0); omega)
        else
          ((outsAt0 c n (Nat.lt_of_succ_lt hn)).1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 4 = 0) (h1 : t.val % 4 ≤ t.val / 4 % 4) (h2 : t.val / 4 % 4 = t.val % 4) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (iblk m c 0 t) (iblk m c 1 t) (iblk m c 2 t) (iblk m c 3 t)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 4 = 0) (h1 : ¬t.val % 4 ≤ t.val / 4 % 4) (h2 : ¬t.val / 4 % 4 = t.val % 4) :
    outsAt0 m c t.val t.isLt = ((outsAt0 m c (t.val - 1) (Nat.lt_of_le_of_lt (Nat.sub_le _ _) t.isLt)).1, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents. -/
theorem outsAt0_C (c : Dev nD) (t : Fin cfg0.N) (h0 : t.val % 4 = 0) (h1 : t.val % 4 ≤ t.val / 4 % 4) (h2 : ¬t.val / 4 % 4 = t.val % 4) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t), sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t), sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t), sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact (by exfalso; (try dsimp only at h2); exact by omega)
  | succ n => exact (dif_pos h0).trans ((dif_pos h1).trans ((dif_neg h2).trans rfl))

/-- `outsAt0` at a point of case D: that case's contents, over what the point before left. -/
theorem outsAt0_D (c : Dev nD) (t : Fin cfg0.N) (h0 : ¬t.val % 4 = 0) (h1 : t.val % 4 ≤ t.val / 4 % 4) (h2 : t.val / 4 % 4 = t.val % 4) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt0` at a point of case E: that case's contents, over what the point before left. -/
theorem outsAt0_E (c : Dev nD) (t : Fin cfg0.N) (h0 : ¬t.val % 4 = 0) (h1 : t.val % 4 ≤ t.val / 4 % 4) (h2 : ¬t.val / 4 % 4 = t.val % 4) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Whether the output's block is still unwritten when the body runs at point `n`: up to the diagonal block of its
    row of key blocks it is. -/
theorem fresh0_4 : ∀ n, n ≤ cfg0.N → cfg0.fresh 4 n = decide (n % 4 ≤ n / 4 % 4) :=
  Pipeline.Cfg.fresh_tab cfg0 4 _ rfl
    (by decide +kernel : ∀ t : Fin cfg0.N, decide ((t.val + 1) % 4 ≤ (t.val + 1) / 4 % 4) = ((cfg0.win 4).flush t || (cfg0.idle 4 (grid0.coords t) && decide (t.val % 4 ≤ t.val / 4 % 4))))

/-- Past the diagonal block (case B) the output's buffer holds what the point before left in it. -/
theorem before0_4_B (c : Dev nD) (t : Fin cfg0.N) (h1 : ¬t.val % 4 ≤ t.val / 4 % 4) (d) :
    (dats m 0 c).before 4 t d = (outsAt0 m c (t.val - 1) (Nat.lt_of_le_of_lt (Nat.sub_le _ _) t.isLt)).1 := by
  have hfr : ∀ u : Fin cfg0.N, cfg0.fresh 4 u.val = false ↔ ¬u.val % 4 ≤ u.val / 4 % 4 := fun u => by
    rw [fresh0_4 u.val (Nat.le_of_lt u.isLt)]; exact decide_eq_false_iff_not
  rw [(dats m 0 c).before_out_traj 4 rfl (fun _ _ => rfl) (fun u hu _ hf => ?_) t.val t rfl d, (hfr t).mpr h1, if_neg Bool.false_ne_true, after0_4]
  have hu1 := (hfr u).mp hf
  rw [after0_4, after0_4, outsAt0_B m c u (by omega) hu1 (by omega)]

/-- So at such a point the buffer, left as it was found, is what the obligation asks, written back there or not. -/
theorem leaves0_4_B (c : Dev nD) (t : Fin cfg0.N) (h0 : ¬t.val % 4 = 0) (h1 : ¬t.val % 4 ≤ t.val / 4 % 4) (h2 : ¬t.val / 4 % 4 = t.val % 4) (d) :
    owns (c : Thread nD τ) (ms0_4 t) fullShare ((dats m 0 c).before 4 t d) ⊢ (dats m 0 c).leavesExact 4 t := by
  have hi := idleAt0_4_B t (fun h => h0 ((hcond0_0 t).mp h)) (fun h => h1 ((hcond0_1 t).mp h)) (fun h => h2 ((hcond0_2 t).mp h))
  by_cases hf : (cfg0.win 4).flush t = true
  · rw [show (dats m 0 c).leavesExact 4 t = owns (c : Thread nD τ) (ms0_4 t) fullShare ((dats m 0 c).after 4 t) from by
      unfold Dat.leavesExact; rw [hi, hf], before0_4_B m c t h1 d, after0_4, outsAt0_B m c t h0 h1 h2]
  · rw [Dat.leavesExact_idle (dats m 0 c) 4 t hi (Bool.eq_false_iff.mpr hf)]
    iintro H; iexists d; iexact H

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  by_cases h0 : t.val % 4 = 0
  · by_cases h1 : t.val % 4 ≤ t.val / 4 % 4
    · by_cases h2 : t.val / 4 % 4 = t.val % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) ((hcond0_2 t).mpr h2)], after0_4]
        by_cases hz : t.val = 0
        · rw [PhiS_castSucc m c t, PhiS_zero m c _ _ hz, PhiA0_eq]
          rw [outsAt0_A m c t h0 h1 h2]
          unfold out0_A_4 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t)).2.2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          iintro ⟨H0, H1, H2, H3, ⟨%e4, H4⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_A_4 c _ _ _ _ _ _ _ _ _ _ _ _ _ _ _ _ _ _ _ _ _ _ _ _)
        · rw [PhiS_castSucc m c t, PhiS_pos m c _ _ hz]
          rw [outsAt0_A m c t h0 h1 h2]
          unfold out0_A_4 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t)).2.2.2.2 Set.univ _)
          isplitl [H0]; · iexact H0
          isplitl [H1]; · iexact H1
          isplitl [H2]; · iexact H2
          isplitl [H3]; · iexact H3
          isplitl [H4]; · iexists _; iexact H4
          isplitl [HS0]; · iexists _; iexact HS0
          isplitl [HS1]; · iexists _; iexact HS1
          isplitl [HS2]; · iexists _; iexact HS2
          iintro ⟨H0, H1, H2, H3, ⟨%e4, H4⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_A_4 c _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [Dat.leavesExact_idle (dats m 0 c) 4 t (idleAt0_4_C t ((hcond0_0 t).mpr h0) ((hcond0_1 t).mpr h1) (fun h => h2 ((hcond0_2 t).mp h))) (noFlush0_4_C t ((hcond0_0 t).mpr h0) ((hcond0_1 t).mpr h1) (fun h => h2 ((hcond0_2 t).mp h)))]
        by_cases hz : t.val = 0
        · exfalso; have hN : t.val < 1024 := lt_of_lt_of_eq t.isLt (show cfg0.N = 1024 from N_0); omega
        · rw [PhiS_castSucc m c t, PhiS_pos m c _ _ hz]
          rw [outsAt0_C m c t h0 h1 h2]
          unfold sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HS2]; · iexists _; iexact HS2
          iintro ⟨H0, H1, H2, H3, H4, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
    · exfalso; omega
  · by_cases h1 : t.val % 4 ≤ t.val / 4 % 4
    · by_cases h2 : t.val / 4 % 4 = t.val % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_D t (fun h => h0 ((hcond0_0 t).mp h)) ((hcond0_1 t).mpr h1) ((hcond0_2 t).mpr h2)], after0_4]
        by_cases hz : t.val = 0
        · exfalso; have hN : t.val < 1024 := lt_of_lt_of_eq t.isLt (show cfg0.N = 1024 from N_0); omega
        · rw [PhiS_castSucc m c t, PhiS_pos m c _ _ hz]
          rw [outsAt0_D m c t h0 h1 h2]
          unfold out0_D_4 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) _ _ _).2.2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          iintro ⟨H0, H1, H2, H3, ⟨%e4, H4⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _)
              unfold owns; iexists _; isplitr
              swap; · iexact HS2
              ipureintro; exact View.read_writes_of_cover _ _ _ _ _ (scover0_D_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_D_4 c _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [Dat.leavesExact_idle (dats m 0 c) 4 t (idleAt0_4_E t (fun h => h0 ((hcond0_0 t).mp h)) ((hcond0_1 t).mpr h1) (fun h => h2 ((hcond0_2 t).mp h))) (noFlush0_4_E t (fun h => h0 ((hcond0_0 t).mp h)) ((hcond0_1 t).mpr h1) (fun h => h2 ((hcond0_2 t).mp h)))]
        by_cases hz : t.val = 0
        · exfalso; have hN : t.val < 1024 := lt_of_lt_of_eq t.isLt (show cfg0.N = 1024 from N_0); omega
        · rw [PhiS_castSucc m c t, PhiS_pos m c _ _ hz]
          rw [outsAt0_E m c t h0 h1 h2]
          unfold sout0_E_0 sout0_E_1 sout0_E_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _ _ _).2.2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _ _ _ _)
              unfold owns; iexists _; isplitr
              swap; · iexact HS2
              ipureintro; exact View.read_writes_of_cover _ _ _ _ _ (scover0_E_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
    · by_cases h2 : t.val / 4 % 4 = t.val % 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        by_cases hz : t.val = 0
        · exfalso; have hN : t.val < 1024 := lt_of_lt_of_eq t.isLt (show cfg0.N = 1024 from N_0); omega
        · rw [PhiS_castSucc m c t, PhiS_pos m c _ _ hz]
          rw [outsAt0_B m c t h0 h1 h2]
          unfold sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) _ _ _).2.2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          iintro ⟨H0, H1, H2, H3, H4, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          iapply (leaves0_4_B m c t h0 h1 h2 _); iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_FlashIdeal`'s statement (Defs.lean) at any `F` — Proof.lean cites it at `Bits`:
    `theorem Cert.Proof.claim : Cert.Claim := ⟨Cert.FlashIdeal.Gen.facts, fun m ρ _ => Cert.FlashIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FlashIdeal.Gen

end
-- ==== Proof.FlashFrame.lean ====
/-
  The attention kernel as the version states it: its frame.
-/
module

public import proofs.«01_k».proof.Proof.Gen.Flash.Frame
public import proofs.«01_k».proof.Proof.FlashIdealFrame

@[expose] public section

set_option maxRecDepth 16384

noncomputable section

namespace Cert.Flash.Gen

open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The tables of bodies of the two printed programs are the same. -/
theorem defs₀_eq : defs₀ (F := F) = Cert.FlashIdeal.defs₀ (F := F) := by
  unfold defs₀ Cert.FlashIdeal.defs₀
  refine congrArg Defs.onTc (funext fun l => funext fun a => ?_)
  match l, a with
  | 0, (t, s) => rfl

/-- The two printed programs of the kernel are the same term: the frame of one is the frame of the other. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  unfold defs
  rw [defs₀_eq]
  exact Cert.FlashIdeal.Gen.frame (F := F) m ρ

end Cert.Flash.Gen

end
-- ==== Proof.FlashMath.lean ====
/-
  Softmax accumulated block by block, on the extended reals.

  A row of scores comes in blocks of columns. The row keeps a running maximum, a running sum of exponentials and a
  running weighted sum; each new block rescales the two sums by the exponential of the change of the maximum. The
  lemmas here give the two sums after any number of blocks in closed form: the sums of the exponentials relative to
  the maximum of all the scores seen. No score is assumed finite for that.
-/
module

public import Idealize.ShloMosaic.PureOps.Ideal
public import Mathlib.Algebra.BigOperators.Fin
public import Mathlib.Algebra.BigOperators.Intervals

@[expose] public section

noncomputable section

namespace Cert.Softmax

open Idealize.ShloMosaic

/-- The exponential of a score relative to a maximum. -/
def rel (a b : EReal) : EReal := Ideal.exp (a - b)

theorem exp_nonneg (x : EReal) : 0 ≤ Ideal.exp x := by
  induction x with
  | bot => simp
  | top => simp
  | coe r => rw [Ideal.exp_coe]; exact_mod_cast (Real.exp_pos r).le

theorem rel_nonneg (a b : EReal) : 0 ≤ rel a b := exp_nonneg _

theorem rel_bot (b : EReal) : rel ⊥ b = 0 := by
  rw [rel, EReal.bot_sub, Ideal.exp_bot]

theorem rel_top (a : EReal) : rel a ⊤ = 0 := by
  rw [rel, EReal.sub_top, Ideal.exp_bot]

theorem rel_coe (a b : ℝ) : rel (a : EReal) (b : EReal) = (Real.exp (a - b) : EReal) := by
  rw [rel, ← EReal.coe_sub, Ideal.exp_coe]

theorem rel_le_one {a b : EReal} (h : a ≤ b) : rel a b ≤ 1 := by
  induction b with
  | top => rw [rel_top]; exact zero_le_one
  | bot => rw [le_bot_iff.mp h, rel_bot]; exact zero_le_one
  | coe b =>
    induction a with
    | bot => rw [rel_bot]; exact zero_le_one
    | top => exact absurd h (by simp)
    | coe a =>
      rw [rel_coe]
      have : a ≤ b := by exact_mod_cast h
      have h1 : Real.exp (a - b) ≤ 1 := Real.exp_le_one_iff.mpr (by linarith)
      exact_mod_cast h1

theorem rel_ne_top {a b : EReal} (h : a ≤ b) : rel a b ≠ ⊤ :=
  ne_top_of_le_ne_top (by exact EReal.coe_ne_top 1) (rel_le_one h)

/-- Rescaling to a larger maximum. -/
theorem rel_mul {a b c : EReal} (hab : a ≤ b) (hbc : b ≤ c) : rel b c * rel a b = rel a c := by
  induction c with
  | top => rw [rel_top, rel_top, zero_mul]
  | bot => rw [le_bot_iff.mp hbc, rel_bot, zero_mul, le_bot_iff.mp (le_trans hab hbc), rel_bot]
  | coe c =>
    induction b with
    | top => exact absurd hbc (by simp)
    | bot => rw [le_bot_iff.mp hab, rel_bot, rel_bot, mul_zero]
    | coe b =>
      induction a with
      | top => exact absurd hab (by simp)
      | bot => rw [rel_bot, rel_bot, mul_zero]
      | coe a =>
        rw [rel_coe, rel_coe, rel_coe, ← EReal.coe_mul, ← Real.exp_add]
        congr 2
        ring

/-- A nonnegative factor short of infinity passes through a finite sum. -/
theorem mul_sum {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

section Blocks

variable {n : ℕ} (S V : ℕ → Fin n → EReal)

/-- The running maximum after some blocks. -/
def runM : ℕ → EReal
  | 0 => ⊥
  | k + 1 => max (runM k) (Finset.univ.fold max ⊥ (S k))

/-- The running sum of exponentials after some blocks. -/
def runL : ℕ → EReal
  | 0 => 0
  | k + 1 => rel (runM S k) (runM S (k + 1)) * runL k + ∑ j, rel (S k j) (runM S (k + 1))

/-- The running weighted sum after some blocks. -/
def runA : ℕ → EReal
  | 0 => 0
  | k + 1 => rel (runM S k) (runM S (k + 1)) * runA k + ∑ j, rel (S k j) (runM S (k + 1)) * V k j

theorem runM_mono (k : ℕ) : runM S k ≤ runM S (k + 1) := le_max_left _ _

theorem le_runM_succ (k : ℕ) (j : Fin n) : S k j ≤ runM S (k + 1) :=
  le_trans (Finset.le_sup (f := S k) (Finset.mem_univ j)) (le_max_right _ _)

theorem le_runM {i k : ℕ} (h : i < k) (j : Fin n) : S i j ≤ runM S k := by
  induction k with
  | zero => omega
  | succ k ih =>
    rcases Nat.lt_succ_iff_lt_or_eq.mp h with h | rfl
    · exact le_trans (ih h) (runM_mono S k)
    · exact le_runM_succ S i j

theorem runM_le {k : ℕ} {M : EReal} (h : ∀ i, i < k → ∀ j, S i j ≤ M) : runM S k ≤ M := by
  induction k with
  | zero => exact bot_le
  | succ k ih =>
    exact max_le (ih fun i hi j => h i (by omega) j) (Finset.sup_le (f := S k) fun j _ => h k (by omega) j)

/-- The running sum in closed form. -/
theorem runL_eq (k : ℕ) : runL S k = ∑ i ∈ Finset.range k, ∑ j, rel (S i j) (runM S k) := by
  induction k with
  | zero => rfl
  | succ k ih =>
    rw [runL, ih, Finset.sum_range_succ, mul_sum _ _ (rel_nonneg _ _) (rel_ne_top (runM_mono S k))]
    congr 1
    refine Finset.sum_congr rfl fun i hi => ?_
    rw [mul_sum _ _ (rel_nonneg _ _) (rel_ne_top (runM_mono S k))]
    refine Finset.sum_congr rfl fun j _ => ?_
    exact rel_mul (le_runM S (Finset.mem_range.mp hi) j) (runM_mono S k)

/-- The running weighted sum in closed form. -/
theorem runA_eq (k : ℕ) : runA S V k = ∑ i ∈ Finset.range k, ∑ j, rel (S i j) (runM S k) * V i j := by
  induction k with
  | zero => rfl
  | succ k ih =>
    rw [runA, ih, Finset.sum_range_succ, mul_sum _ _ (rel_nonneg _ _) (rel_ne_top (runM_mono S k))]
    congr 1
    refine Finset.sum_congr rfl fun i hi => ?_
    rw [mul_sum _ _ (rel_nonneg _ _) (rel_ne_top (runM_mono S k))]
    refine Finset.sum_congr rfl fun j _ => ?_
    rw [← mul_assoc, rel_mul (le_runM S (Finset.mem_range.mp hi) j) (runM_mono S k)]

theorem runM_masked {k : ℕ} (h : ∀ j, S k j = ⊥) : runM S (k + 1) = runM S k :=
  le_antisymm (runM_le S fun i hi j => by
    rcases Nat.lt_succ_iff_lt_or_eq.mp hi with hi | rfl
    · exact le_runM S hi j
    · rw [h j]; exact bot_le) (runM_mono S k)

/-- Blocks that are masked altogether change nothing. -/
theorem run_masked {k N : ℕ} (hk : k ≤ N) (h : ∀ i, k ≤ i → ∀ j, S i j = ⊥) :
    runM S N = runM S k ∧ runL S N = runL S k ∧ runA S V N = runA S V k := by
  induction N, hk using Nat.le_induction with
  | base => exact ⟨rfl, rfl, rfl⟩
  | succ N hN ih =>
    have hm := runM_masked S (h N hN)
    have hL : runL S (N + 1) = runL S N := by
      rw [runL_eq, runL_eq, Finset.sum_range_succ, hm]
      simp only [h N hN, rel_bot, Finset.sum_const_zero, add_zero]
    have hA : runA S V (N + 1) = runA S V N := by
      rw [runA_eq, runA_eq, Finset.sum_range_succ, hm]
      simp only [h N hN, rel_bot, zero_mul, Finset.sum_const_zero, add_zero]
    exact ⟨hm.trans ih.1, hL.trans ih.2.1, hA.trans ih.2.2⟩

end Blocks

section Row

variable {N : ℕ} (s v : Fin N → EReal)

/-- The maximum of a row of scores. -/
def top : EReal := Finset.univ.fold max ⊥ s

theorem le_top (j : Fin N) : s j ≤ top s := Finset.le_sup (f := s) (Finset.mem_univ j)

/-- The sum of the row's exponentials relative to its maximum. -/
def den : EReal := ∑ j, rel (s j) (top s)

/-- The sum of the values weighted by those exponentials. -/
def num : EReal := ∑ j, rel (s j) (top s) * v j

theorem den_nonneg : 0 ≤ den s := Finset.sum_nonneg fun j _ => rel_nonneg _ _

/-- One of the scores of a row that is not empty attains its maximum. -/
theorem exists_top (hN : 0 < N) : ∃ j, s j = top s := by
  haveI : Nonempty (Fin N) := ⟨⟨0, hN⟩⟩
  obtain ⟨j, _, hj⟩ := Finset.exists_mem_eq_sup' (s := (Finset.univ : Finset (Fin N))) Finset.univ_nonempty s
  exact ⟨j, by rw [← hj, Finset.sup'_eq_sup]; rfl⟩

theorem den_ne_zero (hb : top s ≠ ⊥) (ht : top s ≠ ⊤) : den s ≠ 0 := by
  have hN : 0 < N := by
    rcases Nat.eq_zero_or_pos N with rfl | h
    · exact absurd (by simp [top]) hb
    · exact h
  obtain ⟨j, hj⟩ := exists_top s hN
  intro h
  have h1 : rel (s j) (top s) ≤ 0 := h ▸ Finset.single_le_sum (f := fun i => rel (s i) (top s)) (fun i _ => rel_nonneg _ _) (Finset.mem_univ j)
  rw [hj] at h1
  generalize top s = x at h1 hb ht
  induction x with
  | bot => exact hb rfl
  | top => exact ht rfl
  | coe r =>
    rw [rel_coe, sub_self, Real.exp_zero] at h1
    exact absurd h1 (by simp)

/-- Dividing the weights before the weighted sum or the weighted sum itself comes to the same when the row's maximum
    is finite. -/
theorem sum_div (hb : top s ≠ ⊥) (ht : top s ≠ ⊤) :
    ∑ j, v j * Ideal.div (rel (s j) (top s)) (den s) = Ideal.div (num s v) (den s) := by
  have h0 := den_ne_zero s hb ht
  have hinv : 0 ≤ (den s)⁻¹ := EReal.inv_nonneg_of_nonneg (den_nonneg s)
  have hinvt : (den s)⁻¹ ≠ ⊤ := by
    intro h
    have hd := den_nonneg s
    generalize den s = x at h h0 hd
    induction x with
    | bot => simp at h
    | top => simp at h
    | coe r =>
      rw [← EReal.coe_inv] at h
      exact EReal.coe_ne_top _ h
  simp only [Ideal.div, if_neg h0]
  rw [num, mul_comm, mul_sum _ _ hinv hinvt]
  refine Finset.sum_congr rfl fun j _ => ?_
  rw [mul_comm (v j), mul_assoc, mul_comm _ (v j), ← mul_assoc, mul_comm]

end Row

/-- The closed forms on blocks are the row's when the blocks are the row's columns in order. -/
theorem run_row {B n : ℕ} (S V : ℕ → Fin n → EReal) (s v : Fin (B * n) → EReal)
    (hs : ∀ (i : ℕ) (hi : i < B) (j : Fin n), S i j = s ⟨i * n + j, by nlinarith [j.isLt]⟩)
    (hv : ∀ (i : ℕ) (hi : i < B) (j : Fin n), V i j = v ⟨i * n + j, by nlinarith [j.isLt]⟩) :
    runL S B = den s ∧ runA S V B = num s v := by
  have hcol : ∀ c : Fin (B * n), c.val / n < B ∧ c.val % n < n := fun c => by
    have hn : 0 < n := Nat.pos_of_ne_zero fun h => by have := c.isLt; simp [h] at this
    exact ⟨Nat.div_lt_of_lt_mul (c.isLt.trans_eq (Nat.mul_comm _ _)), Nat.mod_lt _ hn⟩
  have hM : runM S B = top s := by
    refine le_antisymm (runM_le S fun i hi j => ?_) (Finset.sup_le (f := s) fun c _ => ?_)
    · rw [hs i hi j]; exact le_top s _
    · have := le_runM S (hcol c).1 ⟨c.val % n, (hcol c).2⟩
      rw [hs _ (hcol c).1] at this
      refine le_trans (le_of_eq ?_) this
      congr 1
      exact Fin.ext (Nat.div_add_mod' c.val n).symm
  have hsum : ∀ (f : Fin (B * n) → EReal) (g : ℕ → Fin n → EReal),
      (∀ (i : ℕ) (hi : i < B) (j : Fin n), g i j = f ⟨i * n + j, by nlinarith [j.isLt]⟩) →
      ∑ i ∈ Finset.range B, ∑ j, g i j = ∑ c, f c := fun f g hg => by
    rw [← Fin.sum_univ_eq_sum_range (fun i => ∑ j, g i j), ← Fintype.sum_prod_type',
      ← finProdFinEquiv.sum_comp f]
    refine Finset.sum_congr rfl fun p _ => ?_
    rw [hg p.1.val p.1.isLt p.2]
    congr 1
    exact Fin.ext (by simp [finProdFinEquiv, mul_comm, add_comm])
  constructor
  · rw [runL_eq, hM, den]
    exact hsum (fun c => rel (s c) (top s)) (fun i j => rel (S i j) (top s)) fun i hi j => by rw [hs i hi j]
  · rw [runA_eq, hM, num]
    exact hsum (fun c => rel (s c) (top s) * v c) (fun i j => rel (S i j) (top s) * V i j) fun i hi j => by
      rw [hs i hi j, hv i hi j]

end Cert.Softmax

end
-- ==== Proof.FlashSteps.lean ====
/-
  One grid point of the attention call, by its payloads.

  A point meets one block of queries with one block of keys under two heads. Where the block of keys is not beyond
  the diagonal, each row's running maximum, sum and weighted sum go one block further; at the diagonal block the
  output is the quotient of the two sums.
-/
module

public import proofs.«01_k».proof.Proof.FlashIdealFrame
public import proofs.«01_k».proof.Proof.FlashMath
public import Idealize.ShloMosaic.Lib.Pipeline.ValueKit
public import Idealize.ShloMosaic.Lib.Pipeline.ReadBack
public import Idealize.ShloMosaic.Lib.WordCmp

@[expose] public section

set_option maxRecDepth 16384

noncomputable section

namespace Cert.FlashIdeal.Attn

open Cert.FlashIdeal Cert.FlashIdeal.Gen
open Idealize.ShloMosaic Idealize.ShloMosaic.TcCoe Idealize.SL.Sem
open Idealize.ShloMosaic.Pipeline (Dat)
open Cert.Softmax

variable (m : (ℓ : Loc nD τ sig) → Buf (Elt Ideal) ℓ)

/-! ## The scores and the values, by row, head and column -/

theorem ofBits_ninf : (Ideal.ofBits FTy.f32 4286578688#32 : EReal) = ⊥ := by
  simp [Ideal.ofBits, Ideal.ieee]

theorem ofBits_zero : (Ideal.ofBits FTy.f32 0#32 : EReal) = 0 := by
  simp [Ideal.ofBits, Ideal.ieee]

/-- The score of a query row of a head against a column of its own prompt: the two scalar products, scaled; masked
    beyond the row's own position. -/
def scoreAt (qn : FVec Ideal S8192x4096 .f32) (qr : FVec Ideal S8192x2048 .f32) (kv : FVec Ideal S8192x8192 .f32)
    (kr : FVec Ideal S8192x64 .f32) (R : Fin 8192) (hd : Fin 32) (col : ℕ) : EReal :=
  if h : col ≤ R.val % 2048 then
    ((∑ x : Fin 128, qn (ix2 R ⟨hd.val * 128 + x.val, by omega⟩) * kv (ix2 ⟨R.val / 2048 * 2048 + col, by omega⟩ ⟨hd.val * 256 + x.val, by omega⟩))
      + ∑ x : Fin 64, qr (ix2 R ⟨hd.val * 64 + x.val, by omega⟩) * kr (ix2 ⟨R.val / 2048 * 2048 + col, by omega⟩ x))
      * Ideal.ofBits FTy.f32 1033096506#32
  else ⊥

/-- The value of a column of the row's prompt under a head. -/
def valAt (kv : FVec Ideal S8192x8192 .f32) (R : Fin 8192) (hd : Fin 32) (d : Fin 128) (col : ℕ) : EReal :=
  if h : col < 2048 then kv (ix2 ⟨R.val / 2048 * 2048 + col, by omega⟩ ⟨hd.val * 256 + 128 + d.val, by omega⟩) else 0

/-- The same by blocks of 512 columns, of the arrays the launch finds. -/
def S (c : Dev nD) (R : Fin 8192) (hd : Fin 32) (i : ℕ) (k : Fin 512) : EReal :=
  scoreAt (V m c main_arg0) (V m c main_arg1) (V m c main_arg2) (V m c main_arg3) R hd (i * 512 + k.val)

def W (c : Dev nD) (R : Fin 8192) (hd : Fin 32) (d : Fin 128) (i : ℕ) (k : Fin 512) : EReal :=
  valAt (V m c main_arg2) R hd d (i * 512 + k.val)

/-- The array row of a row of a grid point's block, and its head. -/
def rowOf (t : Fin cfg0.N) (r : ℕ) (hr : r < 512) : Fin 8192 :=
  ⟨(t.val / 256 * 4 + t.val / 4 % 4) * 512 + r, by have := t.isLt; have : cfg0.N = 1024 := rfl; omega⟩

def headOf (t : Fin cfg0.N) (h : ℕ) (hh : h < 2) : Fin 32 := ⟨t.val / 16 % 16 * 2 + h, by omega⟩

theorem idx : ∀ t : Fin cfg0.N, win0_0.index t = ![t.val / 256 * 4 + t.val / 4 % 4, t.val / 16 % 16]
    ∧ win0_1.index t = ![t.val / 256 * 4 + t.val / 4 % 4, t.val / 16 % 16]
    ∧ win0_2.index t = ![t.val / 256 * 4 + min (t.val % 4) (t.val / 4 % 4), t.val / 16 % 16]
    ∧ win0_3.index t = ![t.val / 256 * 4 + min (t.val % 4) (t.val / 4 % 4), 0]
    ∧ win0_4.index t = ![t.val / 256 * 4 + t.val / 4 % 4, t.val / 16 % 16]
    ∧ (grid0.coords t 2).val = t.val / 4 % 4 ∧ (grid0.coords t 3).val = t.val % 4 :=
  (by decide +kernel : ∀ t : Fin grid0.N, _)

/-! ## One block's step, by the payloads -/

theorem mask_at (qi ki : ℕ) (hq : qi < 4) (hk : ki ≤ qi) (r k : Fin 512) :
    k0_pay14 (BitVec.ofNat 32 qi) (BitVec.ofNat 32 ki) (ix2 r k) = BitVec.ofBool (decide (ki * 512 + k.val ≤ qi * 512 + r.val)) := by
  pointwise [k0_pay14]
  rw [show Scalar.cmpi CmpIPredicate.slt (BitVec.ofNat 32 ki) (BitVec.ofNat 32 qi) = IntOp.cmpi .slt (BitVec.ofNat 32 ki) (BitVec.ofNat 32 qi) from rfl,
    WordCmp.cmpi_slt_ofNat (by omega) (by omega), WordCmp.cmpi_sle_ofNat (by omega) (by omega)]
  rcases Nat.lt_or_ge ki qi with h | h
  · rw [decide_eq_true h, decide_eq_true (show ki * 512 + k.val ≤ qi * 512 + r.val by omega)]
    cases decide (k.val ≤ r.val) <;> rfl
  · obtain rfl : ki = qi := by omega
    rw [decide_eq_false (by omega), show decide (ki * 512 + k.val ≤ ki * 512 + r.val) = decide (k.val ≤ r.val) from decide_eq_decide.mpr (by omega)]
    cases decide (k.val ≤ r.val) <;> rfl

theorem newM (s : FVec Ideal S512x512 .f32) (mo : Vec Ideal S1x512x1 .f32) (S : ℕ → Fin 512 → EReal) (n : ℕ) (x : S1x512x1.Idx)
    (hs : ∀ k, s (ix2 (x 1) k) = S n k) (hm : mo x = runM S n) : k0_pay10 s mo x = runM S (n + 1) := by
  pointwise [k0_pay10, k0_pay5, k0_pay4]
  simp only [hs, hm, ofBits_ninf]
  rfl

theorem newL (s : FVec Ideal S512x512 .f32) (mo lo : Vec Ideal S1x512x1 .f32) (S : ℕ → Fin 512 → EReal) (n : ℕ) (x : S1x512x1.Idx)
    (hs : ∀ k, s (ix2 (x 1) k) = S n k) (hm : mo x = runM S n) (hl : lo x = runL S n) : k0_pay8 s mo lo x = runL S (n + 1) := by
  pointwise [k0_pay8, k0_pay7, k0_pay6, k0_pay5, k0_pay4]
  simp only [hs, hm, hl, ofBits_ninf]
  rfl

theorem newA (v : FVec Ideal S512x128 .bf16) (s : FVec Ideal S512x512 .f32) (mo : Vec Ideal S1x512x1 .f32) (ao : Vec Ideal S1x512x128 .f32)
    (S W : ℕ → Fin 512 → EReal) (n : ℕ) (x : S1x512x128.Idx) (hs : ∀ k, s (ix2 (x 1) k) = S n k) (hv : ∀ k, v (ix2 k (x 2)) = W n k)
    (hm : mo (ix3 0 (x 1) 0) = runM S n) (ha : ao x = runA S W n) : k0_pay9 v s mo ao x = runA S W (n + 1) := by
  pointwise [k0_pay9, k0_pay7, k0_pay6, k0_pay5, k0_pay4]
  simp only [hs, hm, hv, ha, ofBits_ninf]
  rfl

theorem out_at (ao : Vec Ideal S1x512x128 .f32) (lo : Vec Ideal S1x512x1 .f32) (x : S512x128.Idx) :
    k0_pay11 ao lo x = Ideal.div (ao (ix3 0 (x 0) (x 1))) (lo (ix3 0 (x 0) 0)) := by
  pointwise [k0_pay11]

/-- The rows and columns of the arrays a point's blocks hold. -/
theorem blk0_at (c : Dev nD) (t : Fin cfg0.N) (h : ℕ) (hh : h < 2) (r : Fin 512) (x : Fin 128) :
    iblk m c 0 t (ix2 r ⟨h * 128 + x.val, by omega⟩) = V m c main_arg0 (ix2 (rowOf t r.val r.isLt) ⟨(headOf t h hh).val * 128 + x.val, by omega⟩) := by
  blk_ext [iblk, V, idx t, rowOf, headOf]

theorem blk1_at (c : Dev nD) (t : Fin cfg0.N) (h : ℕ) (hh : h < 2) (r : Fin 512) (x : Fin 64) :
    iblk m c 1 t (ix2 r ⟨h * 64 + x.val, by omega⟩) = V m c main_arg1 (ix2 (rowOf t r.val r.isLt) ⟨(headOf t h hh).val * 64 + x.val, by omega⟩) := by
  blk_ext [iblk, V, idx t, rowOf, headOf]

/-- The array row of a column of the block of keys, where the block is not beyond the diagonal. -/
def colOf (t : Fin cfg0.N) (k : Fin 512) : Fin 8192 :=
  ⟨(t.val / 256 * 4 + min (t.val % 4) (t.val / 4 % 4)) * 512 + k.val, by have := t.isLt; have : cfg0.N = 1024 := rfl; omega⟩

theorem blk2_at (c : Dev nD) (t : Fin cfg0.N) (h : ℕ) (hh : h < 2) (k : Fin 512) (x : Fin 256) :
    iblk m c 2 t (ix2 k ⟨h * 256 + x.val, by omega⟩) = V m c main_arg2 (ix2 (colOf t k) ⟨(headOf t h hh).val * 256 + x.val, by omega⟩) := by
  blk_ext [iblk, V, idx t, colOf, headOf]

theorem blk3_at (c : Dev nD) (t : Fin cfg0.N) (k : Fin 512) (x : Fin 64) :
    iblk m c 3 t (ix2 k x) = V m c main_arg3 (ix2 (colOf t k) x) := by
  blk_ext [iblk, V, idx t, colOf]

theorem colOf_eq (t : Fin cfg0.N) (h1 : t.val % 4 ≤ t.val / 4 % 4) (r k : Fin 512) :
    (colOf t k).val = (rowOf t r.val r.isLt).val / 2048 * 2048 + (t.val % 4 * 512 + k.val) := by
  have := r.isLt; have := k.isLt; have := t.isLt; have : cfg0.N = 1024 := rfl
  simp only [colOf, rowOf]
  omega

/-- A block's scores, from the parts of the point's blocks that belong to one head. -/
theorem score_at (c : Dev nD) (t : Fin cfg0.N) (h1 : t.val % 4 ≤ t.val / 4 % 4) (h : ℕ) (hh : h < 2)
    (kr : Vec Ideal S512x64 .f32) (qn : Vec Ideal S512x128 .f32) (qr : Vec Ideal S512x64 .f32) (kn : Vec Ideal S512x128 .f32) (r k : Fin 512)
    (e0 : ∀ (r : Fin 512) (x : Fin 128), qn (ix2 r x) = iblk m c 0 t (ix2 r ⟨h * 128 + x.val, by omega⟩))
    (e1 : ∀ (r : Fin 512) (x : Fin 64), qr (ix2 r x) = iblk m c 1 t (ix2 r ⟨h * 64 + x.val, by omega⟩))
    (e2 : ∀ (k : Fin 512) (x : Fin 128), kn (ix2 k x) = iblk m c 2 t (ix2 k ⟨h * 256 + x.val, by omega⟩))
    (e3 : ∀ (k : Fin 512) (x : Fin 64), kr (ix2 k x) = iblk m c 3 t (ix2 k x)) :
    k0_pay16 (BitVec.ofNat 32 (grid0.coords t 2).val) (BitVec.ofNat 32 (grid0.coords t 3).val) kr qn qr kn (ix2 r k)
      = S m c (rowOf t r.val r.isLt) (headOf t h hh) (t.val % 4) k := by
  have hN : cfg0.N = 1024 := rfl
  have hlt := t.isLt
  rw [(idx t).2.2.2.2.2.1, (idx t).2.2.2.2.2.2]
  pointwise [k0_pay16, k0_pay13]
  rw [mask_at _ _ (by omega) h1, S, scoreAt]
  have e2' : ∀ x : Fin 128, kn (ix2 k x) = V m c main_arg2 (ix2 (colOf t k) ⟨(headOf t h hh).val * 256 + x.val, by omega⟩) := fun x =>
    (e2 k x).trans (blk2_at m c t h hh k ⟨x.val, by omega⟩)
  simp only [e0, e1, e2', e3, blk0_at m c t h hh, blk1_at m c t h hh, blk3_at m c t]
  by_cases hc : t.val % 4 * 512 + k.val ≤ (rowOf t r.val r.isLt).val % 2048
  · have hc' : t.val % 4 * 512 + k.val ≤ t.val / 4 % 4 * 512 + r.val := by
      have := r.isLt; simp only [rowOf] at hc; omega
    have hk : colOf t k = ⟨(rowOf t r.val r.isLt).val / 2048 * 2048 + (t.val % 4 * 512 + k.val), by have := (rowOf t r.val r.isLt).isLt; omega⟩ :=
      Fin.ext (colOf_eq t h1 r k)
    rw [dif_pos hc, decide_eq_true hc']
    simp only [hk]
    rfl
  · have hc' : ¬ t.val % 4 * 512 + k.val ≤ t.val / 4 % 4 * 512 + r.val := by
      have := r.isLt; simp only [rowOf] at hc; omega
    rw [dif_neg hc, decide_eq_false hc', ofBits_ninf]
    rfl

/-- A block's values under one head. -/
theorem val_at (c : Dev nD) (t : Fin cfg0.N) (h1 : t.val % 4 ≤ t.val / 4 % 4) (h : ℕ) (hh : h < 2) (v : Vec Ideal S512x128 .f32) (r k : Fin 512) (d : Fin 128)
    (e : ∀ (k : Fin 512) (x : Fin 128), v (ix2 k x) = iblk m c 2 t (ix2 k ⟨h * 256 + 128 + x.val, by omega⟩)) :
    k0_pay26 v (ix2 k d) = W m c (rowOf t r.val r.isLt) (headOf t h hh) d (t.val % 4) k := by
  have hN : cfg0.N = 1024 := rfl
  have hlt := t.isLt
  pointwise [k0_pay26]
  have hk : colOf t k = ⟨(rowOf t r.val r.isLt).val / 2048 * 2048 + (t.val % 4 * 512 + k.val), by have := (rowOf t r.val r.isLt).isLt; omega⟩ :=
    Fin.ext (colOf_eq t h1 r k)
  rw [W, valAt, dif_pos (by omega), ← hk]
  refine (e k d).trans ((congrArg (iblk m c 2 t) ?_).trans ((blk2_at m c t h hh k ⟨128 + d.val, by omega⟩).trans (congrArg (V m c main_arg2) ?_)))
  · exact congrArg (ix2 k) (Fin.ext (Nat.add_assoc _ _ _))
  · exact congrArg (ix2 (colOf t k)) (Fin.ext (Nat.add_assoc _ _ _).symm)

section Head

variable (c : Dev nD) (t : Fin cfg0.N) (h1 : t.val % 4 ≤ t.val / 4 % 4) (h : ℕ) (hh : h < 2)
variable (kr : Vec Ideal S512x64 .f32) (qn : Vec Ideal S512x128 .f32) (qr : Vec Ideal S512x64 .f32) (kn v : Vec Ideal S512x128 .f32)
variable (e0 : ∀ (r : Fin 512) (x : Fin 128), qn (ix2 r x) = iblk m c 0 t (ix2 r ⟨h * 128 + x.val, by omega⟩))
variable (e1 : ∀ (r : Fin 512) (x : Fin 64), qr (ix2 r x) = iblk m c 1 t (ix2 r ⟨h * 64 + x.val, by omega⟩))
variable (e2 : ∀ (k : Fin 512) (x : Fin 128), kn (ix2 k x) = iblk m c 2 t (ix2 k ⟨h * 256 + x.val, by omega⟩))
variable (e3 : ∀ (k : Fin 512) (x : Fin 64), kr (ix2 k x) = iblk m c 3 t (ix2 k x))
variable (e4 : ∀ (k : Fin 512) (x : Fin 128), v (ix2 k x) = iblk m c 2 t (ix2 k ⟨h * 256 + 128 + x.val, by omega⟩))

include h1 e0 e1 e2 e3

/-- What a point whose block is not beyond the diagonal leaves of one head: the running maximum, -/
theorem head_M (mo : Vec Ideal S1x512x1 .f32) (x : S1x512x1.Idx)
    (hm : mo x = runM (S m c (rowOf t (x 1).val (x 1).isLt) (headOf t h hh)) (t.val % 4)) :
    k0_pay10 (k0_pay16 (BitVec.ofNat 32 (grid0.coords t 2).val) (BitVec.ofNat 32 (grid0.coords t 3).val) kr qn qr kn) mo x
      = runM (S m c (rowOf t (x 1).val (x 1).isLt) (headOf t h hh)) (t.val % 4 + 1) :=
  newM _ _ _ _ x (fun k => score_at m c t h1 h hh kr qn qr kn (x 1) k e0 e1 e2 e3) hm

/-- the running sum, -/
theorem head_L (mo lo : Vec Ideal S1x512x1 .f32) (x : S1x512x1.Idx)
    (hm : mo x = runM (S m c (rowOf t (x 1).val (x 1).isLt) (headOf t h hh)) (t.val % 4))
    (hl : lo x = runL (S m c (rowOf t (x 1).val (x 1).isLt) (headOf t h hh)) (t.val % 4)) :
    k0_pay8 (k0_pay16 (BitVec.ofNat 32 (grid0.coords t 2).val) (BitVec.ofNat 32 (grid0.coords t 3).val) kr qn qr kn) mo lo x
      = runL (S m c (rowOf t (x 1).val (x 1).isLt) (headOf t h hh)) (t.val % 4 + 1) :=
  newL _ _ _ _ _ x (fun k => score_at m c t h1 h hh kr qn qr kn (x 1) k e0 e1 e2 e3) hm hl

include e4

/-- the running weighted sum. -/
theorem head_A (mo : Vec Ideal S1x512x1 .f32) (ao : Vec Ideal S1x512x128 .f32) (x : S1x512x128.Idx)
    (hm : mo (ix3 0 (x 1) 0) = runM (S m c (rowOf t (x 1).val (x 1).isLt) (headOf t h hh)) (t.val % 4))
    (ha : ao x = runA (S m c (rowOf t (x 1).val (x 1).isLt) (headOf t h hh)) (W m c (rowOf t (x 1).val (x 1).isLt) (headOf t h hh) (x 2)) (t.val % 4)) :
    k0_pay9 (k0_pay26 v) (k0_pay16 (BitVec.ofNat 32 (grid0.coords t 2).val) (BitVec.ofNat 32 (grid0.coords t 3).val) kr qn qr kn) mo ao x
      = runA (S m c (rowOf t (x 1).val (x 1).isLt) (headOf t h hh)) (W m c (rowOf t (x 1).val (x 1).isLt) (headOf t h hh) (x 2)) (t.val % 4 + 1) :=
  newA _ _ _ _ _ _ _ x (fun k => score_at m c t h1 h hh kr qn qr kn (x 1) k e0 e1 e2 e3)
    (fun k => val_at m c t h1 h hh v (x 1) k (x 2) e4) hm ha

/-- the quotient of the two sums. -/
theorem head_O (mo lo : Vec Ideal S1x512x1 .f32) (ao : Vec Ideal S1x512x128 .f32) (x : S512x128.Idx)
    (hm : mo (ix3 0 (x 0) 0) = runM (S m c (rowOf t (x 0).val (x 0).isLt) (headOf t h hh)) (t.val % 4))
    (hl : lo (ix3 0 (x 0) 0) = runL (S m c (rowOf t (x 0).val (x 0).isLt) (headOf t h hh)) (t.val % 4))
    (ha : ao (ix3 0 (x 0) (x 1)) = runA (S m c (rowOf t (x 0).val (x 0).isLt) (headOf t h hh)) (W m c (rowOf t (x 0).val (x 0).isLt) (headOf t h hh) (x 1)) (t.val % 4)) :
    k0_pay11 (k0_pay9 (k0_pay26 v) (k0_pay16 (BitVec.ofNat 32 (grid0.coords t 2).val) (BitVec.ofNat 32 (grid0.coords t 3).val) kr qn qr kn) mo ao)
        (k0_pay8 (k0_pay16 (BitVec.ofNat 32 (grid0.coords t 2).val) (BitVec.ofNat 32 (grid0.coords t 3).val) kr qn qr kn) mo lo) x
      = Ideal.div (runA (S m c (rowOf t (x 0).val (x 0).isLt) (headOf t h hh)) (W m c (rowOf t (x 0).val (x 0).isLt) (headOf t h hh) (x 1)) (t.val % 4 + 1))
          (runL (S m c (rowOf t (x 0).val (x 0).isLt) (headOf t h hh)) (t.val % 4 + 1)) := by
  refine (out_at _ _ x).trans (congrArg₂ Ideal.div ?_ ?_)
  · exact head_A m c t h1 h hh kr qn qr kn v e0 e1 e2 e3 e4 mo ao (ix3 0 (x 0) (x 1)) hm ha
  · exact head_L m c t h1 h hh kr qn qr kn e0 e1 e2 e3 mo lo (ix3 0 (x 0) 0) hm hl

end Head

/-! ## The scratch buffers after a point -/

/-- The three running quantities of the point's rows and heads after a number of blocks. -/
def accM (c : Dev nD) (t : Fin cfg0.N) (n : ℕ) : Vec Ideal S2x512x1 .f32 := fun y =>
  runM (S m c (rowOf t (y 1).val (y 1).isLt) (headOf t (y 0).val (y 0).isLt)) n

def accL (c : Dev nD) (t : Fin cfg0.N) (n : ℕ) : Vec Ideal S2x512x1 .f32 := fun y =>
  runL (S m c (rowOf t (y 1).val (y 1).isLt) (headOf t (y 0).val (y 0).isLt)) n

def accA (c : Dev nD) (t : Fin cfg0.N) (n : ℕ) : Vec Ideal S2x512x128 .f32 := fun y =>
  runA (S m c (rowOf t (y 1).val (y 1).isLt) (headOf t (y 0).val (y 0).isLt)) (W m c (rowOf t (y 1).val (y 1).isLt) (headOf t (y 0).val (y 0).isLt) (y 2)) n

/-- Two stores that cover the buffer hide every earlier one. -/
theorem canon_drop {Val : EltTy → Type} [∀ e, Nonempty (Val e)] {s : Shape} {e : EltTy} (p q : View.Piece Val s e) (L : List (View.Piece Val s e))
    (h : ∀ y : s.Idx, y ∈ p.1.set ∨ y ∈ q.1.set) : View.canon (p :: q :: L) = View.canon [p, q] := by
  funext y
  by_cases hp : y ∈ p.1.set
  · obtain ⟨r, w⟩ := p
    obtain ⟨x, rfl⟩ : ∃ x, r.emb x = y := r.exists_idx_of_mem hp
    rw [View.canon_cons_emb, View.canon_cons_emb]
  · have hq := (h y).resolve_left hp
    rw [View.canon_cons_of_not_mem p _ hp, View.canon_cons_of_not_mem p _ hp]
    obtain ⟨r, w⟩ := q
    obtain ⟨x, rfl⟩ : ∃ x, r.emb x = y := r.exists_idx_of_mem hq
    rw [View.canon_cons_emb, View.canon_cons_emb]

/-- A load of what the last store but one wrote, the last one elsewhere. -/
theorem readCov_second {Val : EltTy → Type} [∀ e, Nonempty (Val e)] {sg : RefSig} {κ : Kind} {sp : Space} {s : Shape} {e : EltTy} (v : View sg κ sp s e)
    (r₀ : Rect s) (w₀ : r₀.shape.Idx → Val e) (r : Rect s) (w : r.shape.Idx → Val e) (L : List (View.Piece Val s e))
    (h : LoadRect.disj r₀ r.toLoadRect = true) : v.readCov (⟨r₀, w₀⟩ :: ⟨r, w⟩ :: L) r.toLoadRect = w := by
  rw [View.readCov_skip v r₀ w₀ _ _ h, View.readCov_cons_toLoadRect]

theorem cover1 (y : S2x512x1.Idx) : y ∈ (Rect.unit ![1, 0, 0] ![1, 512, 1] inb_S2x512x1_S1x512x1_1_0_0).set
    ∨ y ∈ (Rect.unit ![0, 0, 0] ![1, 512, 1] inb_S2x512x1_S1x512x1_0_0_0).set := by
  have a0 : (y 0).val < 2 := (y 0).isLt
  have a1 : (y 1).val < 512 := (y 1).isLt
  have a2 : (y 2).val < 1 := (y 2).isLt
  rcases Nat.lt_or_ge (y 0).val 1 with h | h
  · refine Or.inr (Rect.mem_set_unit.mpr fun a => ?_)
    match a with
    | 0 => exact ⟨Nat.zero_le _, h⟩
    | 1 => exact ⟨Nat.zero_le _, by simpa using a1⟩
    | 2 => exact ⟨Nat.zero_le _, by simpa using a2⟩
  · refine Or.inl (Rect.mem_set_unit.mpr fun a => ?_)
    match a with
    | 0 => exact ⟨h, by simpa using a0⟩
    | 1 => exact ⟨Nat.zero_le _, by simpa using a1⟩
    | 2 => exact ⟨Nat.zero_le _, by simpa using a2⟩

theorem cover128 (y : S2x512x128.Idx) : y ∈ (Rect.unit ![1, 0, 0] ![1, 512, 128] inb_S2x512x128_S1x512x128_1_0_0).set
    ∨ y ∈ (Rect.unit ![0, 0, 0] ![1, 512, 128] inb_S2x512x128_S1x512x128_0_0_0).set := by
  have a0 : (y 0).val < 2 := (y 0).isLt
  have a1 : (y 1).val < 512 := (y 1).isLt
  have a2 : (y 2).val < 128 := (y 2).isLt
  rcases Nat.lt_or_ge (y 0).val 1 with h | h
  · refine Or.inr (Rect.mem_set_unit.mpr fun a => ?_)
    match a with
    | 0 => exact ⟨Nat.zero_le _, h⟩
    | 1 => exact ⟨Nat.zero_le _, by simpa using a1⟩
    | 2 => exact ⟨Nat.zero_le _, by simpa using a2⟩
  · refine Or.inl (Rect.mem_set_unit.mpr fun a => ?_)
    match a with
    | 0 => exact ⟨h, by simpa using a0⟩
    | 1 => exact ⟨Nat.zero_le _, by simpa using a1⟩
    | 2 => exact ⟨Nat.zero_le _, by simpa using a2⟩

theorem start_M (y : S2x512x1.Idx) (S : ℕ → Fin 512 → EReal) : k0_pay1 (F := Ideal) y = runM S 0 := by
  pointwise [k0_pay1]
  rw [ofBits_ninf]; rfl
theorem start_L (y : S2x512x1.Idx) (S : ℕ → Fin 512 → EReal) : k0_pay2 (F := Ideal) y = runL S 0 := by
  pointwise [k0_pay2]
  rfl
theorem start_A (y : S2x512x128.Idx) (S W : ℕ → Fin 512 → EReal) : k0_pay3 (F := Ideal) y = runA S W 0 := by
  pointwise [k0_pay3]
  rfl

/-- The quotients the point's rows and heads come to after a number of blocks. -/
def outAt (c : Dev nD) (t : Fin cfg0.N) (n : ℕ) : Vec Ideal S512x256 .f32 := fun y =>
  have h1 : (y 1).val < 256 := (y 1).isLt
  Ideal.div (runA (S m c (rowOf t (y 0).val (y 0).isLt) (headOf t ((y 1).val / 128) (by omega)))
      (W m c (rowOf t (y 0).val (y 0).isLt) (headOf t ((y 1).val / 128) (by omega)) ⟨(y 1).val % 128, by omega⟩) n)
    (runL (S m c (rowOf t (y 0).val (y 0).isLt) (headOf t ((y 1).val / 128) (by omega))) n)

set_option maxHeartbeats 4000000 in
/-- The first block, when it is not the diagonal one: one step from the scratch just filled. -/
theorem step_C (c : Dev nD) (t : Fin cfg0.N) (h0 : t.val % 4 = 0) (h1 : t.val % 4 ≤ t.val / 4 % 4) (h2 : ¬t.val / 4 % 4 = t.val % 4) :
    (outsAt0 m c t.val t.isLt).2.1 = accM m c t (t.val % 4 + 1) ∧ (outsAt0 m c t.val t.isLt).2.2.1 = accL m c t (t.val % 4 + 1)
      ∧ (outsAt0 m c t.val t.isLt).2.2.2 = accA m c t (t.val % 4 + 1) := by
  rw [outsAt0_C m c t h0 h1 h2]
  refine ⟨?_, ?_, ?_⟩
  · frame_out
    refine (canon_drop _ _ _ ?_).trans ?_
    · exact cover1
    funext y
    canon_tiles x p
    · refine (head_M m c t h1 1 (by decide) _ _ _ _ (fun r z => ?_) (fun r z => ?_) (fun r z => ?_) (fun r z => rfl) _ x ?_).trans ?_
      · pointwise
      · pointwise
      · pointwise
      · rw [View.readCov_skip _ _ _ _ _ (by decide), View.readCov_fill _ _ _ _ _ (by decide), h0]
        exact start_M _ _
      · simp only [accM, p1, show (y 0).val = 1 by omega]
    · refine (head_M m c t h1 0 (by decide) _ _ _ _ (fun r z => ?_) (fun r z => ?_) (fun r z => ?_) (fun r z => rfl) _ x ?_).trans ?_
      · pointwise
      · pointwise
      · pointwise
      · rw [View.readCov_fill _ _ _ _ _ (by decide), h0]
        exact start_M _ _
      · simp only [accM, p1, show (y 0).val = 0 by omega]
  · frame_out
    refine (canon_drop _ _ _ ?_).trans ?_
    · exact cover1
    funext y
    canon_tiles x p
    · refine (head_L m c t h1 1 (by decide) _ _ _ _ (fun r z => ?_) (fun r z => ?_) (fun r z => ?_) (fun r z => rfl) _ _ x ?_ ?_).trans ?_
      · pointwise
      · pointwise
      · pointwise
      · rw [View.readCov_skip _ _ _ _ _ (by decide), View.readCov_fill _ _ _ _ _ (by decide), h0]
        exact start_M _ _
      · rw [View.readCov_skip _ _ _ _ _ (by decide), View.readCov_fill _ _ _ _ _ (by decide), h0]
        exact start_L _ _
      · simp only [accL, p1, show (y 0).val = 1 by omega]
    · refine (head_L m c t h1 0 (by decide) _ _ _ _ (fun r z => ?_) (fun r z => ?_) (fun r z => ?_) (fun r z => rfl) _ _ x ?_ ?_).trans ?_
      · pointwise
      · pointwise
      · pointwise
      · rw [View.readCov_fill _ _ _ _ _ (by decide), h0]
        exact start_M _ _
      · rw [View.readCov_fill _ _ _ _ _ (by decide), h0]
        exact start_L _ _
      · simp only [accL, p1, show (y 0).val = 0 by omega]
  · frame_out
    refine (canon_drop _ _ _ ?_).trans ?_
    · exact cover128
    funext y
    canon_tiles x p
    · refine (head_A m c t h1 1 (by decide) _ _ _ _ _ (fun r z => ?_) (fun r z => ?_) (fun r z => ?_) (fun r z => rfl) (fun r z => ?_) _ _ x ?_ ?_).trans ?_
      · pointwise
      · pointwise
      · pointwise
      · pointwise
      · rw [View.readCov_skip _ _ _ _ _ (by decide), View.readCov_fill _ _ _ _ _ (by decide), h0]
        exact start_M _ _
      · rw [View.readCov_skip _ _ _ _ _ (by decide), View.readCov_fill _ _ _ _ _ (by decide), h0]
        exact start_A _ _ _
      · simp only [accA, p1, show y 2 = x 2 from Fin.ext p2, show (y 0).val = 1 by omega]
    · refine (head_A m c t h1 0 (by decide) _ _ _ _ _ (fun r z => ?_) (fun r z => ?_) (fun r z => ?_) (fun r z => rfl) (fun r z => ?_) _ _ x ?_ ?_).trans ?_
      · pointwise
      · pointwise
      · pointwise
      · pointwise
      · rw [View.readCov_fill _ _ _ _ _ (by decide), h0]
        exact start_M _ _
      · rw [View.readCov_fill _ _ _ _ _ (by decide), h0]
        exact start_A _ _ _
      · simp only [accA, p1, show y 2 = x 2 from Fin.ext p2, show (y 0).val = 0 by omega]

set_option maxHeartbeats 4000000 in
/-- The first block, when it is the diagonal one: one step, and the output. -/
theorem step_A (c : Dev nD) (t : Fin cfg0.N) (h0 : t.val % 4 = 0) (h1 : t.val % 4 ≤ t.val / 4 % 4) (h2 : t.val / 4 % 4 = t.val % 4) :
    (outsAt0 m c t.val t.isLt).2.1 = accM m c t (t.val % 4 + 1) ∧ (outsAt0 m c t.val t.isLt).2.2.1 = accL m c t (t.val % 4 + 1)
      ∧ (outsAt0 m c t.val t.isLt).2.2.2 = accA m c t (t.val % 4 + 1) ∧ (outsAt0 m c t.val t.isLt).1 = outAt m c t (t.val % 4 + 1) := by
  rw [outsAt0_A m c t h0 h1 h2]
  refine ⟨?_, ?_, ?_, ?_⟩
  · frame_out
    refine (canon_drop _ _ _ ?_).trans ?_
    · exact cover1
    funext y
    canon_tiles x p
    · refine (head_M m c t h1 1 (by decide) _ _ _ _ (fun r z => ?_) (fun r z => ?_) (fun r z => ?_) (fun r z => rfl) _ x ?_).trans ?_
      · pointwise
      · pointwise
      · pointwise
      · rw [View.readCov_skip _ _ _ _ _ (by decide), View.readCov_fill _ _ _ _ _ (by decide), h0]
        exact start_M _ _
      · simp only [accM, p1, show (y 0).val = 1 by omega]
    · refine (head_M m c t h1 0 (by decide) _ _ _ _ (fun r z => ?_) (fun r z => ?_) (fun r z => ?_) (fun r z => rfl) _ x ?_).trans ?_
      · pointwise
      · pointwise
      · pointwise
      · rw [View.readCov_fill _ _ _ _ _ (by decide), h0]
        exact start_M _ _
      · simp only [accM, p1, show (y 0).val = 0 by omega]
  · frame_out
    refine (canon_drop _ _ _ ?_).trans ?_
    · exact cover1
    funext y
    canon_tiles x p
    · refine (head_L m c t h1 1 (by decide) _ _ _ _ (fun r z => ?_) (fun r z => ?_) (fun r z => ?_) (fun r z => rfl) _ _ x ?_ ?_).trans ?_
      · pointwise
      · pointwise
      · pointwise
      · rw [View.readCov_skip _ _ _ _ _ (by decide), View.readCov_fill _ _ _ _ _ (by decide), h0]
        exact start_M _ _
      · rw [View.readCov_skip _ _ _ _ _ (by decide), View.readCov_fill _ _ _ _ _ (by decide), h0]
        exact start_L _ _
      · simp only [accL, p1, show (y 0).val = 1 by omega]
    · refine (head_L m c t h1 0 (by decide) _ _ _ _ (fun r z => ?_) (fun r z => ?_) (fun r z => ?_) (fun r z => rfl) _ _ x ?_ ?_).trans ?_
      · pointwise
      · pointwise
      · pointwise
      · rw [View.readCov_fill _ _ _ _ _ (by decide), h0]
        exact start_M _ _
      · rw [View.readCov_fill _ _ _ _ _ (by decide), h0]
        exact start_L _ _
      · simp only [accL, p1, show (y 0).val = 0 by omega]
  · frame_out
    refine (canon_drop _ _ _ ?_).trans ?_
    · exact cover128
    funext y
    canon_tiles x p
    · refine (head_A m c t h1 1 (by decide) _ _ _ _ _ (fun r z => ?_) (fun r z => ?_) (fun r z => ?_) (fun r z => rfl) (fun r z => ?_) _ _ x ?_ ?_).trans ?_
      · pointwise
      · pointwise
      · pointwise
      · pointwise
      · rw [View.readCov_skip _ _ _ _ _ (by decide), View.readCov_fill _ _ _ _ _ (by decide), h0]
        exact start_M _ _
      · rw [View.readCov_skip _ _ _ _ _ (by decide), View.readCov_fill _ _ _ _ _ (by decide), h0]
        exact start_A _ _ _
      · simp only [accA, p1, show y 2 = x 2 from Fin.ext p2, show (y 0).val = 1 by omega]
    · refine (head_A m c t h1 0 (by decide) _ _ _ _ _ (fun r z => ?_) (fun r z => ?_) (fun r z => ?_) (fun r z => rfl) (fun r z => ?_) _ _ x ?_ ?_).trans ?_
      · pointwise
      · pointwise
      · pointwise
      · pointwise
      · rw [View.readCov_fill _ _ _ _ _ (by decide), h0]
        exact start_M _ _
      · rw [View.readCov_fill _ _ _ _ _ (by decide), h0]
        exact start_A _ _ _
      · simp only [accA, p1, show y 2 = x 2 from Fin.ext p2, show (y 0).val = 0 by omega]
  · frame_out
    funext y
    canon_tiles x p
    · rw [View.readCov_cons_toLoadRect, View.readCov_cons_toLoadRect]
      refine (head_O m c t h1 1 (by decide) _ _ _ _ _ (fun r z => ?_) (fun r z => ?_) (fun r z => ?_) (fun r z => rfl) (fun r z => ?_) _ _ _ x ?_ ?_ ?_).trans ?_
      · pointwise
      · pointwise
      · pointwise
      · pointwise
      · rw [View.readCov_skip _ _ _ _ _ (by decide), View.readCov_fill _ _ _ _ _ (by decide), h0]
        exact start_M _ _
      · rw [View.readCov_skip _ _ _ _ _ (by decide), View.readCov_fill _ _ _ _ _ (by decide), h0]
        exact start_L _ _
      · rw [View.readCov_skip _ _ _ _ _ (by decide), View.readCov_fill _ _ _ _ _ (by decide), h0]
        exact start_A _ _ _
      · simp only [outAt, p0, show (y 1).val / 128 = 1 by omega, show (y 1).val % 128 = (x 1).val by omega]
        rfl
    · rw [readCov_second _ _ _ _ _ _ (by decide), readCov_second _ _ _ _ _ _ (by decide)]
      refine (head_O m c t h1 0 (by decide) _ _ _ _ _ (fun r z => ?_) (fun r z => ?_) (fun r z => ?_) (fun r z => rfl) (fun r z => ?_) _ _ _ x ?_ ?_ ?_).trans ?_
      · pointwise
      · pointwise
      · pointwise
      · pointwise
      · rw [View.readCov_fill _ _ _ _ _ (by decide), h0]
        exact start_M _ _
      · rw [View.readCov_fill _ _ _ _ _ (by decide), h0]
        exact start_L _ _
      · rw [View.readCov_fill _ _ _ _ _ (by decide), h0]
        exact start_A _ _ _
      · simp only [outAt, p0, show (y 1).val / 128 = 0 by omega, show (y 1).val % 128 = (x 1).val by omega]
        rfl

set_option maxHeartbeats 4000000 in
/-- A block strictly between the first and the diagonal one: one step from what the point before left. -/
theorem step_E (c : Dev nD) (t : Fin cfg0.N) (h0 : ¬t.val % 4 = 0) (h1 : t.val % 4 ≤ t.val / 4 % 4) (h2 : ¬t.val / 4 % 4 = t.val % 4)
    (ih : (outsAt0 m c (t.val - 1) (Nat.lt_of_le_of_lt (Nat.sub_le ..) t.isLt)).2.1 = accM m c t (t.val % 4))
    (ih1 : (outsAt0 m c (t.val - 1) (Nat.lt_of_le_of_lt (Nat.sub_le ..) t.isLt)).2.2.1 = accL m c t (t.val % 4))
    (ih2 : (outsAt0 m c (t.val - 1) (Nat.lt_of_le_of_lt (Nat.sub_le ..) t.isLt)).2.2.2 = accA m c t (t.val % 4)) :
    (outsAt0 m c t.val t.isLt).2.1 = accM m c t (t.val % 4 + 1) ∧ (outsAt0 m c t.val t.isLt).2.2.1 = accL m c t (t.val % 4 + 1)
      ∧ (outsAt0 m c t.val t.isLt).2.2.2 = accA m c t (t.val % 4 + 1) := by
  rw [outsAt0_E m c t h0 h1 h2]
  refine ⟨?_, ?_, ?_⟩
  · frame_out
    simp only [ih, read_unread_whole]
    clear ih ih1 ih2 h0 h2
    funext y
    canon_tiles x p
    · refine (head_M m c t h1 1 (by decide) _ _ _ _ (fun r z => ?_) (fun r z => ?_) (fun r z => ?_) (fun r z => rfl) _ x ?_).trans ?_
      · pointwise
      · pointwise
      · pointwise
      · pointwise [accM]
      · simp only [accM, p1, show (y 0).val = 1 by omega]
    · refine (head_M m c t h1 0 (by decide) _ _ _ _ (fun r z => ?_) (fun r z => ?_) (fun r z => ?_) (fun r z => rfl) _ x ?_).trans ?_
      · pointwise
      · pointwise
      · pointwise
      · pointwise [accM]
      · simp only [accM, p1, show (y 0).val = 0 by omega]
  · frame_out
    simp only [ih, ih1, read_unread_whole]
    clear ih ih1 ih2 h0 h2
    funext y
    canon_tiles x p
    · refine (head_L m c t h1 1 (by decide) _ _ _ _ (fun r z => ?_) (fun r z => ?_) (fun r z => ?_) (fun r z => rfl) _ _ x ?_ ?_).trans ?_
      · pointwise
      · pointwise
      · pointwise
      · pointwise [accM]
      · pointwise [accL]
      · simp only [accL, p1, show (y 0).val = 1 by omega]
    · refine (head_L m c t h1 0 (by decide) _ _ _ _ (fun r z => ?_) (fun r z => ?_) (fun r z => ?_) (fun r z => rfl) _ _ x ?_ ?_).trans ?_
      · pointwise
      · pointwise
      · pointwise
      · pointwise [accM]
      · pointwise [accL]
      · simp only [accL, p1, show (y 0).val = 0 by omega]
  · frame_out
    simp only [ih, ih2, read_unread_whole]
    clear ih ih1 ih2 h0 h2
    funext y
    canon_tiles x p
    · refine (head_A m c t h1 1 (by decide) _ _ _ _ _ (fun r z => ?_) (fun r z => ?_) (fun r z => ?_) (fun r z => rfl) (fun r z => ?_) _ _ x ?_ ?_).trans ?_
      · pointwise
      · pointwise
      · pointwise
      · pointwise
      · pointwise [accM]
      · pointwise [accA]
      · simp only [accA, p1, show y 2 = x 2 from Fin.ext p2, show (y 0).val = 1 by omega]
    · refine (head_A m c t h1 0 (by decide) _ _ _ _ _ (fun r z => ?_) (fun r z => ?_) (fun r z => ?_) (fun r z => rfl) (fun r z => ?_) _ _ x ?_ ?_).trans ?_
      · pointwise
      · pointwise
      · pointwise
      · pointwise
      · pointwise [accM]
      · pointwise [accA]
      · simp only [accA, p1, show y 2 = x 2 from Fin.ext p2, show (y 0).val = 0 by omega]

set_option maxHeartbeats 4000000 in
/-- The diagonal block, when it is not the first: one step, and the output. -/
theorem step_D (c : Dev nD) (t : Fin cfg0.N) (h0 : ¬t.val % 4 = 0) (h1 : t.val % 4 ≤ t.val / 4 % 4) (h2 : t.val / 4 % 4 = t.val % 4)
    (ih : (outsAt0 m c (t.val - 1) (Nat.lt_of_le_of_lt (Nat.sub_le ..) t.isLt)).2.1 = accM m c t (t.val % 4))
    (ih1 : (outsAt0 m c (t.val - 1) (Nat.lt_of_le_of_lt (Nat.sub_le ..) t.isLt)).2.2.1 = accL m c t (t.val % 4))
    (ih2 : (outsAt0 m c (t.val - 1) (Nat.lt_of_le_of_lt (Nat.sub_le ..) t.isLt)).2.2.2 = accA m c t (t.val % 4)) :
    (outsAt0 m c t.val t.isLt).2.1 = accM m c t (t.val % 4 + 1) ∧ (outsAt0 m c t.val t.isLt).2.2.1 = accL m c t (t.val % 4 + 1)
      ∧ (outsAt0 m c t.val t.isLt).2.2.2 = accA m c t (t.val % 4 + 1) ∧ (outsAt0 m c t.val t.isLt).1 = outAt m c t (t.val % 4 + 1) := by
  rw [outsAt0_D m c t h0 h1 h2]
  refine ⟨?_, ?_, ?_, ?_⟩
  · frame_out
    simp only [ih, read_unread_whole]
    clear ih ih1 ih2 h0 h2
    funext y
    canon_tiles x p
    · refine (head_M m c t h1 1 (by decide) _ _ _ _ (fun r z => ?_) (fun r z => ?_) (fun r z => ?_) (fun r z => rfl) _ x ?_).trans ?_
      · pointwise
      · pointwise
      · pointwise
      · pointwise [accM]
      · simp only [accM, p1, show (y 0).val = 1 by omega]
    · refine (head_M m c t h1 0 (by decide) _ _ _ _ (fun r z => ?_) (fun r z => ?_) (fun r z => ?_) (fun r z => rfl) _ x ?_).trans ?_
      · pointwise
      · pointwise
      · pointwise
      · pointwise [accM]
      · simp only [accM, p1, show (y 0).val = 0 by omega]
  · frame_out
    simp only [ih, ih1, read_unread_whole]
    clear ih ih1 ih2 h0 h2
    funext y
    canon_tiles x p
    · refine (head_L m c t h1 1 (by decide) _ _ _ _ (fun r z => ?_) (fun r z => ?_) (fun r z => ?_) (fun r z => rfl) _ _ x ?_ ?_).trans ?_
      · pointwise
      · pointwise
      · pointwise
      · pointwise [accM]
      · pointwise [accL]
      · simp only [accL, p1, show (y 0).val = 1 by omega]
    · refine (head_L m c t h1 0 (by decide) _ _ _ _ (fun r z => ?_) (fun r z => ?_) (fun r z => ?_) (fun r z => rfl) _ _ x ?_ ?_).trans ?_
      · pointwise
      · pointwise
      · pointwise
      · pointwise [accM]
      · pointwise [accL]
      · simp only [accL, p1, show (y 0).val = 0 by omega]
  · frame_out
    simp only [ih, ih2, read_unread_whole]
    clear ih ih1 ih2 h0 h2
    funext y
    canon_tiles x p
    · refine (head_A m c t h1 1 (by decide) _ _ _ _ _ (fun r z => ?_) (fun r z => ?_) (fun r z => ?_) (fun r z => rfl) (fun r z => ?_) _ _ x ?_ ?_).trans ?_
      · pointwise
      · pointwise
      · pointwise
      · pointwise
      · pointwise [accM]
      · pointwise [accA]
      · simp only [accA, p1, show y 2 = x 2 from Fin.ext p2, show (y 0).val = 1 by omega]
    · refine (head_A m c t h1 0 (by decide) _ _ _ _ _ (fun r z => ?_) (fun r z => ?_) (fun r z => ?_) (fun r z => rfl) (fun r z => ?_) _ _ x ?_ ?_).trans ?_
      · pointwise
      · pointwise
      · pointwise
      · pointwise
      · pointwise [accM]
      · pointwise [accA]
      · simp only [accA, p1, show y 2 = x 2 from Fin.ext p2, show (y 0).val = 0 by omega]
  · frame_out
    simp only [ih, ih1, ih2, read_unread_whole]
    clear ih ih1 ih2 h0 h2
    funext y
    canon_tiles x p
    · rw [View.readCov_cons_toLoadRect, View.readCov_cons_toLoadRect]
      refine (head_O m c t h1 1 (by decide) _ _ _ _ _ (fun r z => ?_) (fun r z => ?_) (fun r z => ?_) (fun r z => rfl) (fun r z => ?_) _ _ _ x ?_ ?_ ?_).trans ?_
      · pointwise
      · pointwise
      · pointwise
      · pointwise
      · pointwise [accM]
      · pointwise [accL]
      · pointwise [accA]
      · simp only [outAt, p0, show (y 1).val / 128 = 1 by omega, show (y 1).val % 128 = (x 1).val by omega]
        rfl
    · rw [readCov_second _ _ _ _ _ _ (by decide), readCov_second _ _ _ _ _ _ (by decide)]
      refine (head_O m c t h1 0 (by decide) _ _ _ _ _ (fun r z => ?_) (fun r z => ?_) (fun r z => ?_) (fun r z => rfl) (fun r z => ?_) _ _ _ x ?_ ?_ ?_).trans ?_
      · pointwise
      · pointwise
      · pointwise
      · pointwise
      · pointwise [accM]
      · pointwise [accL]
      · pointwise [accA]
      · simp only [outAt, p0, show (y 1).val / 128 = 0 by omega, show (y 1).val % 128 = (x 1).val by omega]
        rfl

end Cert.FlashIdeal.Attn

end
-- ==== Proof.FlashValue.lean ====
/-
  The attention call's output: at every row, head and component, the quotient of the weighted sum of the values by
  the sum of the weights over the row's whole prompt, the weights relative to the row's maximum.
-/
module

public import proofs.«01_k».proof.Proof.FlashSteps

@[expose] public section

set_option maxRecDepth 16384

noncomputable section

namespace Cert.FlashIdeal.Attn

open Cert.FlashIdeal Cert.FlashIdeal.Gen
open Idealize.ShloMosaic Idealize.ShloMosaic.TcCoe Idealize.SL.Sem
open Idealize.ShloMosaic.Pipeline (Dat)
open Cert.Softmax

section Ideal

variable (m : (ℓ : Loc nD τ sig) → Buf (Elt Ideal) ℓ)

/-! ## Along a run of points -/

/-- The point before, of the same run of points. -/
def pred (t : Fin cfg0.N) : Fin cfg0.N := ⟨t.val - 1, Nat.lt_of_le_of_lt (Nat.sub_le ..) t.isLt⟩

theorem rowOf_pred (t : Fin cfg0.N) (h0 : ¬t.val % 4 = 0) (r : ℕ) (hr : r < 512) : rowOf (pred t) r hr = rowOf t r hr :=
  Fin.ext (by simp only [rowOf, pred]; omega)

theorem headOf_pred (t : Fin cfg0.N) (h0 : ¬t.val % 4 = 0) (h : ℕ) (hh : h < 2) : headOf (pred t) h hh = headOf t h hh :=
  Fin.ext (by simp only [headOf, pred]; omega)

theorem accM_pred (c : Dev nD) (t : Fin cfg0.N) (h0 : ¬t.val % 4 = 0) (n : ℕ) : accM m c (pred t) n = accM m c t n :=
  funext fun y => congrArg₂ (fun R hd => runM (S m c R hd) n) (rowOf_pred t h0 _ _) (headOf_pred t h0 _ _)

theorem accL_pred (c : Dev nD) (t : Fin cfg0.N) (h0 : ¬t.val % 4 = 0) (n : ℕ) : accL m c (pred t) n = accL m c t n :=
  funext fun y => congrArg₂ (fun R hd => runL (S m c R hd) n) (rowOf_pred t h0 _ _) (headOf_pred t h0 _ _)

theorem accA_pred (c : Dev nD) (t : Fin cfg0.N) (h0 : ¬t.val % 4 = 0) (n : ℕ) : accA m c (pred t) n = accA m c t n :=
  funext fun y => congrArg₂ (fun R hd => runA (S m c R hd) (W m c R hd (y 2)) n) (rowOf_pred t h0 _ _) (headOf_pred t h0 _ _)

theorem outAt_pred (c : Dev nD) (t : Fin cfg0.N) (h0 : ¬t.val % 4 = 0) (n : ℕ) : outAt m c (pred t) n = outAt m c t n :=
  funext fun y => congrArg₂ (fun R hd => Ideal.div (runA (S m c R hd) (W m c R hd ⟨(y 1).val % 128, by omega⟩) n) (runL (S m c R hd) n))
    (rowOf_pred t h0 _ _) (headOf_pred t h0 _ _)

/-- The scratch after a point whose block of keys is not beyond the diagonal. -/
theorem scratch_at (c : Dev nD) : ∀ (k : ℕ) (t : Fin cfg0.N), t.val % 4 = k → k ≤ t.val / 4 % 4 →
    (outsAt0 m c t.val t.isLt).2.1 = accM m c t (k + 1) ∧ (outsAt0 m c t.val t.isLt).2.2.1 = accL m c t (k + 1)
      ∧ (outsAt0 m c t.val t.isLt).2.2.2 = accA m c t (k + 1)
  | 0, t, hk, h1 => by
    by_cases h2 : t.val / 4 % 4 = t.val % 4
    · have h := step_A m c t hk (by omega) h2
      rw [hk] at h
      exact ⟨h.1, h.2.1, h.2.2.1⟩
    · have h := step_C m c t hk (by omega) h2
      rwa [hk] at h
  | k + 1, t, hk, h1 => by
    have h0 : ¬t.val % 4 = 0 := by omega
    obtain ⟨i1, i2, i3⟩ := scratch_at c k (pred t) (by simp only [pred]; omega) (by simp only [pred]; omega)
    have j1 : (outsAt0 m c (t.val - 1) (Nat.lt_of_le_of_lt (Nat.sub_le ..) t.isLt)).2.1 = accM m c t (t.val % 4) :=
      (i1.trans (accM_pred m c t h0 _)).trans (congrArg _ hk.symm)
    have j2 : (outsAt0 m c (t.val - 1) (Nat.lt_of_le_of_lt (Nat.sub_le ..) t.isLt)).2.2.1 = accL m c t (t.val % 4) :=
      (i2.trans (accL_pred m c t h0 _)).trans (congrArg _ hk.symm)
    have j3 : (outsAt0 m c (t.val - 1) (Nat.lt_of_le_of_lt (Nat.sub_le ..) t.isLt)).2.2.2 = accA m c t (t.val % 4) :=
      (i3.trans (accA_pred m c t h0 _)).trans (congrArg _ hk.symm)
    by_cases h2 : t.val / 4 % 4 = t.val % 4
    · have h := step_D m c t h0 (by omega) h2 j1 j2 j3
      rw [hk] at h
      exact ⟨h.1, h.2.1, h.2.2.1⟩
    · have h := step_E m c t h0 (by omega) h2 j1 j2 j3
      rwa [hk] at h

/-- The output's buffer after a point whose block of keys is the diagonal one or beyond it. -/
theorem out_run (c : Dev nD) : ∀ (k : ℕ) (t : Fin cfg0.N), t.val % 4 = k → t.val / 4 % 4 ≤ k →
    (outsAt0 m c t.val t.isLt).1 = outAt m c t (t.val / 4 % 4 + 1)
  | 0, t, hk, h1 => by
    have h := (step_A m c t hk (by omega) (by omega)).2.2.2
    rwa [show t.val % 4 = t.val / 4 % 4 by omega] at h
  | k + 1, t, hk, h1 => by
    have h0 : ¬t.val % 4 = 0 := by omega
    by_cases h2 : t.val / 4 % 4 = t.val % 4
    · have hp : (t.val - 1) / 4 = t.val / 4 := by omega
      obtain ⟨i1, i2, i3⟩ := scratch_at m c k (pred t) (by simp only [pred]; omega) (by simp only [pred]; omega)
      have j1 : (outsAt0 m c (t.val - 1) (Nat.lt_of_le_of_lt (Nat.sub_le ..) t.isLt)).2.1 = accM m c t (t.val % 4) :=
        (i1.trans (accM_pred m c t h0 _)).trans (congrArg _ hk.symm)
      have j2 : (outsAt0 m c (t.val - 1) (Nat.lt_of_le_of_lt (Nat.sub_le ..) t.isLt)).2.2.1 = accL m c t (t.val % 4) :=
        (i2.trans (accL_pred m c t h0 _)).trans (congrArg _ hk.symm)
      have j3 : (outsAt0 m c (t.val - 1) (Nat.lt_of_le_of_lt (Nat.sub_le ..) t.isLt)).2.2.2 = accA m c t (t.val % 4) :=
        (i3.trans (accA_pred m c t h0 _)).trans (congrArg _ hk.symm)
      have h := (step_D m c t h0 (by omega) h2 j1 j2 j3).2.2.2
      rwa [← h2] at h
    · rw [outsAt0_B m c t h0 (by omega) h2]
      refine (out_run c k (pred t) (by simp only [pred]; omega) (by simp only [pred]; omega)).trans ?_
      rw [show (pred t).val / 4 % 4 = t.val / 4 % 4 by simp only [pred]; omega]
      exact outAt_pred m c t h0 _

/-! ## The whole array -/

/-- The attention at a row, a head and a component: the values of the row's prompt weighted by the exponentials of the
    row's scores relative to their maximum, over the sum of those exponentials. -/
def attnAt (qn : FVec Ideal S8192x4096 .f32) (qr : FVec Ideal S8192x2048 .f32) (kv : FVec Ideal S8192x8192 .f32)
    (kr : FVec Ideal S8192x64 .f32) : FVec Ideal S8192x4096 .f32 := fun j =>
  have h1 : (j 1).val < 4096 := (j 1).isLt
  Ideal.div (num (fun col : Fin 2048 => scoreAt qn qr kv kr (j 0) ⟨(j 1).val / 128, by omega⟩ col.val)
      (fun col : Fin 2048 => valAt kv (j 0) ⟨(j 1).val / 128, by omega⟩ ⟨(j 1).val % 128, by omega⟩ col.val))
    (den (fun col : Fin 2048 => scoreAt qn qr kv kr (j 0) ⟨(j 1).val / 128, by omega⟩ col.val))

/-- The blocks up to the diagonal one make up the whole row. -/
theorem run_all (c : Dev nD) (t : Fin cfg0.N) (r : ℕ) (hr : r < 512) (hd : Fin 32) (d : Fin 128) :
    runL (S m c (rowOf t r hr) hd) (t.val / 4 % 4 + 1)
        = den (fun col : Fin 2048 => scoreAt (V m c main_arg0) (V m c main_arg1) (V m c main_arg2) (V m c main_arg3) (rowOf t r hr) hd col.val)
      ∧ runA (S m c (rowOf t r hr) hd) (W m c (rowOf t r hr) hd d) (t.val / 4 % 4 + 1)
        = num (fun col : Fin 2048 => scoreAt (V m c main_arg0) (V m c main_arg1) (V m c main_arg2) (V m c main_arg3) (rowOf t r hr) hd col.val)
            (fun col : Fin 2048 => valAt (V m c main_arg2) (rowOf t r hr) hd d col.val) := by
  have hm := run_masked (S m c (rowOf t r hr) hd) (W m c (rowOf t r hr) hd d) (k := t.val / 4 % 4 + 1) (N := 4) (by omega) (fun i hi j => by
    rw [S, scoreAt, dif_neg (by simp only [rowOf]; omega)])
  have hr := run_row (B := 4) (S m c (rowOf t r hr) hd) (W m c (rowOf t r hr) hd d)
    (fun col => scoreAt (V m c main_arg0) (V m c main_arg1) (V m c main_arg2) (V m c main_arg3) (rowOf t r hr) hd col.val)
    (fun col => valAt (V m c main_arg2) (rowOf t r hr) hd d col.val) (fun i hi j => rfl) (fun i hi j => rfl)
  exact ⟨hm.2.1.symm.trans hr.1, hm.2.2.symm.trans hr.2⟩

/-- The output array after the run is the attention of the four arguments. -/
theorem final (c : Dev nD) : (dats m 0 c).arrAt 4 (cfgs 0).N
    = attnAt (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have h3 := (flush0_4 t).mp hf
  blk_simp
  rw [after0_4, out_run m c 3 t h3 (by omega)]
  have hy0 : (y 0).val < 512 := (y 0).isLt
  have hy1 : (y 1).val < 256 := (y 1).isLt
  have e0 : (win0_4.blk t).view.emb y 0 = rowOf t (y 0).val hy0 := Fin.ext (by
    show win0_4.index t 0 * 512 + 1 * (y 0).val = _
    rw [(idx t).2.2.2.2.1]
    simp [rowOf])
  have e1 : ((win0_4.blk t).view.emb y 1).val = t.val / 16 % 16 * 256 + (y 1).val := by
    show win0_4.index t 1 * 256 + 1 * (y 1).val = _
    rw [(idx t).2.2.2.2.1]
    simp
  have e2 : ∀ h, (⟨((win0_4.blk t).view.emb y 1).val / 128, h⟩ : Fin 32) = headOf t ((y 1).val / 128) (by omega) := fun h =>
    Fin.ext (by simp only [e1, headOf]; omega)
  have e3 : ∀ h, (⟨((win0_4.blk t).view.emb y 1).val % 128, h⟩ : Fin 128) = ⟨(y 1).val % 128, by omega⟩ := fun h =>
    Fin.ext (by simp only [e1]; omega)
  rw [outAt, attnAt, e0, e2, e3, (run_all m c t _ hy0 _ ⟨(y 1).val % 128, by omega⟩).1, (run_all m c t _ hy0 _ _).2]

end Ideal

/-! ## The run -/

section Run

variable {F : FTy → Type} [FloatOps F]
variable (m : (ℓ : Loc nD τ sig) → Buf (Elt F) ℓ) (ρ : Dev nD → PrngReg)

/-- The run with the output's array named and the arguments unchanged. -/
theorem run_arr : θ_run defs (onTc (τ := τ) (main (F := F))) ⟨m, fun _ => 0, ρ⟩ fun r => ∀ c : Dev nD,
      r.2.mem ((c.tc : Thread nD τ).loc main_v0) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Run

end Cert.FlashIdeal.Attn

end
-- ==== Proof.FlashRefValue.lean ====
/-
  The plain attention's result, element by element: the values summed under the softmax of the masked scores. On
  finite inputs every row's maximum is finite, so its sum of weights is neither zero nor infinite and dividing
  before the sum over the values is dividing after it: the result is the call's output.
-/
module

public import proofs.«01_k».proof.Proof.FlashValue
public import proofs.«01_k».proof.Proof.Gen.FlashRefIdeal.Run
public import proofs.«01_k».proof.Pre_all_finite
public import Idealize.ShloMosaic.PureOps.Reduce

@[expose] public section

set_option maxRecDepth 65536

noncomputable section

namespace Cert.FlashRefIdeal.Attn

open Cert.FlashRefIdeal Cert.FlashRefIdeal.Gen Cert.FlashRefIdeal.Value
open Idealize.ShloMosaic Idealize.ShloMosaic.TcCoe Idealize.SL.Sem Idealize.ShloMosaic.StableHlo
open Cert.Softmax Cert.FlashIdeal.Attn

/-- The reference's scores, with those of later positions at −∞. -/
def scores (qn : FVec Ideal S8192x4096 .f32) (qr : FVec Ideal S8192x2048 .f32) (kv : FVec Ideal S8192x8192 .f32)
    (kr : FVec Ideal S8192x64 .f32) : FVec Ideal S4x32x2048x2048 .f32 :=
  select (broadcastInDim S4x32x2048x2048 ![2, 3] bcast_S2048x2048_S4x32x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (addf (Host.dotGeneral dot_S4x2048x32x128_S4x2048x32x128_S4x32x2048x2048_3_3_1_1_02_02 none (shapeCast _ qn shapeCasts_S8192x4096_S4x2048x32x128) (extractStridedSlice S4x2048x32x128 ![0, 0, 0, 0] (shapeCast _ kv shapeCasts_S8192x8192_S4x2048x32x256) slices_S4x2048x32x256_S4x2048x32x128_0_0_0_0)) (transpose S4x32x2048x2048 [0, 3, 2, 1] (Host.dotGeneral dot_S4x2048x64_S4x2048x32x64_S4x2048x2048x32_2_3_1_12_0_0 none (shapeCast _ kr shapeCasts_S8192x64_S4x2048x64) (shapeCast _ qr shapeCasts_S8192x2048_S4x2048x32x64)) transposes_S4x2048x2048x32_S4x32x2048x2048_0_3_2_1)) (broadcastInDim S4x32x2048x2048 ![] bcast_S_S4x32x2048x2048 (constant S_ .f32 0x3D93CD3A#32)))
    (broadcastInDim S4x32x2048x2048 ![] bcast_S_S4x32x2048x2048 (id (constant S_ .f32 0xFF800000#32)))

/-- Each row's greatest score. -/
def rowMax (s : FVec Ideal S4x32x2048x2048 .f32) : FVec Ideal S4x32x2048 .f32 :=
  Host.reduce FloatOps.maximumf s (constant S_ .f32 0xFF800000#32) reducesTo_S4x32x2048x2048_S4x32x2048_d3 h_S_

/-- The exponentials of the scores relative to a number per row. -/
def weights (s : FVec Ideal S4x32x2048x2048 .f32) (M : FVec Ideal S4x32x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 (maximumf (broadcastInDim S4x32x2048 ![] bcast_S_S4x32x2048 (constant S_ .f32 0xFF800000#32)) M))))

/-- The weights over their row's sum. -/
def soft (p : FVec Ideal S4x32x2048x2048 .f32) : FVec Ideal S4x32x2048x2048 .f32 :=
  Host.divf p (broadcastInDim S4x32x2048x2048 ![0, 1, 2, 3] bcast_S4x32x2048x1_S4x32x2048x2048_0_1_2_3 (broadcastInDim S4x32x2048x1 ![0, 1, 2] bcast_S4x32x2048_S4x32x2048x1_0_1_2 (Host.reduceAdd p (constant S_ .f32 0x00000000#32) reducesTo_S4x32x2048x2048_S4x32x2048_d3 h_S_)))

/-- The values summed under the weights. -/
def mix (kv : FVec Ideal S8192x8192 .f32) (p : FVec Ideal S4x32x2048x2048 .f32) : FVec Ideal S8192x4096 .f32 :=
  shapeCast _ (transpose S4x2048x32x128 [0, 3, 1, 2] (Host.dotGeneral dot_S4x2048x32x128_S4x32x2048x2048_S4x32x128x2048_1_3_3_2_02_01 none (extractStridedSlice S4x2048x32x128 ![0, 0, 0, 128] (shapeCast _ kv shapeCasts_S8192x8192_S4x2048x32x256) slices_S4x2048x32x256_S4x2048x32x128_0_0_0_128) p) transposes_S4x32x128x2048_S4x2048x32x128_0_3_1_2) shapeCasts_S4x2048x32x128_S8192x4096

/-- The scores of the reference's arguments. -/
abbrev argScores (m : (ℓ : Loc nD τ sig) → Buf (Elt Ideal) ℓ) (c : Dev nD) : FVec Ideal S4x32x2048x2048 .f32 :=
  scores (m ((c.tc : Thread nD τ).loc main_arg0)) (m ((c.tc : Thread nD τ).loc main_arg1)) (m ((c.tc : Thread nD τ).loc main_arg2)) (m ((c.tc : Thread nD τ).loc main_arg3))

theorem res_eq (m : (ℓ : Loc nD τ sig) → Buf (Elt Ideal) ℓ) (c : Dev nD) : res_main_v32 m c =
    mix (m ((c.tc : Thread nD τ).loc main_arg2)) (soft (weights (argScores m c) (rowMax (argScores m c)))) := rfl

theorem scores_at (qn qr kv kr) (b : Fin 4) (h : Fin 32) (q k : Fin 2048) :
    scores qn qr kv kr (ix4 b h q k) = scoreAt qn qr kv kr ⟨b.val * 2048 + q.val, by omega⟩ h k.val := by
  pointwise [scores]
  rw [WordCmp.cmpi_sle_ofNat (by omega) (by omega)]
  unfold scoreAt
  have e1 : (b.val * 2048 + q.val) % 2048 = q.val := by omega
  have e2 : (b.val * 2048 + q.val) / 2048 = b.val := by omega
  simp only [e1, e2]
  split
  · rename_i hk
    rw [decide_eq_true hk]
    simp only [mul_comm (kr _)]
    rfl
  · rename_i hk
    rw [decide_eq_false hk]
    exact ofBits_ninf

theorem rowMax_at (s) (b : Fin 4) (h : Fin 32) (q : Fin 2048) : rowMax s (ix3 b h q) = top fun k : Fin 2048 => s (ix4 b h q k) := by
  rw [rowMax, Host.reduce_eq_fold_single (FloatOps.maximumf (F := Ideal)) s _ reducesTo_S4x32x2048x2048_S4x32x2048_d3 (by decide) h_S_]
  unfold top
  refine (Finset.fold_congr (g := fun k : Fin 2048 => s (ix4 b h q k)) fun k _ => congrArg s (funext fun i => ?_)).trans ?_
  · fin_cases i <;> rfl
  · exact congrArg (fun z : EReal => Finset.univ.fold max z fun k : Fin 2048 => s (ix4 b h q k)) ofBits_ninf

theorem weights_at (s M) (b : Fin 4) (h : Fin 32) (q k : Fin 2048) :
    weights s M (ix4 b h q k) = rel (s (ix4 b h q k)) (M (ix3 b h q)) := by
  pointwise [weights]
  rw [ofBits_ninf, max_eq_right bot_le]
  rfl

theorem soft_at (p) (b : Fin 4) (h : Fin 32) (q k : Fin 2048) :
    soft p (ix4 b h q k) = Ideal.div (p (ix4 b h q k)) (∑ k, p (ix4 b h q k)) := by
  pointwise [soft]

theorem mix_at (kv p) (R : Fin 8192) (h : Fin 32) (d : Fin 128) :
    mix kv p (ix2 R ⟨h.val * 128 + d.val, by omega⟩)
      = ∑ k : Fin 2048, valAt kv R h d k.val * p (ix4 ⟨R.val / 2048, by omega⟩ h ⟨R.val % 2048, by omega⟩ k) := by
  pointwise [mix]
  refine Finset.sum_congr rfl fun k _ => ?_
  rw [valAt, dif_pos k.isLt]
  exact congrArg (· * _) (congrArg kv (congrArg (ix2 _) (Fin.ext (by show h.val * 256 + (128 + d.val) = h.val * 256 + 128 + d.val; omega))))

/-! ## Finite inputs -/

/-- Neither infinity. -/
def Fine (x : EReal) : Prop := ∃ r : ℝ, x = r

theorem Fine.add {x y : EReal} : Fine x → Fine y → Fine (x + y) := fun ⟨a, ha⟩ ⟨b, hb⟩ => ⟨a + b, by rw [ha, hb, EReal.coe_add]⟩

theorem Fine.mul {x y : EReal} : Fine x → Fine y → Fine (x * y) := fun ⟨a, ha⟩ ⟨b, hb⟩ => ⟨a * b, by rw [ha, hb, EReal.coe_mul]⟩

theorem Fine.sum {n : ℕ} {f : Fin n → EReal} (h : ∀ i, Fine (f i)) : Fine (∑ i, f i) :=
  Finset.sum_induction f Fine (fun _ _ => Fine.add) ⟨0, EReal.coe_zero.symm⟩ fun i _ => h i

/-- A number whose absolute value compares below +∞. -/
theorem Fine.of_abs {x : EReal} (h : max x (-x) < ⊤) : Fine x := by
  induction x with
  | bot => simp at h
  | top => simp at h
  | coe r => exact ⟨r, rfl⟩

theorem fine_scale : Fine (Ideal.ofBits .f32 1033096506#32) := by
  simp only [Ideal.ofBits, Ideal.ieee]
  exact ⟨_, rfl⟩

/-- A row's scores, with finite queries and keys: the greatest is finite. -/
theorem top_fine {qn : FVec Ideal S8192x4096 .f32} {qr : FVec Ideal S8192x2048 .f32} {kv : FVec Ideal S8192x8192 .f32}
    {kr : FVec Ideal S8192x64 .f32} (hqn : ∀ i, Fine (qn i)) (hqr : ∀ i, Fine (qr i)) (hkv : ∀ i, Fine (kv i)) (hkr : ∀ i, Fine (kr i))
    (R : Fin 8192) (h : Fin 32) : (top fun k : Fin 2048 => scoreAt qn qr kv kr R h k.val) ≠ ⊥
      ∧ (top fun k : Fin 2048 => scoreAt qn qr kv kr R h k.val) ≠ ⊤ := by
  have key : ∀ k (hk : k ≤ R.val % 2048), Fine (scoreAt qn qr kv kr R h k) := fun k hk => by
    rw [scoreAt, dif_pos hk]
    exact ((Fine.sum fun x => (hqn _).mul (hkv _)).add (Fine.sum fun x => (hqr _).mul (hkr _))).mul fine_scale
  constructor
  · intro e
    obtain ⟨r, hr⟩ := key (R.val % 2048) le_rfl
    have := le_top (fun k : Fin 2048 => scoreAt qn qr kv kr R h k.val) ⟨R.val % 2048, by omega⟩
    rw [e, hr] at this
    exact absurd (le_bot_iff.mp this) (EReal.coe_ne_bot r)
  · intro e
    obtain ⟨k, hk⟩ := exists_top (fun k : Fin 2048 => scoreAt qn qr kv kr R h k.val) (by omega)
    rw [e] at hk
    by_cases hc : k.val ≤ R.val % 2048
    · obtain ⟨r, hr⟩ := key k.val hc
      exact EReal.coe_ne_top r (hr.symm.trans hk)
    · have hk' : scoreAt qn qr kv kr R h k.val = ⊤ := hk
      rw [scoreAt, dif_neg hc] at hk'
      exact bot_ne_top hk'

/-- The reference's result on finite inputs. -/
theorem ref_eq (m : (ℓ : Loc nD τ sig) → Buf (Elt Ideal) ℓ) (c : Dev nD) (hqn : ∀ i, Fine ((m ((c.tc : Thread nD τ).loc main_arg0) : FVec Ideal S8192x4096 .f32) i))
    (hqr : ∀ i, Fine ((m ((c.tc : Thread nD τ).loc main_arg1) : FVec Ideal S8192x2048 .f32) i)) (hkv : ∀ i, Fine ((m ((c.tc : Thread nD τ).loc main_arg2) : FVec Ideal S8192x8192 .f32) i))
    (hkr : ∀ i, Fine ((m ((c.tc : Thread nD τ).loc main_arg3) : FVec Ideal S8192x64 .f32) i)) :
    res_main_v32 m c = attnAt (m ((c.tc : Thread nD τ).loc main_arg0)) (m ((c.tc : Thread nD τ).loc main_arg1)) (m ((c.tc : Thread nD τ).loc main_arg2)) (m ((c.tc : Thread nD τ).loc main_arg3)) := by
  rw [res_eq]
  funext (j : S8192x4096.Idx)
  obtain ⟨R, h, d, rfl⟩ : ∃ (R : Fin 8192) (h : Fin 32) (d : Fin 128), j = ix2 R ⟨h.val * 128 + d.val, by omega⟩ :=
    have h1 : (j 1).val < 4096 := (j 1).isLt
    ⟨j 0, ⟨(j 1).val / 128, by omega⟩, ⟨(j 1).val % 128, by omega⟩, funext fun i => by
      fin_cases i
      · rfl
      · exact Fin.ext (by show (j 1).val = (j 1).val / 128 * 128 + (j 1).val % 128; omega)⟩
  rw [mix_at]
  simp only [soft_at, weights_at, rowMax_at, argScores, scores_at]
  have eR : ∀ hh, (⟨R.val / 2048 * 2048 + R.val % 2048, hh⟩ : Fin 8192) = R := fun hh => Fin.ext (by show R.val / 2048 * 2048 + R.val % 2048 = R.val; omega)
  simp only [eR]
  obtain ⟨hb, ht⟩ := top_fine hqn hqr hkv hkr R h
  refine (sum_div (fun k : Fin 2048 => scoreAt _ _ _ _ R h k.val) (fun k : Fin 2048 => valAt _ R h d k.val) hb ht).trans ?_
  have e1 : ∀ hh, (⟨(h.val * 128 + d.val) / 128, hh⟩ : Fin 32) = h := fun hh => Fin.ext (by show (h.val * 128 + d.val) / 128 = h.val; omega)
  have e2 : ∀ hh, (⟨(h.val * 128 + d.val) % 128, hh⟩ : Fin 128) = d := fun hh => Fin.ext (by show (h.val * 128 + d.val) % 128 = d.val; omega)
  exact (congrArg₂ (fun (h : Fin 32) (d : Fin 128) => Ideal.div (num (fun k : Fin 2048 => scoreAt _ _ _ _ R h k.val) (fun k : Fin 2048 => valAt _ R h d k.val))
    (den (fun k : Fin 2048 => scoreAt _ _ _ _ R h k.val))) (e1 (by omega)) (e2 (by omega))).symm

/-- What the precondition says, element by element. -/
theorem fine_of_pre [Cert.Pre_all_finite.Facts] {qn qr kv kr} (h : (Cert.Pre_all_finite.fn (F := Ideal) qn qr kv kr).1 = (fun _ => 1#1)
    ∧ (Cert.Pre_all_finite.fn (F := Ideal) qn qr kv kr).2.1 = (fun _ => 1#1) ∧ (Cert.Pre_all_finite.fn (F := Ideal) qn qr kv kr).2.2.1 = (fun _ => 1#1)
    ∧ (Cert.Pre_all_finite.fn (F := Ideal) qn qr kv kr).2.2.2 = (fun _ => 1#1)) :
    (∀ i, Fine (qn i)) ∧ (∀ i, Fine (qr i)) ∧ (∀ i, Fine (kv i)) ∧ (∀ i, Fine (kr i)) := by
  have ht : (Ideal.ofBits .f32 0x7F800000#32 : EReal) = ⊤ := by simp [Ideal.ofBits, Ideal.ieee]
  have key : ∀ x : EReal, Ideal.cmp .olt (max x (-x)) (Ideal.ofBits .f32 0x7F800000#32) = 1#1 → Fine x := fun x hx => by
    rw [ht] at hx
    refine Fine.of_abs ?_
    by_contra hn
    simp [Ideal.cmp, hn] at hx
  exact ⟨fun i => key _ (congrFun h.1 i), fun i => key _ (congrFun h.2.1 i), fun i => key _ (congrFun h.2.2.1 i), fun i => key _ (congrFun h.2.2.2 i)⟩

end Cert.FlashRefIdeal.Attn

end
-- ==== Proof.FfnUpValue.lean ====
module

public import proofs.«01_k».proof.Proof.Gen.FfnUpIdeal.Value
public import proofs.«01_k».proof.Proof.Gen.FfnUpRefIdeal.Run
public import Idealize.ShloMosaic.Lib.Pipeline.ValueKit

@[expose] public section

set_option maxRecDepth 16384

noncomputable section

namespace Cert.FfnUpIdeal.Sum

open Cert.FfnUpIdeal Cert.FfnUpIdeal.Gen
open Idealize.ShloMosaic Idealize.ShloMosaic.TcCoe Idealize.SL.Sem
open Idealize.ShloMosaic.Pipeline (Dat)

variable (m : (ℓ : Loc nD τ sig) → Buf (Elt Ideal) ℓ)

/-- The up-projection: rows of `x` times the first layer of `w`. -/
def upAt (x : FVec Ideal S8192x4096 .bf16) (w : FVec Ideal S4x4096x22016 .f32) : FVec Ideal S8192x22016 .f32 :=
  fun j => ∑ l : Fin 4096, x (ix2 (j 0) l) * w (ix3 0 l (j 1))

/-- One point's product of a block of `x` with a block of `w`. -/
theorem prod_at (x : Vec Ideal S2048x512 .bf16) (w : Vec Ideal S1x512x512 .f32) (j) :
    k0_pay1 (F := Ideal) x w j = ∑ k : Fin 512, x (ix2 (j 0) k) * w (ix3 0 k (j 1)) := by
  pointwise [k0_pay1]

theorem first_at (x : Vec Ideal S2048x512 .bf16) (w : Vec Ideal S1x512x512 .f32) (j) :
    k0_pay2 (F := Ideal) x w j = ∑ k : Fin 512, x (ix2 (j 0) k) * w (ix3 0 k (j 1)) := by
  pointwise [k0_pay2, k0_pay1]

theorem step_at (x : Vec Ideal S2048x512 .bf16) (w : Vec Ideal S1x512x512 .f32) (a : Vec Ideal S2048x512 .f32) (j) :
    k0_pay3 (F := Ideal) x w a j = a j + ∑ k : Fin 512, x (ix2 (j 0) k) * w (ix3 0 k (j 1)) := by
  pointwise [k0_pay3, k0_pay1]

theorem acc_read (X : Vec Ideal S2048x512 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 344, t.val % 8]
    ∧ win0_1.index t = ![0, t.val % 8, t.val / 8 % 43]
    ∧ win0_2.index t = ![t.val / 344, t.val / 8 % 43] :=
  (by decide +kernel : ∀ t : Fin grid0.N, _)

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = upAt (m ((c : Thread nD τ).loc main_arg0)) (m ((c : Thread nD τ).loc main_arg1)) := by
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S1x512x512 .f32 from iblk m c 1 p) (ix3 0 k (j 1)))
      (fun t h j => by
        rw [outsAt0_A m c t h (by omega) (by omega)]; frame_out; rw [first_at, zero_add])
      (fun t h j => by
        by_cases h7 : t.val % 8 = 7
        · rw [outsAt0_C m c t h (by omega) h7]; frame_out; rw [step_at]; exact congrArg (· + _) (acc_read _ j)
        · rw [outsAt0_B m c t h (by omega) h7]; frame_out; rw [step_at]; exact congrArg (· + _) (acc_read _ j))
      t ((flush0_2 t).mp hf) _, zero_add]
  unfold upAt
  refine Fin.sum_mul_add_congr fun s k hl => ?_
  blk_point [iblk, V, idx t, idx ⟨_, Pipeline.run_point_lt_of_flush t ((flush0_2 t).mp hf) s⟩]

/-- The reference's result is the product. -/
theorem ref_eq (x : FVec Ideal S8192x4096 .bf16) (w : FVec Ideal S4x4096x22016 .f32) :
    Host.dotGeneral Cert.FfnUpRefIdeal.dot_S8192x4096_S4096x22016_S8192x22016_1_0_0_1_n_n none (extf .f32 x Cert.FfnUpRefIdeal.Gen.bitsLt_bf16_f32)
      (shapeCast _ (extractStridedSlice Cert.FfnUpRefIdeal.S1x4096x22016 ![0, 0, 0] w Cert.FfnUpRefIdeal.Gen.slices_S4x4096x22016_S1x4096x22016_0_0_0)
        Cert.FfnUpRefIdeal.Gen.shapeCasts_S1x4096x22016_S4096x22016) = upAt x w := by
  funext j
  pointwise [upAt]

end Cert.FfnUpIdeal.Sum

end
-- ==== Proof.FfnDownValue.lean ====
module

public import proofs.«01_k».proof.Proof.Gen.FfnDownIdeal.Value
public import proofs.«01_k».proof.Proof.Gen.FfnDownRefIdeal.Run
public import Idealize.ShloMosaic.Lib.Pipeline.ValueKit

@[expose] public section

set_option maxRecDepth 16384

noncomputable section

namespace Cert.FfnDownIdeal.Sum

open Cert.FfnDownIdeal Cert.FfnDownIdeal.Gen
open Idealize.ShloMosaic Idealize.ShloMosaic.TcCoe Idealize.SL.Sem
open Idealize.ShloMosaic.Pipeline (Dat)

variable (m : (ℓ : Loc nD τ sig) → Buf (Elt Ideal) ℓ)

/-- The down-projection: rows of `x` times the first layer of `w`. -/
def downAt (x : FVec Ideal S8192x11008 .bf16) (w : FVec Ideal S4x11008x4096 .f32) : FVec Ideal S8192x4096 .f32 :=
  fun j => ∑ l : Fin 11008, x (ix2 (j 0) l) * w (ix3 0 l (j 1))

theorem first_at (x : Vec Ideal S2048x256 .bf16) (w : Vec Ideal S1x256x1024 .f32) (j) :
    k0_pay2 (F := Ideal) x w j = ∑ k : Fin 256, x (ix2 (j 0) k) * w (ix3 0 k (j 1)) := by
  pointwise [k0_pay2, k0_pay1]

theorem step_at (x : Vec Ideal S2048x256 .bf16) (w : Vec Ideal S1x256x1024 .f32) (a : Vec Ideal S2048x1024 .f32) (j) :
    k0_pay3 (F := Ideal) x w a j = a j + ∑ k : Fin 256, x (ix2 (j 0) k) * w (ix3 0 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

/-- The 43 points of a run go through the contracted axis; the runs go through the columns, then the rows. -/
theorem idx : ∀ t : Fin cfg0.N, win0_0.index t = ![t.val / 172, t.val % 43]
    ∧ win0_1.index t = ![0, t.val % 43, t.val / 43 % 4]
    ∧ win0_2.index t = ![t.val / 172, t.val / 43 % 4] :=
  (by decide +kernel : ∀ t : Fin grid0.N, _)

/-- At a run's last point the block written back is what the accumulator holds. -/
theorem out_eq_acc (c : Dev nD) (t : Fin cfg0.N) (h : t.val % 43 = 42) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = downAt (m ((c : Thread nD τ).loc main_arg0)) (m ((c : Thread nD τ).loc main_arg1)) := by
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 43 (fun _ => 0)
      (fun p j => ∑ k : Fin 256, (show FVec Ideal S2048x256 .bf16 from iblk m c 0 p) (ix2 (j 0) k)
        * (show FVec Ideal S1x256x1024 .f32 from iblk m c 1 p) (ix3 0 k (j 1)))
      (fun t h j => by
        rw [outsAt0_A m c t h (by omega) (by omega)]; frame_out; rw [first_at, zero_add])
      (fun t h j => by
        by_cases hl : t.val % 43 = 42
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold downAt
  refine Fin.sum_mul_add_congr fun s k hl => ?_
  blk_point [iblk, V, idx t, idx ⟨_, Pipeline.run_point_lt_of_flush t ((flush0_2 t).mp hf) s⟩]

/-- The reference's result is the product. -/
theorem ref_eq (x : FVec Ideal S8192x11008 .bf16) (w : FVec Ideal S4x11008x4096 .f32) :
    Host.dotGeneral Cert.FfnDownRefIdeal.dot_S8192x11008_S11008x4096_S8192x4096_1_0_0_1_n_n none (extf .f32 x Cert.FfnDownRefIdeal.Gen.bitsLt_bf16_f32)
      (shapeCast _ (extractStridedSlice Cert.FfnDownRefIdeal.S1x11008x4096 ![0, 0, 0] w Cert.FfnDownRefIdeal.Gen.slices_S4x11008x4096_S1x11008x4096_0_0_0)
        Cert.FfnDownRefIdeal.Gen.shapeCasts_S1x11008x4096_S11008x4096) = downAt x w := by
  funext j
  pointwise [downAt]

end Cert.FfnDownIdeal.Sum

end
-- ==== Proof.EvenQkvValue.lean ====
module

public import proofs.«01_k».proof.Proof.Gen.EvenQkvIdeal.Value
public import proofs.«01_k».proof.Proof.Gen.EvenQkvRefIdeal.Run
public import Idealize.ShloMosaic.Lib.Pipeline.ValueKit

@[expose] public section

set_option maxRecDepth 16384

noncomputable section

namespace Cert.EvenQkvIdeal.Sum

open Cert.EvenQkvIdeal Cert.EvenQkvIdeal.Gen
open Idealize.ShloMosaic Idealize.ShloMosaic.TcCoe Idealize.SL.Sem
open Idealize.ShloMosaic.Pipeline (Dat)

variable (m : (ℓ : Loc nD τ sig) → Buf (Elt Ideal) ℓ)

/-- The projection to queries, keys and values: rows of `x` times the first 6144 columns of the first layer of `w`. -/
def qkvAt (x : FVec Ideal S8192x4096 .bf16) (w : FVec Ideal S2x4096x14384 .f32) : FVec Ideal S8192x6144 .f32 :=
  fun j => ∑ l : Fin 4096, x (ix2 (j 0) l) * w (ix3 0 l ⟨(j 1).val, (j 1).isLt.trans (by decide)⟩)

theorem first_at (x : Vec Ideal S2048x512 .bf16) (w : Vec Ideal S1x512x1024 .f32) (j) :
    k0_pay2 (F := Ideal) x w j = ∑ k : Fin 512, x (ix2 (j 0) k) * w (ix3 0 k (j 1)) := by
  pointwise [k0_pay2, k0_pay1]

theorem step_at (x : Vec Ideal S2048x512 .bf16) (w : Vec Ideal S1x512x1024 .f32) (a : Vec Ideal S2048x1024 .f32) (j) :
    k0_pay3 (F := Ideal) x w a j = a j + ∑ k : Fin 512, x (ix2 (j 0) k) * w (ix3 0 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

/-- The weight's columns that the grid never visits are the ones past the projection's own. -/
theorem idx : ∀ t : Fin cfg0.N, win0_0.index t = ![t.val / 48, t.val % 8]
    ∧ win0_1.index t = ![0, t.val % 8, t.val / 8 % 6]
    ∧ win0_2.index t = ![t.val / 48, t.val / 8 % 6] :=
  (by decide +kernel : ∀ t : Fin grid0.N, _)

/-- A block of the weight, at an index: the blocks visited lie wholly inside the array. -/
theorem weight_at (c : Dev nD) (t : Fin cfg0.N) (k : Fin 512) (q : Fin 1024) :
    (show FVec Ideal S1x512x1024 .f32 from X0_1 m c t) (ix3 0 k q)
      = m ((c : Thread nD τ).loc main_arg1) (ix3 0 ⟨t.val % 8 * 512 + k.val, by omega⟩ ⟨t.val / 8 % 6 * 1024 + q.val, by omega⟩) := by
  show (cfg0.win 1).fill _ _ _ (ix3 0 k q) = _
  unfold Pipeline.Window.fill
  rw [dif_pos (moved0_1 t (ix3 0 k q))]
  have h := (idx t).2.1
  show m ((c : Thread nD τ).loc main_arg1) ((win0_1.blk t).view.emb _) = _
  congr 1
  funext a
  apply Fin.ext
  match a with
  | ⟨0, _⟩ => show win0_1.index t 0 * 1 + 1 * 0 = 0; rw [h]; rfl
  | ⟨1, _⟩ => show win0_1.index t 1 * 512 + 1 * k.val = _; rw [h]; show t.val % 8 * 512 + 1 * k.val = t.val % 8 * 512 + k.val; omega
  | ⟨2, _⟩ => show win0_1.index t 2 * 1024 + 1 * q.val = _; rw [h]; show t.val / 8 % 6 * 1024 + 1 * q.val = t.val / 8 % 6 * 1024 + q.val; omega

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = qkvAt (m ((c : Thread nD τ).loc main_arg0)) (m ((c : Thread nD τ).loc main_arg1)) := by
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S1x512x1024 .f32 from X0_1 m c p) (ix3 0 k (j 1)))
      (fun t h j => by
        rw [outsAt0_A m c t h (by omega) (by omega)]; frame_out; rw [first_at, zero_add])
      (fun t h j => by
        by_cases hl : t.val % 8 = 7
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold qkvAt
  refine Fin.sum_mul_add_congr fun s k hl => ?_
  refine (congrArg (_ * ·) (weight_at m c ⟨_, Pipeline.run_point_lt_of_flush t ((flush0_2 t).mp hf) s⟩ k (y 1))).trans ?_
  blk_point [iblk, V, idx t, idx ⟨_, Pipeline.run_point_lt_of_flush t ((flush0_2 t).mp hf) s⟩]

/-- The reference's result is the product. -/
theorem ref_eq (x : FVec Ideal S8192x4096 .bf16) (w : FVec Ideal S2x4096x14384 .f32) :
    Host.dotGeneral Cert.EvenQkvRefIdeal.dot_S8192x4096_S4096x6144_S8192x6144_1_0_0_1_n_n none (extf .f32 x Cert.EvenQkvRefIdeal.Gen.bitsLt_bf16_f32)
      (extractStridedSlice Cert.EvenQkvRefIdeal.S4096x6144 ![0, 0]
        (shapeCast _ (extractStridedSlice Cert.EvenQkvRefIdeal.S1x4096x14384 ![0, 0, 0] w Cert.EvenQkvRefIdeal.Gen.slices_S2x4096x14384_S1x4096x14384_0_0_0)
          Cert.EvenQkvRefIdeal.Gen.shapeCasts_S1x4096x14384_S4096x14384)
        Cert.EvenQkvRefIdeal.Gen.slices_S4096x14384_S4096x6144_0_0) = qkvAt x w := by
  funext j
  pointwise [qkvAt]

end Cert.EvenQkvIdeal.Sum

end
-- ==== Proof.EvenRestValue.lean ====
module

public import proofs.«01_k».proof.Proof.Gen.EvenRestIdeal.Value
public import proofs.«01_k».proof.Proof.Gen.EvenRestRefIdeal.Run
public import Idealize.ShloMosaic.Lib.Pipeline.ValueKit

@[expose] public section

set_option maxRecDepth 16384

noncomputable section

namespace Cert.EvenRestIdeal.Sum

open Cert.EvenRestIdeal Cert.EvenRestIdeal.Gen
open Idealize.ShloMosaic Idealize.ShloMosaic.TcCoe Idealize.SL.Sem
open Idealize.ShloMosaic.Pipeline (Dat)

variable (m : (ℓ : Loc nD τ sig) → Buf (Elt Ideal) ℓ)

/-- The columns of the gates and the mLSTM heads, side by side. -/
def packed (w : FVec Ideal S2x4096x14384 .f32) : FVec Ideal S4096x8192 .bf16 :=
  fun j => if h : (j 1).val < 6144 then w (ix3 0 (j 0) ⟨6176 + (j 1).val, by omega⟩)
    else w (ix3 0 (j 0) ⟨12336 + ((j 1).val - 6144), by have : (j 1).val < 8192 := (j 1).isLt; omega⟩)

/-- The projection to gates and mLSTM heads: rows of `x` times the packed columns of `w`. -/
def restAt (x : FVec Ideal S8192x4096 .bf16) (w : FVec Ideal S4096x8192 .bf16) : FVec Ideal S8192x8192 .f32 :=
  fun j => ∑ l : Fin 4096, x (ix2 (j 0) l) * w (ix2 l (j 1))

/-- What the host packs before the call. -/
theorem packed_eq (c : Dev nD) : V m c main_v5 = packed (m ((c : Thread nD τ).loc main_arg1)) := by
  entry_read
  funext j
  pointwise [packed]

theorem first_at (x : Vec Ideal S2048x512 .bf16) (w : Vec Ideal S512x1024 .bf16) (j) :
    k0_pay2 (F := Ideal) x w j = ∑ k : Fin 512, x (ix2 (j 0) k) * w (ix2 k (j 1)) := by
  pointwise [k0_pay2, k0_pay1]

theorem step_at (x : Vec Ideal S2048x512 .bf16) (w : Vec Ideal S512x1024 .bf16) (a : Vec Ideal S2048x1024 .f32) (j) :
    k0_pay3 (F := Ideal) x w a j = a j + ∑ k : Fin 512, x (ix2 (j 0) k) * w (ix2 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 64, t.val % 8]
    ∧ win0_1.index t = ![t.val % 8, t.val / 8 % 8]
    ∧ win0_2.index t = ![t.val / 64, t.val / 8 % 8] :=
  (by decide +kernel : ∀ t : Fin grid0.N, _)

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = restAt (m ((c : Thread nD τ).loc main_arg0)) (packed (m ((c : Thread nD τ).loc main_arg1))) := by
  rw [← packed_eq m c]
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S512x1024 .bf16 from iblk m c 1 p) (ix2 k (j 1)))
      (fun t h j => by
        rw [outsAt0_A m c t h (by omega) (by omega)]; frame_out; rw [first_at, zero_add])
      (fun t h j => by
        by_cases hl : t.val % 8 = 7
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold restAt
  refine Fin.sum_mul_add_congr fun s k hl => ?_
  blk_point [iblk, V_main_arg0 m c, idx t, idx ⟨_, Pipeline.run_point_lt_of_flush t ((flush0_2 t).mp hf) s⟩]

/-- The reference's result is the product. -/
theorem ref_eq (x : FVec Ideal S8192x4096 .bf16) (w : FVec Ideal S2x4096x14384 .f32) :
    (let p := Host.dotGeneral Cert.EvenRestRefIdeal.dot_S8192x4096_S4096x14384_S8192x14384_1_0_0_1_n_n none (extf .f32 x Cert.EvenRestRefIdeal.Gen.bitsLt_bf16_f32)
      (shapeCast _ (extractStridedSlice Cert.EvenRestRefIdeal.S1x4096x14384 ![0, 0, 0] w Cert.EvenRestRefIdeal.Gen.slices_S2x4096x14384_S1x4096x14384_0_0_0)
        Cert.EvenRestRefIdeal.Gen.shapeCasts_S1x4096x14384_S4096x14384)
    concatenate Cert.EvenRestRefIdeal.S8192x8192 1
      [⟨Cert.EvenRestRefIdeal.S8192x6144, extractStridedSlice Cert.EvenRestRefIdeal.S8192x6144 ![0, 6176] p Cert.EvenRestRefIdeal.Gen.slices_S8192x14384_S8192x6144_0_6176⟩,
       ⟨Cert.EvenRestRefIdeal.S8192x2048, extractStridedSlice Cert.EvenRestRefIdeal.S8192x2048 ![0, 12336] p Cert.EvenRestRefIdeal.Gen.slices_S8192x14384_S8192x2048_0_12336⟩]
      Cert.EvenRestRefIdeal.Gen.concatenates_S8192x6144_S8192x2048_S8192x8192_d1) = restAt x (packed w) := by
  funext j
  pointwise [restAt, packed]
  split_ifs <;> rfl

end Cert.EvenRestIdeal.Sum

end
-- ==== Proof.MixOutValue.lean ====
module

public import proofs.«01_k».proof.Proof.Gen.MixOutIdeal.Value
public import proofs.«01_k».proof.Proof.Gen.MixOutRefIdeal.Run
public import Idealize.ShloMosaic.Lib.Pipeline.ValueKit

@[expose] public section

set_option maxRecDepth 16384

noncomputable section

namespace Cert.MixOutIdeal.Sum

open Cert.MixOutIdeal Cert.MixOutIdeal.Gen
open Idealize.ShloMosaic Idealize.ShloMosaic.TcCoe Idealize.SL.Sem
open Idealize.ShloMosaic.Pipeline (Dat)

variable (m : (ℓ : Loc nD τ sig) → Buf (Elt Ideal) ℓ)

/-- The mixer's output projection: rows of `x` times the first layer of `w`. -/
def outAt (x : FVec Ideal S8192x4096 .bf16) (w : FVec Ideal S2x4096x4096 .f32) : FVec Ideal S8192x4096 .f32 :=
  fun j => ∑ l : Fin 4096, x (ix2 (j 0) l) * w (ix3 0 l (j 1))

theorem first_at (x : Vec Ideal S2048x512 .bf16) (w : Vec Ideal S1x512x1024 .f32) (j) :
    k0_pay2 (F := Ideal) x w j = ∑ k : Fin 512, x (ix2 (j 0) k) * w (ix3 0 k (j 1)) := by
  pointwise [k0_pay2, k0_pay1]

theorem step_at (x : Vec Ideal S2048x512 .bf16) (w : Vec Ideal S1x512x1024 .f32) (a : Vec Ideal S2048x1024 .f32) (j) :
    k0_pay3 (F := Ideal) x w a j = a j + ∑ k : Fin 512, x (ix2 (j 0) k) * w (ix3 0 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 32, t.val % 8]
    ∧ win0_1.index t = ![0, t.val % 8, t.val / 8 % 4]
    ∧ win0_2.index t = ![t.val / 32, t.val / 8 % 4] :=
  (by decide +kernel : ∀ t : Fin grid0.N, _)

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = outAt (m ((c : Thread nD τ).loc main_arg0)) (m ((c : Thread nD τ).loc main_arg1)) := by
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S1x512x1024 .f32 from iblk m c 1 p) (ix3 0 k (j 1)))
      (fun t h j => by
        rw [outsAt0_A m c t h (by omega) (by omega)]; frame_out; rw [first_at, zero_add])
      (fun t h j => by
        by_cases hl : t.val % 8 = 7
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold outAt
  refine Fin.sum_mul_add_congr fun s k hl => ?_
  blk_point [iblk, V, idx t, idx ⟨_, Pipeline.run_point_lt_of_flush t ((flush0_2 t).mp hf) s⟩]

/-- The reference's result is the product. -/
theorem ref_eq (x : FVec Ideal S8192x4096 .bf16) (w : FVec Ideal S2x4096x4096 .f32) :
    Host.dotGeneral Cert.MixOutRefIdeal.dot_S8192x4096_S4096x4096_S8192x4096_1_0_0_1_n_n none (extf .f32 x Cert.MixOutRefIdeal.Gen.bitsLt_bf16_f32)
      (shapeCast _ (extractStridedSlice Cert.MixOutRefIdeal.S1x4096x4096 ![0, 0, 0] w Cert.MixOutRefIdeal.Gen.slices_S2x4096x4096_S1x4096x4096_0_0_0)
        Cert.MixOutRefIdeal.Gen.shapeCasts_S1x4096x4096_S4096x4096) = outAt x w := by
  funext j
  pointwise [outAt]

end Cert.MixOutIdeal.Sum

end
-- ==== Proof.EvenSmallValue.lean ====
module

public import proofs.«01_k».proof.Proof.Gen.EvenSmallIdeal.Value
public import proofs.«01_k».proof.Proof.Gen.EvenSmallRefIdeal.Run
public import Idealize.ShloMosaic.Lib.Pipeline.ValueKit
public import Idealize.ShloMosaic.Lib.KernelVsHost

@[expose] public section

set_option maxRecDepth 16384

noncomputable section

namespace Cert.EvenSmallIdeal.Sum

open Cert.EvenSmallIdeal Cert.EvenSmallIdeal.Gen
open Idealize.ShloMosaic Idealize.ShloMosaic.TcCoe Idealize.SL.Sem
open Idealize.ShloMosaic.Pipeline (Dat)

variable (m : (ℓ : Loc nD τ sig) → Buf (Elt Ideal) ℓ)

/-- The columns of the gates' logits, side by side, then zeros. -/
def packed (w : FVec Ideal S2x4096x14384 .f32) : FVec Ideal S4096x128 .bf16 :=
  fun j => if h : (j 1).val < 32 then w (ix3 0 (j 0) ⟨6144 + (j 1).val, by omega⟩)
    else if h : (j 1).val < 48 then w (ix3 0 (j 0) ⟨12320 + ((j 1).val - 32), by omega⟩)
    else 0

/-- The projection to the gates' logits: rows of `x` times the packed columns. -/
def smallAt (x : FVec Ideal S8192x4096 .bf16) (w : FVec Ideal S4096x128 .bf16) : FVec Ideal S8192x128 .f32 :=
  fun j => ∑ l : Fin 4096, x (ix2 (j 0) l) * w (ix2 l (j 1))

/-- What the host packs before the call. -/
theorem packed_eq (c : Dev nD) : V m c main_v6 = packed (m ((c : Thread nD τ).loc main_arg1)) := by
  simp only [V, List.flatten_cons, List.flatten_nil, List.append_nil, List.cons_append, List.nil_append]
  after_results
  let v : FVec Ideal S4096x14384 .f32 := shapeCast S4096x14384 (extractStridedSlice S1x4096x14384 ![0, 0, 0]
    (show FVec Ideal S2x4096x14384 .f32 from m ((c : Thread nD τ).loc main_arg1)) slices_S2x4096x14384_S1x4096x14384_0_0_0)
    shapeCasts_S1x4096x14384_S4096x14384
  change truncf .bf16 (pad S4096x128 ![0, 0] ![0, 80] ![0, 0]
    (concatenate S4096x48 1 [⟨S4096x32, extractStridedSlice S4096x32 ![0, 6144] v slices_S4096x14384_S4096x32_0_6144⟩,
      ⟨S4096x16, extractStridedSlice S4096x16 ![0, 12320] v slices_S4096x14384_S4096x16_0_12320⟩] concatenates_S4096x32_S4096x16_S4096x48_d1)
    (sitofp .f32 (constantI S_ 32 0#32)) pads_S4096x48_S4096x128_000_0800 h_S_) bitsLt_bf16_f32 = _
  funext j
  pointwise [packed, v]
  by_cases h : (j 1).val < 32
  · simp [h, show (j 1).val < 48 by omega]
  · by_cases h' : (j 1).val < 48
    · simp [h, h']
    · simp only [h, h', dite_false, mul_zero, Finset.sum_const_zero]; exact sitofp_zero (φ := .f32)

theorem first_at (x : Vec Ideal S2048x512 .bf16) (w : Vec Ideal S512x128 .bf16) (j) :
    k0_pay2 (F := Ideal) x w j = ∑ k : Fin 512, x (ix2 (j 0) k) * w (ix2 k (j 1)) := by
  pointwise [k0_pay2, k0_pay1]

theorem step_at (x : Vec Ideal S2048x512 .bf16) (w : Vec Ideal S512x128 .bf16) (a : Vec Ideal S2048x128 .f32) (j) :
    k0_pay3 (F := Ideal) x w a j = a j + ∑ k : Fin 512, x (ix2 (j 0) k) * w (ix2 k (j 1)) := by
  pointwise [k0_pay3, k0_pay1]

theorem acc_read (X : Vec Ideal S2048x128 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 8, t.val % 8]
    ∧ win0_1.index t = ![t.val % 8, 0]
    ∧ win0_2.index t = ![t.val / 8, 0] :=
  (by decide +kernel : ∀ t : Fin grid0.N, _)

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = smallAt (m ((c : Thread nD τ).loc main_arg0)) (packed (m ((c : Thread nD τ).loc main_arg1))) := by
  rw [← packed_eq m c]
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S512x128 .bf16 from iblk m c 1 p) (ix2 k (j 1)))
      (fun t h j => by
        rw [outsAt0_A m c t h (by omega) (by omega)]; frame_out; rw [first_at, zero_add])
      (fun t h j => by
        by_cases hl : t.val % 8 = 7
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold smallAt
  refine Fin.sum_mul_add_congr fun s k hl => ?_
  blk_point [iblk, V_main_arg0 m c, idx t, idx ⟨_, Pipeline.run_point_lt_of_flush t ((flush0_2 t).mp hf) s⟩]

/-- The reference's result is the product: the columns it adds are zero, as the product with zero columns is. -/
theorem ref_eq (x : FVec Ideal S8192x4096 .bf16) (w : FVec Ideal S2x4096x14384 .f32) :
    (let p := Host.dotGeneral Cert.EvenSmallRefIdeal.dot_S8192x4096_S4096x14384_S8192x14384_1_0_0_1_n_n none (extf .f32 x Cert.EvenSmallRefIdeal.Gen.bitsLt_bf16_f32)
      (shapeCast _ (extractStridedSlice Cert.EvenSmallRefIdeal.S1x4096x14384 ![0, 0, 0] w Cert.EvenSmallRefIdeal.Gen.slices_S2x4096x14384_S1x4096x14384_0_0_0)
        Cert.EvenSmallRefIdeal.Gen.shapeCasts_S1x4096x14384_S4096x14384)
    pad Cert.EvenSmallRefIdeal.S8192x128 ![0, 0] ![0, 80] ![0, 0] (concatenate Cert.EvenSmallRefIdeal.S8192x48 1
      [⟨Cert.EvenSmallRefIdeal.S8192x32, extractStridedSlice Cert.EvenSmallRefIdeal.S8192x32 ![0, 6144] p Cert.EvenSmallRefIdeal.Gen.slices_S8192x14384_S8192x32_0_6144⟩,
       ⟨Cert.EvenSmallRefIdeal.S8192x16, extractStridedSlice Cert.EvenSmallRefIdeal.S8192x16 ![0, 12320] p Cert.EvenSmallRefIdeal.Gen.slices_S8192x14384_S8192x16_0_12320⟩]
      Cert.EvenSmallRefIdeal.Gen.concatenates_S8192x32_S8192x16_S8192x48_d1)
      (sitofp (F := Ideal) .f32 (constantI Cert.EvenSmallRefIdeal.S_ 32 0#32)) Cert.EvenSmallRefIdeal.Gen.pads_S8192x48_S8192x128_000_0800
      Cert.EvenSmallRefIdeal.Gen.h_S_) = smallAt x (packed w) := by
  funext j
  pointwise [smallAt, packed]
  by_cases h : (j 1).val < 32
  · simp [h, show (j 1).val < 48 by omega]
  · by_cases h' : (j 1).val < 48
    · simp [h, h']
    · simp only [h, h', dite_false, mul_zero, Finset.sum_const_zero]; exact sitofp_zero (φ := .f32)

end Cert.EvenSmallIdeal.Sum

end
-- ==== Proof.MlaLatentValue.lean ====
module

public import proofs.«01_k».proof.Proof.Gen.MlaLatentIdeal.Value
public import proofs.«01_k».proof.Proof.Gen.MlaLatentRefIdeal.Run
public import Idealize.ShloMosaic.Lib.Pipeline.ValueKit
public import Idealize.ShloMosaic.Lib.KernelVsHost

@[expose] public section

set_option maxRecDepth 16384

noncomputable section

namespace Cert.MlaLatentIdeal.Sum

open Cert.MlaLatentIdeal Cert.MlaLatentIdeal.Gen
open Idealize.ShloMosaic Idealize.ShloMosaic.TcCoe Idealize.SL.Sem
open Idealize.ShloMosaic.Pipeline (Dat)

variable (m : (ℓ : Loc nD τ sig) → Buf (Elt Ideal) ℓ)

/-- The first layer's columns, then zeros. -/
def packed (w : FVec Ideal S2x4096x1600 .f32) : FVec Ideal S4096x2048 .bf16 :=
  fun j => if h : (j 1).val < 1600 then w (ix3 0 (j 0) ⟨(j 1).val, h⟩) else 0

/-- The projection to the latents: rows of `x` times the padded columns. -/
def latentAt (x : FVec Ideal S8192x4096 .bf16) (w : FVec Ideal S4096x2048 .bf16) : FVec Ideal S8192x2048 .f32 :=
  fun j => ∑ l : Fin 4096, x (ix2 (j 0) l) * w (ix2 l (j 1))

/-- What the host packs before the call. -/
theorem packed_eq (c : Dev nD) : V m c main_v3 = packed (m ((c : Thread nD τ).loc main_arg1)) := by
  simp only [V, List.flatten_cons, List.flatten_nil, List.append_nil, List.cons_append, List.nil_append]
  after_results
  change truncf .bf16 (pad S4096x2048 ![0, 0] ![0, 448] ![0, 0] (shapeCast S4096x1600
    (extractStridedSlice S1x4096x1600 ![0, 0, 0] (show FVec Ideal S2x4096x1600 .f32 from m ((c : Thread nD τ).loc main_arg1)) slices_S2x4096x1600_S1x4096x1600_0_0_0)
    shapeCasts_S1x4096x1600_S4096x1600) (sitofp .f32 (constantI S_ 32 0#32)) pads_S4096x1600_S4096x2048_000_04480 h_S_) bitsLt_bf16_f32 = _
  funext j
  pointwise [packed]
  split_ifs
  · rfl
  · exact (sitofp_zero (φ := .f32))

theorem first_at (x : Vec Ideal S2048x512 .bf16) (w : Vec Ideal S512x1024 .bf16) (j) :
    k0_pay2 (F := Ideal) x w j = ∑ k : Fin 512, x (ix2 (j 0) k) * w (ix2 k (j 1)) := by
  pointwise [k0_pay2, k0_pay1]

theorem step_at (x : Vec Ideal S2048x512 .bf16) (w : Vec Ideal S512x1024 .bf16) (a : Vec Ideal S2048x1024 .f32) (j) :
    k0_pay3 (F := Ideal) x w a j = a j + ∑ k : Fin 512, x (ix2 (j 0) k) * w (ix2 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 16, t.val % 8]
    ∧ win0_1.index t = ![t.val % 8, t.val / 8 % 2]
    ∧ win0_2.index t = ![t.val / 16, t.val / 8 % 2] :=
  (by decide +kernel : ∀ t : Fin grid0.N, _)

/-- At a run's last point the block written back is what the accumulator holds. -/
theorem out_eq_acc (c : Dev nD) (t : Fin cfg0.N) (h : t.val % 8 = 7) (y) :
    (outsAt0 m c t.val t.isLt).1 y = (outsAt0 m c t.val t.isLt).2 y := by
  rw [outsAt0_C m c t (by omega) (by omega) h]
  frame_out

/-- The array written is the product. -/
theorem final (c : Dev nD) : (dats m 0 c).arrAt 2 (cfgs 0).N
    = latentAt (m ((c : Thread nD τ).loc main_arg0)) (packed (m ((c : Thread nD τ).loc main_arg1))) := by
  rw [← packed_eq m c]
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 8 (fun _ => 0)
      (fun p j => ∑ k : Fin 512, (show FVec Ideal S2048x512 .bf16 from iblk m c 0 p) (ix2 (j 0) k)
        * (show FVec Ideal S512x1024 .bf16 from iblk m c 1 p) (ix2 k (j 1)))
      (fun t h j => by
        rw [outsAt0_A m c t h (by omega) (by omega)]; frame_out; rw [first_at, zero_add])
      (fun t h j => by
        by_cases hl : t.val % 8 = 7
        · rw [outsAt0_C m c t h (by omega) hl]; frame_out; rw [step_at]; exact congrArg (· + _) (acc_read _ j)
        · rw [outsAt0_B m c t h (by omega) hl]; frame_out; rw [step_at]; exact congrArg (· + _) (acc_read _ j))
      t ((flush0_2 t).mp hf) _, zero_add]
  unfold latentAt
  refine Fin.sum_mul_add_congr fun s k hl => ?_
  blk_point [iblk, V_main_arg0 m c, idx t, idx ⟨_, Pipeline.run_point_lt_of_flush t ((flush0_2 t).mp hf) s⟩]

/-- The reference's result is the product: the columns it adds are zero, as the product with zero columns is. -/
theorem ref_eq (x : FVec Ideal S8192x4096 .bf16) (w : FVec Ideal S2x4096x1600 .f32) :
    pad Cert.MlaLatentRefIdeal.S8192x2048 ![0, 0] ![0, 448] ![0, 0]
      (Host.dotGeneral Cert.MlaLatentRefIdeal.dot_S8192x4096_S4096x1600_S8192x1600_1_0_0_1_n_n none (extf .f32 x Cert.MlaLatentRefIdeal.Gen.bitsLt_bf16_f32)
        (shapeCast _ (extractStridedSlice Cert.MlaLatentRefIdeal.S1x4096x1600 ![0, 0, 0] w Cert.MlaLatentRefIdeal.Gen.slices_S2x4096x1600_S1x4096x1600_0_0_0)
          Cert.MlaLatentRefIdeal.Gen.shapeCasts_S1x4096x1600_S4096x1600))
      (sitofp (F := Ideal) .f32 (constantI Cert.MlaLatentRefIdeal.S_ 32 0#32)) Cert.MlaLatentRefIdeal.Gen.pads_S8192x1600_S8192x2048_000_04480
      Cert.MlaLatentRefIdeal.Gen.h_S_ = latentAt x (packed w) := by
  funext j
  pointwise [latentAt, packed]
  split_ifs
  · rfl
  · simp only [mul_zero, Finset.sum_const_zero]; exact sitofp_zero (φ := .f32)

end Cert.MlaLatentIdeal.Sum

end
-- ==== Proof.MlaQueryValue.lean ====
module

public import proofs.«01_k».proof.Proof.Gen.MlaQueryIdeal.Value
public import proofs.«01_k».proof.Proof.Gen.MlaQueryRefIdeal.Run
public import Idealize.ShloMosaic.Lib.Pipeline.ValueKit

@[expose] public section

set_option maxRecDepth 16384

noncomputable section

namespace Cert.MlaQueryIdeal.Sum

open Cert.MlaQueryIdeal Cert.MlaQueryIdeal.Gen
open Idealize.ShloMosaic Idealize.ShloMosaic.TcCoe Idealize.SL.Sem
open Idealize.ShloMosaic.Pipeline (Dat)

variable (m : (ℓ : Loc nD τ sig) → Buf (Elt Ideal) ℓ)

/-- The first layer's columns: every head's first 128, then every head's last 64. -/
def packed (w : FVec Ideal S2x1024x6144 .f32) : FVec Ideal S1024x6144 .bf16 :=
  fun j => if h : (j 1).val < 4096 then w (ix3 0 (j 0) ⟨(j 1).val / 128 * 192 + (j 1).val % 128, by omega⟩)
    else w (ix3 0 (j 0) ⟨((j 1).val - 4096) / 64 * 192 + (128 + ((j 1).val - 4096) % 64), by have : (j 1).val < 6144 := (j 1).isLt; omega⟩)

/-- The queries: rows of `x` times the columns in that order. -/
def queryAt (x : FVec Ideal S8192x1024 .bf16) (w : FVec Ideal S1024x6144 .bf16) : FVec Ideal S8192x6144 .f32 :=
  fun j => ∑ l : Fin 1024, x (ix2 (j 0) l) * w (ix2 l (j 1))

/-- What the host packs before the call. -/
theorem packed_eq (c : Dev nD) : V m c main_v8 = packed (m ((c : Thread nD τ).loc main_arg1)) := by
  entry_read
  funext j
  pointwise [packed]

theorem first_at (x : Vec Ideal S2048x512 .bf16) (w : Vec Ideal S512x1024 .bf16) (j) :
    k0_pay2 (F := Ideal) x w j = ∑ k : Fin 512, x (ix2 (j 0) k) * w (ix2 k (j 1)) := by
  pointwise [k0_pay2, k0_pay1]

theorem step_at (x : Vec Ideal S2048x512 .bf16) (w : Vec Ideal S512x1024 .bf16) (a : Vec Ideal S2048x1024 .f32) (j) :
    k0_pay3 (F := Ideal) x w a j = a j + ∑ k : Fin 512, x (ix2 (j 0) k) * w (ix2 k (j 1)) := by
  pointwise [k0_pay3, k0_pay1]

theorem acc_read (X : Vec Ideal S2048x1024 .f32) (j) :
    View.read (Elt Ideal) scM0_0.view ((Memref.isWhole_whole _ : scM0_0.IsWhole).unread X) j = X j :=
  congrFun ((Memref.isWhole_whole _ : scM0_0.IsWhole).read_unread X) j

theorem idx : ∀ t : Fin cfg0.N, win0_0.index t = ![t.val / 12, t.val % 2]
    ∧ win0_1.index t = ![t.val % 2, t.val / 2 % 6]
    ∧ win0_2.index t = ![t.val / 12, t.val / 2 % 6] :=
  (by decide +kernel : ∀ t : Fin grid0.N, _)

/-- At a run's second point the block written back is what the accumulator holds. -/
theorem out_eq_acc (c : Dev nD) (t : Fin cfg0.N) (h : t.val % 2 = 1) (y) :
    (outsAt0 m c t.val t.isLt).1 y = (outsAt0 m c t.val t.isLt).2 y := by
  rw [outsAt0_B m c t (by omega) h h]
  frame_out

/-- The array written is the product. -/
theorem final (c : Dev nD) : (dats m 0 c).arrAt 2 (cfgs 0).N
    = queryAt (m ((c : Thread nD τ).loc main_arg0)) (packed (m ((c : Thread nD τ).loc main_arg1))) := by
  rw [← packed_eq m c]
  refine (dats m 0 c).arrAt_eq_of_covers 2 _ (by decide +kernel) fun t hf y => ?_
  blk_simp
  rw [after0_2, out_eq_acc m c t ((flush0_2 t).mp hf),
    Pipeline.eq_sum_fin_of_reset_step_apply_of_flush (fun n h => (outsAt0 m c n h).2) 2 (fun _ => 0)
      (fun p j => ∑ k : Fin 512, (show FVec Ideal S2048x512 .bf16 from iblk m c 0 p) (ix2 (j 0) k)
        * (show FVec Ideal S512x1024 .bf16 from iblk m c 1 p) (ix2 k (j 1)))
      (fun t h j => by
        rw [outsAt0_A m c t h (by omega) (by omega)]; frame_out; rw [first_at, zero_add])
      (fun t h j => by
        rw [outsAt0_B m c t h (by omega) (by omega)]; frame_out; rw [step_at]; exact congrArg (· + _) (acc_read _ j))
      t ((flush0_2 t).mp hf) _, zero_add]
  unfold queryAt
  refine Fin.sum_mul_add_congr fun s k hl => ?_
  blk_point [iblk, V_main_arg0 m c, idx t, idx ⟨_, Pipeline.run_point_lt_of_flush t ((flush0_2 t).mp hf) s⟩]

/-- The reference's result is the product. -/
theorem ref_eq (x : FVec Ideal S8192x1024 .bf16) (w : FVec Ideal S2x1024x6144 .f32) :
    (let p := shapeCast Cert.MlaQueryRefIdeal.S8192x32x192
      (Host.dotGeneral Cert.MlaQueryRefIdeal.dot_S8192x1024_S1024x6144_S8192x6144_1_0_0_1_n_n none (extf .f32 x Cert.MlaQueryRefIdeal.Gen.bitsLt_bf16_f32)
        (shapeCast _ (extractStridedSlice Cert.MlaQueryRefIdeal.S1x1024x6144 ![0, 0, 0] w Cert.MlaQueryRefIdeal.Gen.slices_S2x1024x6144_S1x1024x6144_0_0_0)
          Cert.MlaQueryRefIdeal.Gen.shapeCasts_S1x1024x6144_S1024x6144)) Cert.MlaQueryRefIdeal.Gen.shapeCasts_S8192x6144_S8192x32x192
    concatenate Cert.MlaQueryRefIdeal.S8192x6144 1
      [⟨Cert.MlaQueryRefIdeal.S8192x4096, shapeCast _ (extractStridedSlice Cert.MlaQueryRefIdeal.S8192x32x128 ![0, 0, 0] p
          Cert.MlaQueryRefIdeal.Gen.slices_S8192x32x192_S8192x32x128_0_0_0) Cert.MlaQueryRefIdeal.Gen.shapeCasts_S8192x32x128_S8192x4096⟩,
       ⟨Cert.MlaQueryRefIdeal.S8192x2048, shapeCast _ (extractStridedSlice Cert.MlaQueryRefIdeal.S8192x32x64 ![0, 0, 128] p
          Cert.MlaQueryRefIdeal.Gen.slices_S8192x32x192_S8192x32x64_0_0_128) Cert.MlaQueryRefIdeal.Gen.shapeCasts_S8192x32x64_S8192x2048⟩]
      Cert.MlaQueryRefIdeal.Gen.concatenates_S8192x4096_S8192x2048_S8192x6144_d1) = queryAt x (packed w) := by
  funext j
  pointwise [queryAt, packed]
  split_ifs <;> rfl

end Cert.MlaQueryIdeal.Sum

end
-- ==== Proof.MlaKeyValValue.lean ====
module

public import proofs.«01_k».proof.Proof.Gen.MlaKeyValIdeal.Value
public import proofs.«01_k».proof.Proof.Gen.MlaKeyValRefIdeal.Run
public import Idealize.ShloMosaic.Lib.Pipeline.ValueKit

@[expose] public section

set_option maxRecDepth 16384

noncomputable section

namespace Cert.MlaKeyValIdeal.Sum

open Cert.MlaKeyValIdeal Cert.MlaKeyValIdeal.Gen
open Idealize.ShloMosaic Idealize.ShloMosaic.TcCoe Idealize.SL.Sem
open Idealize.ShloMosaic.Pipeline (Dat)

variable (m : (ℓ : Loc nD τ sig) → Buf (Elt Ideal) ℓ)

/-- The keys and values: rows of `x` times every head's columns. -/
def keyValAt (x : FVec Ideal S8192x512 .bf16) (w : FVec Ideal S2x512x32x256 .f32) : FVec Ideal S8192x8192 .f32 :=
  fun j => ∑ l : Fin 512, x (ix2 (j 0) l)
    * w (ix4 0 l ⟨(j 1).val / 256, by have : (j 1).val < 8192 := (j 1).isLt; omega⟩ ⟨(j 1).val % 256, by omega⟩)

theorem prod_at (x : Vec Ideal S2048x512 .bf16) (w : Vec Ideal S512x1024 .f32) (j) :
    k0_pay2 (F := Ideal) x w j = ∑ k : Fin 512, x (ix2 (j 0) k) * w (ix2 k (j 1)) := by
  pointwise [k0_pay2, k0_pay1]

theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- The array written is the product: one point takes the whole contracted axis. -/
theorem final (c : Dev nD) : (dats m 0 c).arrAt 2 (cfgs 0).N
    = keyValAt (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  frame_out
  rw [prod_at]
  unfold keyValAt
  blk_point [iblk, V_main_arg0 m c, idx t]

/-- The reference's result is the product. -/
theorem ref_eq (x : FVec Ideal S8192x512 .bf16) (w : FVec Ideal S2x512x32x256 .f32) :
    shapeCast Cert.MlaKeyValRefIdeal.S8192x8192
      (Host.dotGeneral Cert.MlaKeyValRefIdeal.dot_S8192x512_S512x32x256_S8192x32x256_1_0_0_12_n_n none (extf .f32 x Cert.MlaKeyValRefIdeal.Gen.bitsLt_bf16_f32)
        (shapeCast _ (extractStridedSlice Cert.MlaKeyValRefIdeal.S1x512x32x256 ![0, 0, 0, 0] w Cert.MlaKeyValRefIdeal.Gen.slices_S2x512x32x256_S1x512x32x256_0_0_0_0)
          Cert.MlaKeyValRefIdeal.Gen.shapeCasts_S1x512x32x256_S512x32x256)) Cert.MlaKeyValRefIdeal.Gen.shapeCasts_S8192x32x256_S8192x8192
      = keyValAt x w := by
  funext j
  pointwise [keyValAt]

end Cert.MlaKeyValIdeal.Sum

end
-- ==== Proof.GdnStepValue.lean ====
module

public import proofs.«01_k».proof.Proof.Gen.GdnStepIdeal.Value
public import proofs.«01_k».proof.Proof.Gen.GdnStepRefIdeal.Run
public import Idealize.ShloMosaic.Lib.Pipeline.ValueKit

@[expose] public section

set_option maxRecDepth 16384

noncomputable section

namespace Cert.GdnStepIdeal.Rule

open Cert.GdnStepIdeal Cert.GdnStepIdeal.Gen
open Idealize.ShloMosaic Idealize.ShloMosaic.TcCoe Idealize.SL.Sem
open Idealize.ShloMosaic.Pipeline (Dat)

variable (m : (ℓ : Loc nD τ sig) → Buf (Elt Ideal) ℓ)

/-- A row laid along the diagonal and added up along the rows is the row as a column. -/
theorem eye_at (f : Fin 128 → EReal) (d : ℕ) (hd : d < 128) :
    (∑ j : Fin 128, Scalar.select (IntOp.cmpi CmpIPredicate.eq (BitVec.ofNat 32 d) (BitVec.ofNat 32 (j : ℕ))) (f j) 0) = f ⟨d, hd⟩ := by
  have e : ∀ j : Fin 128, Scalar.select (IntOp.cmpi CmpIPredicate.eq (BitVec.ofNat 32 d) (BitVec.ofNat 32 (j : ℕ))) (f j) (0 : EReal)
      = if ⟨d, hd⟩ = j then f j else 0 := fun j => by
    rw [WordCmp.cmpi_eq_ofNat (by omega) (by omega), WordCmp.select_ofBool]
    simp only [decide_eq_true_eq, Fin.ext_iff]
  simp only [e, Finset.sum_ite_eq, Finset.mem_univ, if_true]

theorem eye_sum (f : Fin 128 → EReal) (d : Fin 128) :
    (∑ j : Fin 128, Scalar.select (IntOp.cmpi CmpIPredicate.eq (BitVec.ofNat 32 (d : ℕ)) (BitVec.ofNat 32 (j : ℕ))) (f j) 0) = f d :=
  eye_at f d d.isLt

/-- The outputs of one sequence's heads from its blocks. -/
def outBlk (q k v eg b : Vec Ideal S1x16x128 .f32) (S : Vec Ideal S1x16x128x128 .f32) : Vec Ideal S1x16x128 .f32 := fun y =>
  eg y * (∑ d : Fin 128, q (ix3 0 (y 1) d) * S (ix4 0 (y 1) d (y 2)))
    + (∑ d : Fin 128, q (ix3 0 (y 1) d) * k (ix3 0 (y 1) d))
      * (b y * (v y - eg y * ∑ d : Fin 128, k (ix3 0 (y 1) d) * S (ix4 0 (y 1) d (y 2))))

theorem out_blk (q k v eg b : Vec Ideal S1x16x128 .f32) (S : Vec Ideal S1x16x128x128 .f32) (y) :
    out0_6 q k v eg b S y = outBlk q k v eg b S y := by
  unfold_out out0_6
  canon_tiles x h
  all_goals (open_payloads; pointwise [outBlk]; simp only [eye_sum]; blk_point [])

/-- The new states of one sequence's heads from its blocks. -/
def stateBlk (k v eg b : Vec Ideal S1x16x128 .f32) (S : Vec Ideal S1x16x128x128 .f32) : Vec Ideal S1x16x128x128 .f32 := fun y =>
  eg (ix3 0 (y 1) (y 3)) * S y + k (ix3 0 (y 1) (y 2))
    * (b (ix3 0 (y 1) (y 3)) * (v (ix3 0 (y 1) (y 3)) - eg (ix3 0 (y 1) (y 3)) * ∑ d : Fin 128, k (ix3 0 (y 1) d) * S (ix4 0 (y 1) d (y 3))))

theorem state_blk (q k v eg b : Vec Ideal S1x16x128 .f32) (S : Vec Ideal S1x16x128x128 .f32) (y) :
    out0_7 q k v eg b S y = stateBlk k v eg b S y := by
  unfold_out out0_7
  canon_tiles x h
  all_goals (open_payloads; pointwise [stateBlk]; simp only [eye_sum]; rw [eye_at _ _ x2_lt]; blk_point [])

/-- A number per sequence and head, once for every lane. -/
def spread (a : FVec Ideal S128x16 .f32) : FVec Ideal S128x16x128 .f32 := fun j => a (ix2 (j 0) (j 1))

/-- The outputs of all sequences' heads. -/
def outAt (q k v eg b : FVec Ideal S128x16x128 .f32) (S : FVec Ideal S128x16x128x128 .f32) : FVec Ideal S128x16x128 .f32 := fun j =>
  eg j * (∑ d : Fin 128, q (ix3 (j 0) (j 1) d) * S (ix4 (j 0) (j 1) d (j 2)))
    + (∑ d : Fin 128, q (ix3 (j 0) (j 1) d) * k (ix3 (j 0) (j 1) d))
      * (b j * (v j - eg j * ∑ d : Fin 128, k (ix3 (j 0) (j 1) d) * S (ix4 (j 0) (j 1) d (j 2))))

/-- The new states of all sequences' heads. -/
def stateAt (k v eg b : FVec Ideal S128x16x128 .f32) (S : FVec Ideal S128x16x128x128 .f32) : FVec Ideal S128x16x128x128 .f32 := fun j =>
  eg (ix3 (j 0) (j 1) (j 3)) * S j + k (ix3 (j 0) (j 1) (j 2))
    * (b (ix3 (j 0) (j 1) (j 3)) * (v (ix3 (j 0) (j 1) (j 3)) - eg (ix3 (j 0) (j 1) (j 3))
      * ∑ d : Fin 128, k (ix3 (j 0) (j 1) d) * S (ix4 (j 0) (j 1) d (j 3))))

/-- The decays the host lays out before the call. -/
theorem decay_eq (c : Dev nD) : V m c main_v2 = spread (Host.exp (m ((c : Thread nD τ).loc main_arg3))) := by
  entry_read
  funext j
  pointwise [spread]

/-- The rates the host lays out before the call. -/
theorem rate_eq (c : Dev nD) : V m c main_v4 = spread (m ((c : Thread nD τ).loc main_arg4)) := by
  entry_read
  funext j
  pointwise [spread]

/-- Every point stages and writes one sequence. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0]
    ∧ win0_6.index t = ![t.val, 0, 0] ∧ win0_7.index t = ![t.val, 0, 0, 0] :=
  (by decide +kernel : ∀ t : Fin grid0.N, _)

/-- The array of outputs written. -/
theorem final_out (c : Dev nD) : (dats m 0 c).arrAt 6 (cfgs 0).N
    = outAt (m ((c : Thread nD τ).loc main_arg0)) (m ((c : Thread nD τ).loc main_arg1)) (m ((c : Thread nD τ).loc main_arg2))
      (spread (Host.exp (m ((c : Thread nD τ).loc main_arg3)))) (spread (m ((c : Thread nD τ).loc main_arg4))) (m ((c : Thread nD τ).loc main_arg5)) := by
  rw [← decay_eq m c, ← rate_eq m c]
  refine (dats m 0 c).arrAt_eq_of_covers 6 _ (by decide +kernel) fun t _ y => ?_
  blk_simp
  rw [after0_6, out_blk]
  unfold outBlk outAt
  blk_point [iblk, V_main_arg0 m c, V_main_arg1 m c, V_main_arg2 m c, V_main_arg5 m c, idx t]

/-- The array of states written. -/
theorem final_state (c : Dev nD) : (dats m 0 c).arrAt 7 (cfgs 0).N
    = stateAt (m ((c : Thread nD τ).loc main_arg1)) (m ((c : Thread nD τ).loc main_arg2))
      (spread (Host.exp (m ((c : Thread nD τ).loc main_arg3)))) (spread (m ((c : Thread nD τ).loc main_arg4))) (m ((c : Thread nD τ).loc main_arg5)) := by
  rw [← decay_eq m c, ← rate_eq m c]
  refine (dats m 0 c).arrAt_eq_of_covers 7 _ (by decide +kernel) fun t _ y => ?_
  blk_simp
  rw [after0_7, state_blk]
  unfold stateBlk stateAt
  blk_point [iblk, V_main_arg1 m c, V_main_arg2 m c, V_main_arg5 m c, idx t]

/-- The reference's first result is the outputs. -/
theorem ref_out (q k v : FVec Ideal S128x16x128 .f32) (g b : FVec Ideal S128x16 .f32) (S : FVec Ideal S128x16x128x128 .f32) :
    addf (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 (Host.exp g))) (Host.dotGeneral Cert.GdnStepRefIdeal.dot_S128x16x128_S128x16x128x128_S128x16x128_2_2_n_3_01_01 none q S)) (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 (Host.dotGeneral Cert.GdnStepRefIdeal.dot_S128x16x128_S128x16x128_S128x16_2_2_n_n_01_01 none q k))) (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 b)) (subf v (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 (Host.exp g))) (Host.dotGeneral Cert.GdnStepRefIdeal.dot_S128x16x128_S128x16x128x128_S128x16x128_2_2_n_3_01_01 none k S)))))
    = outAt q k v (spread (Host.exp g)) (spread b) S := by
  funext j
  pointwise [outAt, spread]

/-- The reference's second result is the states. -/
theorem ref_state (k v : FVec Ideal S128x16x128 .f32) (g b : FVec Ideal S128x16 .f32) (S : FVec Ideal S128x16x128x128 .f32) :
    addf (mulf (broadcastInDim Cert.GdnStepRefIdeal.S128x16x128x128 ![0, 1, 2, 3] Cert.GdnStepRefIdeal.Gen.bcast_S128x16x1x1_S128x16x128x128_0_1_2_3 (broadcastInDim Cert.GdnStepRefIdeal.S128x16x1x1 ![0, 1] Cert.GdnStepRefIdeal.Gen.bcast_S128x16_S128x16x1x1_0_1 (Host.exp g))) S) (mulf (broadcastInDim Cert.GdnStepRefIdeal.S128x16x128x128 ![0, 1, 2, 3] Cert.GdnStepRefIdeal.Gen.bcast_S128x16x128x1_S128x16x128x128_0_1_2_3 (broadcastInDim Cert.GdnStepRefIdeal.S128x16x128x1 ![0, 1, 2] Cert.GdnStepRefIdeal.Gen.bcast_S128x16x128_S128x16x128x1_0_1_2 k)) (broadcastInDim Cert.GdnStepRefIdeal.S128x16x128x128 ![0, 1, 2, 3] Cert.GdnStepRefIdeal.Gen.bcast_S128x16x1x128_S128x16x128x128_0_1_2_3 (broadcastInDim Cert.GdnStepRefIdeal.S128x16x1x128 ![0, 1, 3] Cert.GdnStepRefIdeal.Gen.bcast_S128x16x128_S128x16x1x128_0_1_3 (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 b)) (subf v (mulf (broadcastInDim Cert.GdnStepRefIdeal.S128x16x128 ![0, 1, 2] Cert.GdnStepRefIdeal.Gen.bcast_S128x16x1_S128x16x128_0_1_2 (broadcastInDim Cert.GdnStepRefIdeal.S128x16x1 ![0, 1] Cert.GdnStepRefIdeal.Gen.bcast_S128x16_S128x16x1_0_1 (Host.exp g))) (Host.dotGeneral Cert.GdnStepRefIdeal.dot_S128x16x128_S128x16x128x128_S128x16x128_2_2_n_3_01_01 none k S)))))))
    = stateAt k v (spread (Host.exp g)) (spread b) S := by
  funext j
  pointwise [stateAt, spread]

end Cert.GdnStepIdeal.Rule

end
-- ==== Proof.MlstmStepValue.lean ====
module

public import proofs.«01_k».proof.Proof.Gen.MlstmStepIdeal.Value
public import proofs.«01_k».proof.Proof.Gen.MlstmStepRefIdeal.Run
public import proofs.«01_k».proof.Proof.GdnStepValue
public import Idealize.ShloMosaic.Lib.Pipeline.ValueKit

@[expose] public section

set_option maxRecDepth 16384

noncomputable section

namespace Cert.MlstmStepIdeal.Cell

open Cert.MlstmStepIdeal Cert.MlstmStepIdeal.Gen Cert.GdnStepIdeal.Rule
open Idealize.ShloMosaic Idealize.ShloMosaic.TcCoe Idealize.SL.Sem
open Idealize.ShloMosaic.Pipeline (Dat)

variable (m : (ℓ : Loc nD τ sig) → Buf (Elt Ideal) ℓ)

/-- The running maximum of the gates' logarithms. -/
def top (ms lf ig : EReal) : EReal := max (ms + lf) ig

/-- The weight of what was remembered. -/
def keep (ms lf ig : EReal) : EReal := Ideal.exp (ms + lf - top ms lf ig)

/-- The weight of what is new. -/
def take (ms lf ig : EReal) : EReal := Ideal.exp (ig - top ms lf ig)

/-- One entry of a head's output. -/
def hid (q k n C : Fin 128 → EReal) (v ms lf ig : EReal) : EReal :=
  Ideal.div (keep ms lf ig * (∑ d, q d * C d) + (∑ d, q d * k d) * take ms lf ig * v)
    (max (FloatOps.absf (F := Ideal) (φ := .f32) (keep ms lf ig * (∑ d, q d * n d) + (∑ d, q d * k d) * take ms lf ig)) (Ideal.exp (0 - top ms lf ig)))

/-- The outputs of one sequence's heads from its blocks. -/
def hidBlk (q k : Vec Ideal S1x8x128 .f32) (v : Vec Ideal S1x8x256 .f32) (ig lf ms : Vec Ideal S1x8x128 .f32) (C : Vec Ideal S1x8x128x256 .f32) (n : Vec Ideal S1x8x128 .f32) : Vec Ideal S1x8x256 .f32 := fun y =>
  hid (fun d => q (ix3 0 (y 1) d)) (fun d => k (ix3 0 (y 1) d)) (fun d => n (ix3 0 (y 1) d))
    (fun d => C (ix4 0 (y 1) d (y 2))) (v y) (ms (ix3 0 (y 1) 0)) (lf (ix3 0 (y 1) 0)) (ig (ix3 0 (y 1) 0))

theorem hid_blk (q k : Vec Ideal S1x8x128 .f32) (v : Vec Ideal S1x8x256 .f32) (ig lf ms : Vec Ideal S1x8x128 .f32)
    (C : Vec Ideal S1x8x128x256 .f32) (n : Vec Ideal S1x8x128 .f32) (y) :
    out0_8 q k v ig lf ms C n y = hidBlk q k v ig lf ms C n y := by
  unfold_out out0_8
  canon_tiles x h
  all_goals (open_payloads; pointwise [hidBlk, hid, keep, take, top]; simp only [eye_sum]; blk_point [])

/-- The new memories of one sequence's heads from its blocks. -/
def memBlk (k : Vec Ideal S1x8x128 .f32) (v : Vec Ideal S1x8x256 .f32) (ig lf ms : Vec Ideal S1x8x128 .f32) (C : Vec Ideal S1x8x128x256 .f32) : Vec Ideal S1x8x128x256 .f32 := fun y =>
  keep (ms (ix3 0 (y 1) 0)) (lf (ix3 0 (y 1) 0)) (ig (ix3 0 (y 1) 0)) * C y + k (ix3 0 (y 1) (y 2)) * take (ms (ix3 0 (y 1) 0)) (lf (ix3 0 (y 1) 0)) (ig (ix3 0 (y 1) 0)) * v (ix3 0 (y 1) (y 3))

theorem mem_blk (q k : Vec Ideal S1x8x128 .f32) (v : Vec Ideal S1x8x256 .f32) (ig lf ms : Vec Ideal S1x8x128 .f32)
    (C : Vec Ideal S1x8x128x256 .f32) (n : Vec Ideal S1x8x128 .f32) (y) :
    out0_9 q k v ig lf ms C n y = memBlk k v ig lf ms C y := by
  unfold_out out0_9
  canon_tiles x h
  all_goals (open_payloads; pointwise [memBlk, keep, take, top]; rw [eye_at _ _ x2_lt]; blk_point [])

/-- The new normalisers of one sequence's heads from its blocks. -/
def normBlk (k ig lf ms n : Vec Ideal S1x8x128 .f32) : Vec Ideal S1x8x128 .f32 := fun y =>
  keep (ms (ix3 0 (y 1) 0)) (lf (ix3 0 (y 1) 0)) (ig (ix3 0 (y 1) 0)) * n y + k y * take (ms (ix3 0 (y 1) 0)) (lf (ix3 0 (y 1) 0)) (ig (ix3 0 (y 1) 0))

theorem norm_blk (q k : Vec Ideal S1x8x128 .f32) (v : Vec Ideal S1x8x256 .f32) (ig lf ms : Vec Ideal S1x8x128 .f32)
    (C : Vec Ideal S1x8x128x256 .f32) (n : Vec Ideal S1x8x128 .f32) (y) :
    out0_10 q k v ig lf ms C n y = normBlk k ig lf ms n y := by
  unfold_out out0_10
  canon_tiles x h
  all_goals (open_payloads; pointwise [normBlk, keep, take, top]; blk_point [])

/-- The new maxima of one sequence's heads from its blocks. -/
def peakBlk (ig lf ms : Vec Ideal S1x8x128 .f32) : Vec Ideal S1x8x128 .f32 := fun y =>
  top (ms (ix3 0 (y 1) 0)) (lf (ix3 0 (y 1) 0)) (ig (ix3 0 (y 1) 0))

theorem peak_blk (q k : Vec Ideal S1x8x128 .f32) (v : Vec Ideal S1x8x256 .f32) (ig lf ms : Vec Ideal S1x8x128 .f32)
    (C : Vec Ideal S1x8x128x256 .f32) (n : Vec Ideal S1x8x128 .f32) (y) :
    out0_11 q k v ig lf ms C n y = peakBlk ig lf ms y := by
  unfold_out out0_11
  canon_tiles x h
  all_goals (open_payloads; pointwise [peakBlk, top]; blk_point [])

/-- A number per sequence and head, once for every lane. -/
def spread (a : FVec Ideal S128x8 .f32) : FVec Ideal S128x8x128 .f32 := fun j => a (ix2 (j 0) (j 1))

/-- The input gates the host lays out before the call. -/
theorem inGate_eq (c : Dev nD) : V m c main_v1 = spread (m ((c : Thread nD τ).loc main_arg3)) := by
  entry_read
  funext j
  pointwise [spread]

/-- The forget gates the host lays out before the call. -/
theorem forget_eq (c : Dev nD) : V m c main_v3 = spread (m ((c : Thread nD τ).loc main_arg4)) := by
  entry_read
  funext j
  pointwise [spread]

/-- The maxima the host lays out before the call. -/
theorem before_eq (c : Dev nD) : V m c main_v5 = spread (m ((c : Thread nD τ).loc main_arg5)) := by
  entry_read
  funext j
  pointwise [spread]

/-- Every point stages and writes one sequence. -/
theorem idx : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0, 0]
    ∧ win0_7.index t = ![t.val, 0, 0]
    ∧ win0_8.index t = ![t.val, 0, 0]
    ∧ win0_9.index t = ![t.val, 0, 0, 0]
    ∧ win0_10.index t = ![t.val, 0, 0]
    ∧ win0_11.index t = ![t.val, 0, 0] :=
  (by decide +kernel : ∀ t : Fin grid0.N, _)

/-- The outputs of all sequences' heads. -/
def hidAt (q k : FVec Ideal S128x8x128 .f32) (v : FVec Ideal S128x8x256 .f32) (ig lf ms : FVec Ideal S128x8x128 .f32) (C : FVec Ideal S128x8x128x256 .f32) (n : FVec Ideal S128x8x128 .f32) : FVec Ideal S128x8x256 .f32 := fun j =>
  hid (fun d => q (ix3 (j 0) (j 1) d)) (fun d => k (ix3 (j 0) (j 1) d)) (fun d => n (ix3 (j 0) (j 1) d))
    (fun d => C (ix4 (j 0) (j 1) d (j 2))) (v j) (ms (ix3 (j 0) (j 1) 0)) (lf (ix3 (j 0) (j 1) 0)) (ig (ix3 (j 0) (j 1) 0))

/-- The array of outputs written. -/
theorem final_hid (c : Dev nD) : (dats m 0 c).arrAt 8 (cfgs 0).N
    = hidAt (m ((c : Thread nD τ).loc main_arg0)) (m ((c : Thread nD τ).loc main_arg1)) (m ((c : Thread nD τ).loc main_arg2)) (spread (m ((c : Thread nD τ).loc main_arg3))) (spread (m ((c : Thread nD τ).loc main_arg4))) (spread (m ((c : Thread nD τ).loc main_arg5))) (m ((c : Thread nD τ).loc main_arg6)) (m ((c : Thread nD τ).loc main_arg7)) := by
  rw [← inGate_eq m c, ← forget_eq m c, ← before_eq m c]
  refine (dats m 0 c).arrAt_eq_of_covers 8 _ (by decide +kernel) fun t _ y => ?_
  blk_simp
  rw [after0_8, hid_blk]
  unfold hidBlk hidAt
  blk_point [iblk, V_main_arg0 m c, V_main_arg1 m c, V_main_arg2 m c, V_main_arg6 m c, V_main_arg7 m c, hid, keep, take, top, idx t]

/-- The new memories of all sequences' heads. -/
def memAt (k : FVec Ideal S128x8x128 .f32) (v : FVec Ideal S128x8x256 .f32) (ig lf ms : FVec Ideal S128x8x128 .f32) (C : FVec Ideal S128x8x128x256 .f32) : FVec Ideal S128x8x128x256 .f32 := fun j =>
  keep (ms (ix3 (j 0) (j 1) 0)) (lf (ix3 (j 0) (j 1) 0)) (ig (ix3 (j 0) (j 1) 0)) * C j + k (ix3 (j 0) (j 1) (j 2)) * take (ms (ix3 (j 0) (j 1) 0)) (lf (ix3 (j 0) (j 1) 0)) (ig (ix3 (j 0) (j 1) 0)) * v (ix3 (j 0) (j 1) (j 3))

/-- The array of new memories written. -/
theorem final_mem (c : Dev nD) : (dats m 0 c).arrAt 9 (cfgs 0).N
    = memAt (m ((c : Thread nD τ).loc main_arg1)) (m ((c : Thread nD τ).loc main_arg2)) (spread (m ((c : Thread nD τ).loc main_arg3))) (spread (m ((c : Thread nD τ).loc main_arg4))) (spread (m ((c : Thread nD τ).loc main_arg5))) (m ((c : Thread nD τ).loc main_arg6)) := by
  rw [← inGate_eq m c, ← forget_eq m c, ← before_eq m c]
  refine (dats m 0 c).arrAt_eq_of_covers 9 _ (by decide +kernel) fun t _ y => ?_
  blk_simp
  rw [after0_9, mem_blk]
  unfold memBlk memAt
  blk_point [iblk, V_main_arg0 m c, V_main_arg1 m c, V_main_arg2 m c, V_main_arg6 m c, V_main_arg7 m c, keep, take, top, idx t]

/-- The new normalisers of all sequences' heads. -/
def normAt (k ig lf ms n : FVec Ideal S128x8x128 .f32) : FVec Ideal S128x8x128 .f32 := fun j =>
  keep (ms (ix3 (j 0) (j 1) 0)) (lf (ix3 (j 0) (j 1) 0)) (ig (ix3 (j 0) (j 1) 0)) * n j + k j * take (ms (ix3 (j 0) (j 1) 0)) (lf (ix3 (j 0) (j 1) 0)) (ig (ix3 (j 0) (j 1) 0))

/-- The array of new normalisers written. -/
theorem final_norm (c : Dev nD) : (dats m 0 c).arrAt 10 (cfgs 0).N
    = normAt (m ((c : Thread nD τ).loc main_arg1)) (spread (m ((c : Thread nD τ).loc main_arg3))) (spread (m ((c : Thread nD τ).loc main_arg4))) (spread (m ((c : Thread nD τ).loc main_arg5))) (m ((c : Thread nD τ).loc main_arg7)) := by
  rw [← inGate_eq m c, ← forget_eq m c, ← before_eq m c]
  refine (dats m 0 c).arrAt_eq_of_covers 10 _ (by decide +kernel) fun t _ y => ?_
  blk_simp
  rw [after0_10, norm_blk]
  unfold normBlk normAt
  blk_point [iblk, V_main_arg0 m c, V_main_arg1 m c, V_main_arg2 m c, V_main_arg6 m c, V_main_arg7 m c, keep, take, top, idx t]

/-- The new maxima of all sequences' heads. -/
def peakAt (ig lf ms : FVec Ideal S128x8x128 .f32) : FVec Ideal S128x8x128 .f32 := fun j =>
  top (ms (ix3 (j 0) (j 1) 0)) (lf (ix3 (j 0) (j 1) 0)) (ig (ix3 (j 0) (j 1) 0))

/-- The array of new maxima written. -/
theorem final_peak (c : Dev nD) : (dats m 0 c).arrAt 11 (cfgs 0).N
    = peakAt (spread (m ((c : Thread nD τ).loc main_arg3))) (spread (m ((c : Thread nD τ).loc main_arg4))) (spread (m ((c : Thread nD τ).loc main_arg5))) := by
  rw [← inGate_eq m c, ← forget_eq m c, ← before_eq m c]
  refine (dats m 0 c).arrAt_eq_of_covers 11 _ (by decide +kernel) fun t _ y => ?_
  blk_simp
  rw [after0_11, peak_blk]
  unfold peakBlk peakAt
  blk_point [iblk, V_main_arg0 m c, V_main_arg1 m c, V_main_arg2 m c, V_main_arg6 m c, V_main_arg7 m c, top, idx t]

/-- The reference's outputs. -/
theorem ref_hid (q k : FVec Ideal S128x8x128 .f32) (v : FVec Ideal S128x8x256 .f32) (ig lf ms : FVec Ideal S128x8 .f32) (C : FVec Ideal S128x8x128x256 .f32) (n : FVec Ideal S128x8x128 .f32) :
    Host.divf (addf (mulf (broadcastInDim Cert.MlstmStepRefIdeal.S128x8x256 ![0, 1, 2] Cert.MlstmStepRefIdeal.Gen.bcast_S128x8x1_S128x8x256_0_1_2 (broadcastInDim Cert.MlstmStepRefIdeal.S128x8x1 ![0, 1] Cert.MlstmStepRefIdeal.Gen.bcast_S128x8_S128x8x1_0_1 (Host.exp (subf (addf ms lf) (maximumf (addf ms lf) ig))))) (Host.dotGeneral Cert.MlstmStepRefIdeal.dot_S128x8x128_S128x8x128x256_S128x8x256_2_2_n_3_01_01 none q C)) (mulf (broadcastInDim Cert.MlstmStepRefIdeal.S128x8x256 ![0, 1, 2] Cert.MlstmStepRefIdeal.Gen.bcast_S128x8x1_S128x8x256_0_1_2 (broadcastInDim Cert.MlstmStepRefIdeal.S128x8x1 ![0, 1] Cert.MlstmStepRefIdeal.Gen.bcast_S128x8_S128x8x1_0_1 (mulf (Host.dotGeneral Cert.MlstmStepRefIdeal.dot_S128x8x128_S128x8x128_S128x8_2_2_n_n_01_01 none q k) (Host.exp (subf ig (maximumf (addf ms lf) ig)))))) v)) (broadcastInDim Cert.MlstmStepRefIdeal.S128x8x256 ![0, 1, 2] Cert.MlstmStepRefIdeal.Gen.bcast_S128x8x1_S128x8x256_0_1_2 (broadcastInDim Cert.MlstmStepRefIdeal.S128x8x1 ![0, 1] Cert.MlstmStepRefIdeal.Gen.bcast_S128x8_S128x8x1_0_1 (maximumf (Host.absf (addf (mulf (Host.exp (subf (addf ms lf) (maximumf (addf ms lf) ig))) (Host.dotGeneral Cert.MlstmStepRefIdeal.dot_S128x8x128_S128x8x128_S128x8_2_2_n_n_01_01 none q n)) (mulf (Host.dotGeneral Cert.MlstmStepRefIdeal.dot_S128x8x128_S128x8x128_S128x8_2_2_n_n_01_01 none q k) (Host.exp (subf ig (maximumf (addf ms lf) ig)))))) (Host.exp (Host.negf (maximumf (addf ms lf) ig))))))
    = hidAt q k v (spread ig) (spread lf) (spread ms) C n := by
  funext j
  pointwise [hidAt, hid, keep, take, top, spread]
  simp only [zero_sub]

/-- The reference's new memories. -/
theorem ref_mem (k : FVec Ideal S128x8x128 .f32) (v : FVec Ideal S128x8x256 .f32) (ig lf ms : FVec Ideal S128x8 .f32) (C : FVec Ideal S128x8x128x256 .f32) :
    addf (mulf (broadcastInDim Cert.MlstmStepRefIdeal.S128x8x128x256 ![0, 1, 2, 3] Cert.MlstmStepRefIdeal.Gen.bcast_S128x8x1x1_S128x8x128x256_0_1_2_3 (broadcastInDim Cert.MlstmStepRefIdeal.S128x8x1x1 ![0, 1] Cert.MlstmStepRefIdeal.Gen.bcast_S128x8_S128x8x1x1_0_1 (Host.exp (subf (addf ms lf) (maximumf (addf ms lf) ig))))) C) (mulf (broadcastInDim Cert.MlstmStepRefIdeal.S128x8x128x256 ![0, 1, 2, 3] Cert.MlstmStepRefIdeal.Gen.bcast_S128x8x128x1_S128x8x128x256_0_1_2_3 (broadcastInDim Cert.MlstmStepRefIdeal.S128x8x128x1 ![0, 1, 2] Cert.MlstmStepRefIdeal.Gen.bcast_S128x8x128_S128x8x128x1_0_1_2 (mulf k (broadcastInDim Cert.MlstmStepRefIdeal.S128x8x128 ![0, 1, 2] Cert.MlstmStepRefIdeal.Gen.bcast_S128x8x1_S128x8x128_0_1_2 (broadcastInDim Cert.MlstmStepRefIdeal.S128x8x1 ![0, 1] Cert.MlstmStepRefIdeal.Gen.bcast_S128x8_S128x8x1_0_1 (Host.exp (subf ig (maximumf (addf ms lf) ig)))))))) (broadcastInDim Cert.MlstmStepRefIdeal.S128x8x128x256 ![0, 1, 2, 3] Cert.MlstmStepRefIdeal.Gen.bcast_S128x8x1x256_S128x8x128x256_0_1_2_3 (broadcastInDim Cert.MlstmStepRefIdeal.S128x8x1x256 ![0, 1, 3] Cert.MlstmStepRefIdeal.Gen.bcast_S128x8x256_S128x8x1x256_0_1_3 v)))
    = memAt k v (spread ig) (spread lf) (spread ms) C := by
  funext j
  pointwise [memAt, keep, take, top, spread]

/-- The reference's new normalisers. -/
theorem ref_norm (k : FVec Ideal S128x8x128 .f32) (ig lf ms : FVec Ideal S128x8 .f32) (n : FVec Ideal S128x8x128 .f32) :
    addf (mulf (broadcastInDim Cert.MlstmStepRefIdeal.S128x8x128 ![0, 1, 2] Cert.MlstmStepRefIdeal.Gen.bcast_S128x8x1_S128x8x128_0_1_2 (broadcastInDim Cert.MlstmStepRefIdeal.S128x8x1 ![0, 1] Cert.MlstmStepRefIdeal.Gen.bcast_S128x8_S128x8x1_0_1 (Host.exp (subf (addf ms lf) (maximumf (addf ms lf) ig))))) n) (mulf k (broadcastInDim Cert.MlstmStepRefIdeal.S128x8x128 ![0, 1, 2] Cert.MlstmStepRefIdeal.Gen.bcast_S128x8x1_S128x8x128_0_1_2 (broadcastInDim Cert.MlstmStepRefIdeal.S128x8x1 ![0, 1] Cert.MlstmStepRefIdeal.Gen.bcast_S128x8_S128x8x1_0_1 (Host.exp (subf ig (maximumf (addf ms lf) ig))))))
    = normAt k (spread ig) (spread lf) (spread ms) n := by
  funext j
  pointwise [normAt, keep, take, top, spread]

/-- The reference's new maxima. -/
theorem ref_peak (ig lf ms : FVec Ideal S128x8 .f32) :
    broadcastInDim Cert.MlstmStepRefIdeal.S128x8x128 ![0, 1, 2] Cert.MlstmStepRefIdeal.Gen.bcast_S128x8x1_S128x8x128_0_1_2 (broadcastInDim Cert.MlstmStepRefIdeal.S128x8x1 ![0, 1] Cert.MlstmStepRefIdeal.Gen.bcast_S128x8_S128x8x1_0_1 (maximumf (addf ms lf) ig))
    = peakAt (spread ig) (spread lf) (spread ms) := by
  funext j
  pointwise [peakAt, top, spread]

end Cert.MlstmStepIdeal.Cell

end
-- ==== Proof.AbsorbQValue.lean ====
module

public import proofs.«01_k».proof.Proof.Gen.AbsorbQIdeal.Value
public import proofs.«01_k».proof.Proof.Gen.AbsorbQRefIdeal.Run
public import Idealize.ShloMosaic.Lib.Pipeline.ValueKit

@[expose] public section

set_option maxRecDepth 16384

noncomputable section

namespace Cert.AbsorbQIdeal.Sum

open Cert.AbsorbQIdeal Cert.AbsorbQIdeal.Gen
open Idealize.ShloMosaic Idealize.ShloMosaic.TcCoe Idealize.SL.Sem
open Idealize.ShloMosaic.Pipeline (Dat)

variable (m : (ℓ : Loc nD τ sig) → Buf (Elt Ideal) ℓ)

/-- The queries in the latents' space: every head's query times that head's key columns. -/
def absorbAt (x : FVec Ideal S128x4096 .f32) (w : FVec Ideal S2x512x32x256 .f32) : FVec Ideal S128x16384 .f32 :=
  fun j => ∑ l : Fin 128, x (ix2 (j 0) ⟨(j 1).val / 512 * 128 + l, by have : (j 1).val < 16384 := (j 1).isLt; omega⟩)
    * w (ix4 0 ⟨(j 1).val % 512, by omega⟩ ⟨(j 1).val / 512, by have : (j 1).val < 16384 := (j 1).isLt; omega⟩ ⟨l, by omega⟩)

theorem prod_at (x : Vec Ideal S128x128 .f32) (w : Vec Ideal S512x128 .f32) (j) :
    k0_pay1 (F := Ideal) x w j = ∑ k : Fin 128, x (ix2 (j 0) k) * w (ix2 (j 1) k) := by
  pointwise [k0_pay1]

/-- Every point takes one head. -/
theorem idx : ∀ t : Fin cfg0.N, win0_0.index t = ![0, t.val] ∧ win0_1.index t = ![0, 2 * t.val] ∧ win0_2.index t = ![0, t.val] :=
  (by decide +kernel : ∀ t : Fin grid0.N, _)

/-- The array written is the product, head by head. -/
theorem final (c : Dev nD) : (dats m 0 c).arrAt 2 (cfgs 0).N
    = absorbAt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [prod_at]
  unfold absorbAt
  have ht : t.val < 32 := lt_of_lt_of_eq t.isLt N_0
  blk_point [iblk, V_main_arg0 m c, idx t]

/-- The reference's result is the product, head by head. -/
theorem ref_eq (x : FVec Ideal S128x4096 .f32) (w : FVec Ideal S2x512x32x256 .f32) :
    shapeCast Cert.AbsorbQRefIdeal.S128x16384 (transpose Cert.AbsorbQRefIdeal.S128x32x512 [2, 0, 1] (Host.dotGeneral Cert.AbsorbQRefIdeal.dot_S512x32x128_S128x32x128_S32x512x128_2_2_0_0_1_1 none (extractStridedSlice Cert.AbsorbQRefIdeal.S512x32x128 ![0, 0, 0] (shapeCast _ (extractStridedSlice Cert.AbsorbQRefIdeal.S1x512x32x256 ![0, 0, 0, 0] w Cert.AbsorbQRefIdeal.Gen.slices_S2x512x32x256_S1x512x32x256_0_0_0_0) Cert.AbsorbQRefIdeal.Gen.shapeCasts_S1x512x32x256_S512x32x256) Cert.AbsorbQRefIdeal.Gen.slices_S512x32x256_S512x32x128_0_0_0) (shapeCast _ x Cert.AbsorbQRefIdeal.Gen.shapeCasts_S128x4096_S128x32x128)) Cert.AbsorbQRefIdeal.Gen.transposes_S32x512x128_S128x32x512_2_0_1) Cert.AbsorbQRefIdeal.Gen.shapeCasts_S128x32x512_S128x16384
    = absorbAt x w := by
  funext j
  pointwise [absorbAt]
  exact Finset.sum_congr rfl fun _ _ => mul_comm _ _

end Cert.AbsorbQIdeal.Sum

end
-- ==== Proof.AbsorbVValue.lean ====
module

public import proofs.«01_k».proof.Proof.Gen.AbsorbVIdeal.Value
public import proofs.«01_k».proof.Proof.Gen.AbsorbVRefIdeal.Run
public import Idealize.ShloMosaic.Lib.Pipeline.ValueKit

@[expose] public section

set_option maxRecDepth 16384

noncomputable section

namespace Cert.AbsorbVIdeal.Sum

open Cert.AbsorbVIdeal Cert.AbsorbVIdeal.Gen
open Idealize.ShloMosaic Idealize.ShloMosaic.TcCoe Idealize.SL.Sem
open Idealize.ShloMosaic.Pipeline (Dat)

variable (m : (ℓ : Loc nD τ sig) → Buf (Elt Ideal) ℓ)

/-- The values from the weighted latents: every head's latent times that head's value columns. -/
def valueAt (x : FVec Ideal S128x16384 .f32) (w : FVec Ideal S2x512x32x256 .f32) : FVec Ideal S128x4096 .f32 :=
  fun j => ∑ l : Fin 512, x (ix2 (j 0) ⟨(j 1).val / 128 * 512 + l, by have : (j 1).val < 4096 := (j 1).isLt; omega⟩)
    * w (ix4 0 l ⟨(j 1).val / 128, by have : (j 1).val < 4096 := (j 1).isLt; omega⟩ ⟨128 + (j 1).val % 128, by omega⟩)

theorem prod_at (x : Vec Ideal S128x512 .f32) (w : Vec Ideal S512x128 .f32) (j) :
    k0_pay1 (F := Ideal) x w j = ∑ k : Fin 512, x (ix2 (j 0) k) * w (ix2 k (j 1)) := by
  pointwise [k0_pay1]

/-- Every point takes one head. -/
theorem idx : ∀ t : Fin cfg0.N, win0_0.index t = ![0, t.val] ∧ win0_1.index t = ![0, 2 * t.val + 1] ∧ win0_2.index t = ![0, t.val] :=
  (by decide +kernel : ∀ t : Fin grid0.N, _)

/-- The array written is the product, head by head. -/
theorem final (c : Dev nD) : (dats m 0 c).arrAt 2 (cfgs 0).N
    = valueAt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [prod_at]
  unfold valueAt
  have ht : t.val < 32 := lt_of_lt_of_eq t.isLt N_0
  blk_point [iblk, V_main_arg0 m c, idx t]

/-- The reference's result is the product, head by head. -/
theorem ref_eq (x : FVec Ideal S128x16384 .f32) (w : FVec Ideal S2x512x32x256 .f32) :
    shapeCast Cert.AbsorbVRefIdeal.S128x4096 (transpose Cert.AbsorbVRefIdeal.S128x32x128 [2, 0, 1] (Host.dotGeneral Cert.AbsorbVRefIdeal.dot_S512x32x128_S128x32x512_S32x128x128_0_2_2_0_1_1 none (extractStridedSlice Cert.AbsorbVRefIdeal.S512x32x128 ![0, 0, 128] (shapeCast _ (extractStridedSlice Cert.AbsorbVRefIdeal.S1x512x32x256 ![0, 0, 0, 0] w Cert.AbsorbVRefIdeal.Gen.slices_S2x512x32x256_S1x512x32x256_0_0_0_0) Cert.AbsorbVRefIdeal.Gen.shapeCasts_S1x512x32x256_S512x32x256) Cert.AbsorbVRefIdeal.Gen.slices_S512x32x256_S512x32x128_0_0_128) (shapeCast _ x Cert.AbsorbVRefIdeal.Gen.shapeCasts_S128x16384_S128x32x512)) Cert.AbsorbVRefIdeal.Gen.transposes_S32x128x128_S128x32x128_2_0_1) Cert.AbsorbVRefIdeal.Gen.shapeCasts_S128x32x128_S128x4096
    = valueAt x w := by
  funext j
  pointwise [valueAt]
  exact Finset.sum_congr rfl fun _ _ => mul_comm _ _

end Cert.AbsorbVIdeal.Sum

end
-- ==== Proof.DecodeOk.lean ====
/- The sample's attention over the paged cache reads the pages its page table names. Here: if each entry of the table
  names a page of the pools, every block the call reads lies inside its pool, which is what its run asks for.
-/
module

public import proofs.«01_k».proof.Defs
public import proofs.«01_k».proof.Proof.Gen.Decode.Frame
public import proofs.«01_k».proof.Proof.Gen.DecodeIdeal.Frame
public import proofs.«01_k».proof.Proof.Gen.Pre_pages_named
import Idealize.ShloMosaic.Lib.StableHlo.Predicate

@[expose] public section

namespace Cert.Pages

open Idealize.ShloMosaic Idealize.ShloMosaic.TcCoe

variable {F : FTy → Type} [FloatOps F]

/-- The precondition, read at one entry of the page table. -/
theorem named {a0 a1 a2 a3 a4 a5} {pt : IVec Cert.Pre_pages_named.S128x64 32}
    (h : Cert.Pre_pages_named.fn (F := F) a0 a1 a2 a3 a4 a5 pt = fun _ => 1#1) (x : Cert.Pre_pages_named.S128x64.Idx) :
    (pt x).toNat < 10240 := by
  have e := congrFun h x
  have andi_one (a b : BitVec 1) : IntOp.andi a b = 1#1 ↔ a = 1#1 ∧ b = 1#1 := by revert a b; decide
  simp only [Cert.Pre_pages_named.fn, andi, cmpi, constantI, broadcastInDim, andi_one, IntOp.cmpi,
    StableHlo.Predicate.ofBool_eq_one_iff, BitVec.sle_iff_toInt_le, BitVec.slt_iff_toInt_lt] at e
  obtain ⟨e0, e1⟩ := e
  have h0 : (0#32).toInt = 0 := by decide
  have h1 : (10240#32).toInt = 10240 := by decide
  rw [h0] at e0
  rw [h1] at e1
  rw [BitVec.toInt_eq_toNat_cond] at e0 e1
  have := (pt x).isLt
  split at e0 <;> omega

/-- A block of one page lies inside a pool of 10240 pages. -/
theorem page_inside {w : ℕ} (k : ℕ) (hk : k < 10240) (a : Fin 4) :
    ((![0, k, 0, 0] : Fin 4 → ℕ) a + 1) * (![1, 1, 128, w] : Fin 4 → ℕ) a ≤ (![2, 10240, 128, w] : Fin 4 → ℕ) a := by
  fin_cases a <;> simp <;> omega

end Cert.Pages

namespace Cert.Decode.Pages

open Idealize.ShloMosaic Idealize.ShloMosaic.TcCoe Cert.Decode.Gen

/-- The blocks the call reads lie inside the pools. -/
theorem ok_of_pre (m : (ℓ : Loc nD τ sig) → Buf (Elt Bits) ℓ) (h : Cert.Pre_Decode m) : Ok (F := Bits) m := by
  have hn := fun x => Cert.Pages.named (h 0) x
  refine ⟨?_, ?_, ?_, ?_, ?_, ?_, ?_, ?_, ?_, ?_, ?_, ?_, ?_, ?_, ?_, ?_⟩ <;>
    exact fun i => ⟨fun a => Cert.Pages.page_inside _ (hn _) a, Or.inl rfl⟩

end Cert.Decode.Pages

namespace Cert.DecodeIdeal.Pages

open Idealize.ShloMosaic Idealize.ShloMosaic.TcCoe Cert.DecodeIdeal.Gen

/-- The blocks the call reads lie inside the pools. -/
theorem ok_of_pre (m : (ℓ : Loc nD τ sig) → Buf (Elt Ideal) ℓ) (h : Cert.Pre_DecodeIdeal m) : Ok (F := Ideal) m := by
  have hn := fun x => Cert.Pages.named (h 0) x
  refine ⟨?_, ?_, ?_, ?_, ?_, ?_, ?_, ?_, ?_, ?_, ?_, ?_, ?_, ?_, ?_, ?_⟩ <;>
    exact fun i => ⟨fun a => Cert.Pages.page_inside _ (hn _) a, Or.inl rfl⟩

end Cert.DecodeIdeal.Pages

end
-- ==== Proof.lean ====
/- The claims, each put together from its program's frame and, for an equality, from the two runs. -/
module

public import proofs.«01_k».proof.Defs
public import proofs.«01_k».proof.Proof.FlashFrame
public import proofs.«01_k».proof.Proof.FlashRefValue
public import proofs.«01_k».proof.Proof.Gen.Pre_all_finite
public import proofs.«01_k».proof.Proof.Gen.FlashRefIdeal.Run
public import proofs.«01_k».proof.Proof.Gen.FfnUp.Frame
public import proofs.«01_k».proof.Proof.FfnUpValue
public import proofs.«01_k».proof.Proof.Gen.FfnUpRefIdeal.Run
public import proofs.«01_k».proof.Proof.Gen.FfnDown.Frame
public import proofs.«01_k».proof.Proof.FfnDownValue
public import proofs.«01_k».proof.Proof.Gen.FfnDownRefIdeal.Run
public import proofs.«01_k».proof.Proof.Gen.EvenQkv.Frame
public import proofs.«01_k».proof.Proof.EvenQkvValue
public import proofs.«01_k».proof.Proof.Gen.EvenQkvRefIdeal.Run
public import proofs.«01_k».proof.Proof.Gen.EvenRest.Frame
public import proofs.«01_k».proof.Proof.EvenRestValue
public import proofs.«01_k».proof.Proof.Gen.EvenRestRefIdeal.Run
public import proofs.«01_k».proof.Proof.Gen.MixOut.Frame
public import proofs.«01_k».proof.Proof.MixOutValue
public import proofs.«01_k».proof.Proof.Gen.MixOutRefIdeal.Run
public import proofs.«01_k».proof.Proof.Gen.EvenSmall.Frame
public import proofs.«01_k».proof.Proof.EvenSmallValue
public import proofs.«01_k».proof.Proof.Gen.EvenSmallRefIdeal.Run
public import proofs.«01_k».proof.Proof.Gen.MlaLatent.Frame
public import proofs.«01_k».proof.Proof.MlaLatentValue
public import proofs.«01_k».proof.Proof.Gen.MlaLatentRefIdeal.Run
public import proofs.«01_k».proof.Proof.Gen.MlaQuery.Frame
public import proofs.«01_k».proof.Proof.MlaQueryValue
public import proofs.«01_k».proof.Proof.Gen.MlaQueryRefIdeal.Run
public import proofs.«01_k».proof.Proof.Gen.MlaKeyVal.Frame
public import proofs.«01_k».proof.Proof.MlaKeyValValue
public import proofs.«01_k».proof.Proof.Gen.MlaKeyValRefIdeal.Run
public import proofs.«01_k».proof.Proof.Gen.GdnStep.Frame
public import proofs.«01_k».proof.Proof.GdnStepValue
public import proofs.«01_k».proof.Proof.Gen.GdnStepRefIdeal.Run
public import proofs.«01_k».proof.Proof.Gen.MlstmStep.Frame
public import proofs.«01_k».proof.Proof.MlstmStepValue
public import proofs.«01_k».proof.Proof.Gen.MlstmStepRefIdeal.Run
public import proofs.«01_k».proof.Proof.Gen.AbsorbQ.Frame
public import proofs.«01_k».proof.Proof.AbsorbQValue
public import proofs.«01_k».proof.Proof.Gen.AbsorbQRefIdeal.Run
public import proofs.«01_k».proof.Proof.Gen.AbsorbV.Frame
public import proofs.«01_k».proof.Proof.AbsorbVValue
public import proofs.«01_k».proof.Proof.Gen.AbsorbVRefIdeal.Run
public import proofs.«01_k».proof.Proof.DecodeOk
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FlashRefIdeal : quiescent_FlashRefIdeal := fun m ρ _ =>
  (θ_run Cert.FlashRefIdeal.defs _ _).mono (fun r h => ⟨fun c => (h c).2, sem_eq_zero_of_no_sems (by decide) r.2⟩)
    (Cert.FlashRefIdeal.Value.run (F := Ideal) m ρ)

theorem algebraic_FlashIdeal_FlashRefIdeal : algebraic_FlashIdeal_FlashRefIdeal_pre_all_finite := by
  intro m ρ m' ρ' hpre hagree
  refine ⟨_, Cert.FlashIdeal.Attn.run_arr (F := Ideal) m ρ, ?_⟩
  refine (θ_run Cert.FlashRefIdeal.defs _ _).mono (fun _ h c => ⟨?_, (h c).2⟩) (Cert.FlashRefIdeal.Value.run (F := Ideal) m' ρ')
  rw [(h c).1]
  obtain ⟨f0, f1, f2, f3⟩ := Cert.FlashRefIdeal.Attn.fine_of_pre (hpre c)
  obtain ⟨a0, a1, a2, a3⟩ := hagree c
  refine (Cert.FlashRefIdeal.Attn.ref_eq m' c (a0 ▸ f0) (a1 ▸ f1) (a2 ▸ f2) (a3 ▸ f3)).trans ?_
  rw [a0, a1, a2, a3]
  exact (Cert.FlashIdeal.Attn.final m c).symm

theorem quiescent_FfnUpRefIdeal : quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

theorem algebraic_FfnUpIdeal_FfnUpRefIdeal : algebraic_FfnUpIdeal_FfnUpRefIdeal := by
  intro m ρ m' ρ' _ hagree
  refine ⟨_, Cert.FfnUpIdeal.Value.run_blocks (F := Ideal) m ρ, ?_⟩
  refine (θ_run Cert.FfnUpRefIdeal.defs _ _).mono (fun _ h c => ⟨?_, (h c).2⟩) (Cert.FfnUpRefIdeal.Value.run (F := Ideal) m' ρ')
  rw [(h c).1]
  simp only [hagree c]
  exact (Cert.FfnUpIdeal.Sum.ref_eq _ _).trans (Cert.FfnUpIdeal.Sum.final m c).symm

theorem quiescent_FfnDownRefIdeal : quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem algebraic_FfnDownIdeal_FfnDownRefIdeal : algebraic_FfnDownIdeal_FfnDownRefIdeal := by
  intro m ρ m' ρ' _ hagree
  refine ⟨_, Cert.FfnDownIdeal.Value.run_blocks (F := Ideal) m ρ, ?_⟩
  refine (θ_run Cert.FfnDownRefIdeal.defs _ _).mono (fun _ h c => ⟨?_, (h c).2⟩) (Cert.FfnDownRefIdeal.Value.run (F := Ideal) m' ρ')
  rw [(h c).1]
  simp only [hagree c]
  exact (Cert.FfnDownIdeal.Sum.ref_eq _ _).trans (Cert.FfnDownIdeal.Sum.final m c).symm

theorem quiescent_EvenQkvRefIdeal : quiescent_EvenQkvRefIdeal := fun m ρ _ =>
  (θ_run Cert.EvenQkvRefIdeal.defs _ _).mono (fun r h => ⟨fun c => (h c).2, sem_eq_zero_of_no_sems (by decide) r.2⟩)
    (Cert.EvenQkvRefIdeal.Value.run (F := Ideal) m ρ)

theorem algebraic_EvenQkvIdeal_EvenQkvRefIdeal : algebraic_EvenQkvIdeal_EvenQkvRefIdeal := by
  intro m ρ m' ρ' _ hagree
  refine ⟨_, Cert.EvenQkvIdeal.Value.run_blocks (F := Ideal) m ρ, ?_⟩
  refine (θ_run Cert.EvenQkvRefIdeal.defs _ _).mono (fun _ h c => ⟨?_, (h c).2⟩) (Cert.EvenQkvRefIdeal.Value.run (F := Ideal) m' ρ')
  rw [(h c).1]
  simp only [hagree c]
  exact (Cert.EvenQkvIdeal.Sum.ref_eq _ _).trans (Cert.EvenQkvIdeal.Sum.final m c).symm

theorem quiescent_EvenRestRefIdeal : quiescent_EvenRestRefIdeal := fun m ρ _ =>
  (θ_run Cert.EvenRestRefIdeal.defs _ _).mono (fun r h => ⟨fun c => (h c).2, sem_eq_zero_of_no_sems (by decide) r.2⟩)
    (Cert.EvenRestRefIdeal.Value.run (F := Ideal) m ρ)

theorem algebraic_EvenRestIdeal_EvenRestRefIdeal : algebraic_EvenRestIdeal_EvenRestRefIdeal := by
  intro m ρ m' ρ' _ hagree
  refine ⟨_, Cert.EvenRestIdeal.Value.run_blocks (F := Ideal) m ρ, ?_⟩
  refine (θ_run Cert.EvenRestRefIdeal.defs _ _).mono (fun _ h c => ⟨?_, (h c).2⟩) (Cert.EvenRestRefIdeal.Value.run (F := Ideal) m' ρ')
  rw [(h c).1]
  obtain ⟨a0, a1⟩ := hagree c
  refine (Cert.EvenRestIdeal.Sum.ref_eq _ _).trans ?_
  rw [a0, a1]
  exact (Cert.EvenRestIdeal.Sum.final m c).symm

theorem quiescent_MixOutRefIdeal : quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

theorem algebraic_MixOutIdeal_MixOutRefIdeal : algebraic_MixOutIdeal_MixOutRefIdeal := by
  intro m ρ m' ρ' _ hagree
  refine ⟨_, Cert.MixOutIdeal.Value.run_blocks (F := Ideal) m ρ, ?_⟩
  refine (θ_run Cert.MixOutRefIdeal.defs _ _).mono (fun _ h c => ⟨?_, (h c).2⟩) (Cert.MixOutRefIdeal.Value.run (F := Ideal) m' ρ')
  rw [(h c).1]
  simp only [hagree c]
  exact (Cert.MixOutIdeal.Sum.ref_eq _ _).trans (Cert.MixOutIdeal.Sum.final m c).symm

theorem quiescent_EvenSmallRefIdeal : quiescent_EvenSmallRefIdeal := fun m ρ _ =>
  (θ_run Cert.EvenSmallRefIdeal.defs _ _).mono (fun r h => ⟨fun c => (h c).2, sem_eq_zero_of_no_sems (by decide) r.2⟩)
    (Cert.EvenSmallRefIdeal.Value.run (F := Ideal) m ρ)

theorem algebraic_EvenSmallIdeal_EvenSmallRefIdeal : algebraic_EvenSmallIdeal_EvenSmallRefIdeal := by
  intro m ρ m' ρ' _ hagree
  refine ⟨_, Cert.EvenSmallIdeal.Value.run_blocks (F := Ideal) m ρ, ?_⟩
  refine (θ_run Cert.EvenSmallRefIdeal.defs _ _).mono (fun _ h c => ⟨?_, (h c).2⟩) (Cert.EvenSmallRefIdeal.Value.run (F := Ideal) m' ρ')
  rw [(h c).1]
  obtain ⟨a0, a1⟩ := hagree c
  refine (Cert.EvenSmallIdeal.Sum.ref_eq _ _).trans ?_
  rw [a0, a1]
  exact (Cert.EvenSmallIdeal.Sum.final m c).symm

theorem quiescent_MlaLatentRefIdeal : quiescent_MlaLatentRefIdeal := fun m ρ _ =>
  (θ_run Cert.MlaLatentRefIdeal.defs _ _).mono (fun r h => ⟨fun c => (h c).2, sem_eq_zero_of_no_sems (by decide) r.2⟩)
    (Cert.MlaLatentRefIdeal.Value.run (F := Ideal) m ρ)

theorem algebraic_MlaLatentIdeal_MlaLatentRefIdeal : algebraic_MlaLatentIdeal_MlaLatentRefIdeal := by
  intro m ρ m' ρ' _ hagree
  refine ⟨_, Cert.MlaLatentIdeal.Value.run_blocks (F := Ideal) m ρ, ?_⟩
  refine (θ_run Cert.MlaLatentRefIdeal.defs _ _).mono (fun _ h c => ⟨?_, (h c).2⟩) (Cert.MlaLatentRefIdeal.Value.run (F := Ideal) m' ρ')
  rw [(h c).1]
  simp only [hagree c]
  exact (Cert.MlaLatentIdeal.Sum.ref_eq _ _).trans (Cert.MlaLatentIdeal.Sum.final m c).symm

theorem quiescent_MlaQueryRefIdeal : quiescent_MlaQueryRefIdeal := fun m ρ _ =>
  (θ_run Cert.MlaQueryRefIdeal.defs _ _).mono (fun r h => ⟨fun c => (h c).2, sem_eq_zero_of_no_sems (by decide) r.2⟩)
    (Cert.MlaQueryRefIdeal.Value.run (F := Ideal) m ρ)

theorem algebraic_MlaQueryIdeal_MlaQueryRefIdeal : algebraic_MlaQueryIdeal_MlaQueryRefIdeal := by
  intro m ρ m' ρ' _ hagree
  refine ⟨_, Cert.MlaQueryIdeal.Value.run_blocks (F := Ideal) m ρ, ?_⟩
  refine (θ_run Cert.MlaQueryRefIdeal.defs _ _).mono (fun _ h c => ⟨?_, (h c).2⟩) (Cert.MlaQueryRefIdeal.Value.run (F := Ideal) m' ρ')
  rw [(h c).1]
  obtain ⟨a0, a1⟩ := hagree c
  refine (Cert.MlaQueryIdeal.Sum.ref_eq _ _).trans ?_
  rw [a0, a1]
  exact (Cert.MlaQueryIdeal.Sum.final m c).symm

theorem quiescent_MlaKeyValRefIdeal : quiescent_MlaKeyValRefIdeal := fun m ρ _ =>
  (θ_run Cert.MlaKeyValRefIdeal.defs _ _).mono (fun r h => ⟨fun c => (h c).2, sem_eq_zero_of_no_sems (by decide) r.2⟩)
    (Cert.MlaKeyValRefIdeal.Value.run (F := Ideal) m ρ)

theorem algebraic_MlaKeyValIdeal_MlaKeyValRefIdeal : algebraic_MlaKeyValIdeal_MlaKeyValRefIdeal := by
  intro m ρ m' ρ' _ hagree
  refine ⟨_, Cert.MlaKeyValIdeal.Value.run_blocks (F := Ideal) m ρ, ?_⟩
  refine (θ_run Cert.MlaKeyValRefIdeal.defs _ _).mono (fun _ h c => ⟨?_, (h c).2⟩) (Cert.MlaKeyValRefIdeal.Value.run (F := Ideal) m' ρ')
  rw [(h c).1]
  simp only [hagree c]
  exact (Cert.MlaKeyValIdeal.Sum.ref_eq _ _).trans (Cert.MlaKeyValIdeal.Sum.final m c).symm

theorem quiescent_GdnStepRefIdeal : quiescent_GdnStepRefIdeal := fun m ρ _ =>
  (θ_run Cert.GdnStepRefIdeal.defs _ _).mono (fun r h => ⟨fun c => (h c).2.2, sem_eq_zero_of_no_sems (by decide) r.2⟩)
    (Cert.GdnStepRefIdeal.Value.run (F := Ideal) m ρ)

theorem algebraic_GdnStepIdeal_GdnStepRefIdeal : algebraic_GdnStepIdeal_GdnStepRefIdeal := by
  intro m ρ m' ρ' _ hagree
  refine ⟨_, _, Cert.GdnStepIdeal.Value.run_blocks (F := Ideal) m ρ, ?_⟩
  refine (θ_run Cert.GdnStepRefIdeal.defs _ _).mono (fun _ h c => ⟨?_, ?_, (h c).2.2⟩) (Cert.GdnStepRefIdeal.Value.run (F := Ideal) m' ρ')
  all_goals obtain ⟨a0, a1, a2, a3, a4, a5⟩ := hagree c
  · refine (h c).1.trans ((Cert.GdnStepIdeal.Rule.ref_out _ _ _ _ _ _).trans ?_)
    rw [a0, a1, a2, a3, a4, a5]
    exact (Cert.GdnStepIdeal.Rule.final_out m c).symm
  · refine (h c).2.1.trans ((Cert.GdnStepIdeal.Rule.ref_state _ _ _ _ _).trans ?_)
    rw [a1, a2, a3, a4, a5]
    exact (Cert.GdnStepIdeal.Rule.final_state m c).symm

theorem quiescent_MlstmStepRefIdeal : quiescent_MlstmStepRefIdeal := fun m ρ _ =>
  (θ_run Cert.MlstmStepRefIdeal.defs _ _).mono (fun r h => ⟨fun c => (h c).2.2.2.2, sem_eq_zero_of_no_sems (by decide) r.2⟩)
    (Cert.MlstmStepRefIdeal.Value.run (F := Ideal) m ρ)

theorem algebraic_MlstmStepIdeal_MlstmStepRefIdeal : algebraic_MlstmStepIdeal_MlstmStepRefIdeal := by
  intro m ρ m' ρ' _ hagree
  refine ⟨_, _, _, _, Cert.MlstmStepIdeal.Value.run_blocks (F := Ideal) m ρ, ?_⟩
  refine (θ_run Cert.MlstmStepRefIdeal.defs _ _).mono (fun _ h c => ⟨?_, ?_, ?_, ?_, (h c).2.2.2.2⟩) (Cert.MlstmStepRefIdeal.Value.run (F := Ideal) m' ρ')
  all_goals obtain ⟨a0, a1, a2, a3, a4, a5, a6, a7⟩ := hagree c
  · refine (h c).1.trans ((Cert.MlstmStepIdeal.Cell.ref_hid _ _ _ _ _ _ _ _).trans ?_)
    rw [a0, a1, a2, a3, a4, a5, a6, a7]
    exact (Cert.MlstmStepIdeal.Cell.final_hid m c).symm
  · refine (h c).2.1.trans ((Cert.MlstmStepIdeal.Cell.ref_mem _ _ _ _ _ _).trans ?_)
    rw [a1, a2, a3, a4, a5, a6]
    exact (Cert.MlstmStepIdeal.Cell.final_mem m c).symm
  · refine (h c).2.2.1.trans ((Cert.MlstmStepIdeal.Cell.ref_norm _ _ _ _ _).trans ?_)
    rw [a1, a3, a4, a5, a7]
    exact (Cert.MlstmStepIdeal.Cell.final_norm m c).symm
  · refine (h c).2.2.2.1.trans ((Cert.MlstmStepIdeal.Cell.ref_peak _ _ _).trans ?_)
    rw [a3, a4, a5]
    exact (Cert.MlstmStepIdeal.Cell.final_peak m c).symm

theorem quiescent_AbsorbQRefIdeal : quiescent_AbsorbQRefIdeal := fun m ρ _ =>
  (θ_run Cert.AbsorbQRefIdeal.defs _ _).mono (fun r h => ⟨fun c => (h c).2, sem_eq_zero_of_no_sems (by decide) r.2⟩)
    (Cert.AbsorbQRefIdeal.Value.run (F := Ideal) m ρ)

theorem algebraic_AbsorbQIdeal_AbsorbQRefIdeal : algebraic_AbsorbQIdeal_AbsorbQRefIdeal := by
  intro m ρ m' ρ' _ hagree
  refine ⟨_, Cert.AbsorbQIdeal.Value.run_blocks (F := Ideal) m ρ, ?_⟩
  refine (θ_run Cert.AbsorbQRefIdeal.defs _ _).mono (fun _ h c => ⟨?_, (h c).2⟩) (Cert.AbsorbQRefIdeal.Value.run (F := Ideal) m' ρ')
  rw [(h c).1]
  obtain ⟨a0, a1⟩ := hagree c
  refine (Cert.AbsorbQIdeal.Sum.ref_eq _ _).trans ?_
  rw [a0, a1]
  exact (Cert.AbsorbQIdeal.Sum.final m c).symm

theorem quiescent_AbsorbVRefIdeal : quiescent_AbsorbVRefIdeal := fun m ρ _ =>
  (θ_run Cert.AbsorbVRefIdeal.defs _ _).mono (fun r h => ⟨fun c => (h c).2, sem_eq_zero_of_no_sems (by decide) r.2⟩)
    (Cert.AbsorbVRefIdeal.Value.run (F := Ideal) m ρ)

theorem algebraic_AbsorbVIdeal_AbsorbVRefIdeal : algebraic_AbsorbVIdeal_AbsorbVRefIdeal := by
  intro m ρ m' ρ' _ hagree
  refine ⟨_, Cert.AbsorbVIdeal.Value.run_blocks (F := Ideal) m ρ, ?_⟩
  refine (θ_run Cert.AbsorbVRefIdeal.defs _ _).mono (fun _ h c => ⟨?_, (h c).2⟩) (Cert.AbsorbVRefIdeal.Value.run (F := Ideal) m' ρ')
  rw [(h c).1]
  obtain ⟨a0, a1⟩ := hagree c
  refine (Cert.AbsorbVIdeal.Sum.ref_eq _ _).trans ?_
  rw [a0, a1]
  exact (Cert.AbsorbVIdeal.Sum.final m c).symm

theorem claim : Cert.Claim := ⟨Cert.Flash.Gen.facts, Cert.FlashIdeal.Gen.facts, Cert.FlashRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.EvenQkv.Gen.facts, Cert.EvenQkvIdeal.Gen.facts, Cert.EvenQkvRefIdeal.Gen.facts,
  Cert.EvenRest.Gen.facts, Cert.EvenRestIdeal.Gen.facts, Cert.EvenRestRefIdeal.Gen.facts,
  Cert.MixOut.Gen.facts, Cert.MixOutIdeal.Gen.facts, Cert.MixOutRefIdeal.Gen.facts,
  Cert.EvenSmall.Gen.facts, Cert.EvenSmallIdeal.Gen.facts, Cert.EvenSmallRefIdeal.Gen.facts,
  Cert.MlaLatent.Gen.facts, Cert.MlaLatentIdeal.Gen.facts, Cert.MlaLatentRefIdeal.Gen.facts,
  Cert.MlaQuery.Gen.facts, Cert.MlaQueryIdeal.Gen.facts, Cert.MlaQueryRefIdeal.Gen.facts,
  Cert.MlaKeyVal.Gen.facts, Cert.MlaKeyValIdeal.Gen.facts, Cert.MlaKeyValRefIdeal.Gen.facts,
  Cert.GdnStep.Gen.facts, Cert.GdnStepIdeal.Gen.facts, Cert.GdnStepRefIdeal.Gen.facts,
  Cert.MlstmStep.Gen.facts, Cert.MlstmStepIdeal.Gen.facts, Cert.MlstmStepRefIdeal.Gen.facts,
  Cert.AbsorbQ.Gen.facts, Cert.AbsorbQIdeal.Gen.facts, Cert.AbsorbQRefIdeal.Gen.facts,
  Cert.AbsorbV.Gen.facts, Cert.AbsorbVIdeal.Gen.facts, Cert.AbsorbVRefIdeal.Gen.facts,
  Cert.Decode.Gen.facts, Cert.DecodeIdeal.Gen.facts,
  Cert.Pre_all_finite.Gen.facts, Cert.Pre_pages_named.Gen.facts,
  fun m ρ _ => Cert.Flash.Gen.frame m ρ, fun m ρ _ => Cert.FlashIdeal.Gen.frame m ρ, fun m ρ _ => Cert.FlashIdeal.Gen.frame m ρ,
  quiescent_FlashRefIdeal, fun m ρ _ => quiescent_FlashRefIdeal m ρ trivial,
  fun m ρ _ => Cert.FfnUp.Gen.frame m ρ, fun m ρ _ => Cert.FfnUpIdeal.Gen.frame m ρ, quiescent_FfnUpRefIdeal,
  fun m ρ _ => Cert.FfnDown.Gen.frame m ρ, fun m ρ _ => Cert.FfnDownIdeal.Gen.frame m ρ, quiescent_FfnDownRefIdeal,
  fun m ρ _ => Cert.EvenQkv.Gen.frame m ρ, fun m ρ _ => Cert.EvenQkvIdeal.Gen.frame m ρ, quiescent_EvenQkvRefIdeal,
  fun m ρ _ => Cert.EvenRest.Gen.frame m ρ, fun m ρ _ => Cert.EvenRestIdeal.Gen.frame m ρ, quiescent_EvenRestRefIdeal,
  fun m ρ _ => Cert.MixOut.Gen.frame m ρ, fun m ρ _ => Cert.MixOutIdeal.Gen.frame m ρ, quiescent_MixOutRefIdeal,
  fun m ρ _ => Cert.EvenSmall.Gen.frame m ρ, fun m ρ _ => Cert.EvenSmallIdeal.Gen.frame m ρ, quiescent_EvenSmallRefIdeal,
  fun m ρ _ => Cert.MlaLatent.Gen.frame m ρ, fun m ρ _ => Cert.MlaLatentIdeal.Gen.frame m ρ, quiescent_MlaLatentRefIdeal,
  fun m ρ _ => Cert.MlaQuery.Gen.frame m ρ, fun m ρ _ => Cert.MlaQueryIdeal.Gen.frame m ρ, quiescent_MlaQueryRefIdeal,
  fun m ρ _ => Cert.MlaKeyVal.Gen.frame m ρ, fun m ρ _ => Cert.MlaKeyValIdeal.Gen.frame m ρ, quiescent_MlaKeyValRefIdeal,
  fun m ρ _ => Cert.GdnStep.Gen.frame m ρ, fun m ρ _ => Cert.GdnStepIdeal.Gen.frame m ρ, quiescent_GdnStepRefIdeal,
  fun m ρ _ => Cert.MlstmStep.Gen.frame m ρ, fun m ρ _ => Cert.MlstmStepIdeal.Gen.frame m ρ, quiescent_MlstmStepRefIdeal,
  fun m ρ _ => Cert.AbsorbQ.Gen.frame m ρ, fun m ρ _ => Cert.AbsorbQIdeal.Gen.frame m ρ, quiescent_AbsorbQRefIdeal,
  fun m ρ _ => Cert.AbsorbV.Gen.frame m ρ, fun m ρ _ => Cert.AbsorbVIdeal.Gen.frame m ρ, quiescent_AbsorbVRefIdeal,
  fun m ρ h => Cert.Decode.Gen.frame m ρ (Cert.Decode.Pages.ok_of_pre m h),
  fun m ρ h => Cert.DecodeIdeal.Gen.frame m ρ (Cert.DecodeIdeal.Pages.ok_of_pre m h),
  (trivial : preserves_Flash_FlashIdeal), algebraic_FlashIdeal_FlashRefIdeal,
  (trivial : preserves_FfnUp_FfnUpIdeal), algebraic_FfnUpIdeal_FfnUpRefIdeal,
  (trivial : preserves_FfnDown_FfnDownIdeal), algebraic_FfnDownIdeal_FfnDownRefIdeal,
  (trivial : preserves_EvenQkv_EvenQkvIdeal), algebraic_EvenQkvIdeal_EvenQkvRefIdeal,
  (trivial : preserves_EvenRest_EvenRestIdeal), algebraic_EvenRestIdeal_EvenRestRefIdeal,
  (trivial : preserves_MixOut_MixOutIdeal), algebraic_MixOutIdeal_MixOutRefIdeal,
  (trivial : preserves_EvenSmall_EvenSmallIdeal), algebraic_EvenSmallIdeal_EvenSmallRefIdeal,
  (trivial : preserves_MlaLatent_MlaLatentIdeal), algebraic_MlaLatentIdeal_MlaLatentRefIdeal,
  (trivial : preserves_MlaQuery_MlaQueryIdeal), algebraic_MlaQueryIdeal_MlaQueryRefIdeal,
  (trivial : preserves_MlaKeyVal_MlaKeyValIdeal), algebraic_MlaKeyValIdeal_MlaKeyValRefIdeal,
  (trivial : preserves_GdnStep_GdnStepIdeal), algebraic_GdnStepIdeal_GdnStepRefIdeal,
  (trivial : preserves_MlstmStep_MlstmStepIdeal), algebraic_MlstmStepIdeal_MlstmStepRefIdeal,
  (trivial : preserves_AbsorbQ_AbsorbQIdeal), algebraic_AbsorbQIdeal_AbsorbQRefIdeal,
  (trivial : preserves_AbsorbV_AbsorbVIdeal), algebraic_AbsorbVIdeal_AbsorbVRefIdeal,
  (trivial : preserves_Decode_DecodeIdeal)⟩

end Cert.Proof

end
